-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Dqkv (m : (ℓ : Loc Cert.Dqkv.nD Cert.Dqkv.τ Cert.Dqkv.sig) → Buf (Elt Bits) ℓ) : Prop :=
  True

def Pre_DqkvIdeal (m : (ℓ : Loc Cert.DqkvIdeal.nD Cert.DqkvIdeal.τ Cert.DqkvIdeal.sig) → Buf (Elt Ideal) ℓ) : Prop :=
  True

def Pre_DqkvRefIdeal (m : (ℓ : Loc Cert.DqkvRefIdeal.nD Cert.DqkvRefIdeal.τ Cert.DqkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Dqkv [hDqkv : Cert.Dqkv.Facts] : Prop :=
  ∀ (m : (ℓ : Loc Cert.Dqkv.nD Cert.Dqkv.τ Cert.Dqkv.sig) → Buf (Elt Bits) ℓ) (g : Dev Cert.Dqkv.nD → PrngReg), Pre_Dqkv m →
    θ_run (Cert.Dqkv.defs (F := Bits)) (onTc (τ := Cert.Dqkv.τ) (Cert.Dqkv.main (F := Bits))) ⟨m, fun _ => 0, g⟩ (fun r => (∀ c : Dev Cert.Dqkv.nD,
      r.2.mem ((c.tc : Thread Cert.Dqkv.nD Cert.Dqkv.τ).loc Cert.Dqkv.main_arg0) = m ((c.tc : Thread Cert.Dqkv.nD Cert.Dqkv.τ).loc Cert.Dqkv.main_arg0)
      ∧ r.2.mem ((c.tc : Thread Cert.Dqkv.nD Cert.Dqkv.τ).loc Cert.Dqkv.main_arg1) = m ((c.tc : Thread Cert.Dqkv.nD Cert.Dqkv.τ).loc Cert.Dqkv.main_arg1)
      ∧ r.2.mem ((c.tc : Thread Cert.Dqkv.nD Cert.Dqkv.τ).loc Cert.Dqkv.main_arg2) = m ((c.tc : Thread Cert.Dqkv.nD Cert.Dqkv.τ).loc Cert.Dqkv.main_arg2)
      ∧ r.2.mem ((c.tc : Thread Cert.Dqkv.nD Cert.Dqkv.τ).loc Cert.Dqkv.main_arg3) = m ((c.tc : Thread Cert.Dqkv.nD Cert.Dqkv.τ).loc Cert.Dqkv.main_arg3)
      ∧ r.2.mem ((c.tc : Thread Cert.Dqkv.nD Cert.Dqkv.τ).loc Cert.Dqkv.main_arg4) = m ((c.tc : Thread Cert.Dqkv.nD Cert.Dqkv.τ).loc Cert.Dqkv.main_arg4))
      ∧ r.2.sem = fun _ => 0)

def quiescent_DqkvIdeal [hDqkvIdeal : Cert.DqkvIdeal.Facts] : Prop :=
  ∀ (m : (ℓ : Loc Cert.DqkvIdeal.nD Cert.DqkvIdeal.τ Cert.DqkvIdeal.sig) → Buf (Elt Ideal) ℓ) (g : Dev Cert.DqkvIdeal.nD → PrngReg), Pre_DqkvIdeal m →
    θ_run (Cert.DqkvIdeal.defs (F := Ideal)) (onTc (τ := Cert.DqkvIdeal.τ) (Cert.DqkvIdeal.main (F := Ideal))) ⟨m, fun _ => 0, g⟩ (fun r => (∀ c : Dev Cert.DqkvIdeal.nD,
      r.2.mem ((c.tc : Thread Cert.DqkvIdeal.nD Cert.DqkvIdeal.τ).loc Cert.DqkvIdeal.main_arg0) = m ((c.tc : Thread Cert.DqkvIdeal.nD Cert.DqkvIdeal.τ).loc Cert.DqkvIdeal.main_arg0)
      ∧ r.2.mem ((c.tc : Thread Cert.DqkvIdeal.nD Cert.DqkvIdeal.τ).loc Cert.DqkvIdeal.main_arg1) = m ((c.tc : Thread Cert.DqkvIdeal.nD Cert.DqkvIdeal.τ).loc Cert.DqkvIdeal.main_arg1)
      ∧ r.2.mem ((c.tc : Thread Cert.DqkvIdeal.nD Cert.DqkvIdeal.τ).loc Cert.DqkvIdeal.main_arg2) = m ((c.tc : Thread Cert.DqkvIdeal.nD Cert.DqkvIdeal.τ).loc Cert.DqkvIdeal.main_arg2)
      ∧ r.2.mem ((c.tc : Thread Cert.DqkvIdeal.nD Cert.DqkvIdeal.τ).loc Cert.DqkvIdeal.main_arg3) = m ((c.tc : Thread Cert.DqkvIdeal.nD Cert.DqkvIdeal.τ).loc Cert.DqkvIdeal.main_arg3)
      ∧ r.2.mem ((c.tc : Thread Cert.DqkvIdeal.nD Cert.DqkvIdeal.τ).loc Cert.DqkvIdeal.main_arg4) = m ((c.tc : Thread Cert.DqkvIdeal.nD Cert.DqkvIdeal.τ).loc Cert.DqkvIdeal.main_arg4))
      ∧ r.2.sem = fun _ => 0)

def quiescent_DqkvRefIdeal [hDqkvRefIdeal : Cert.DqkvRefIdeal.Facts] : Prop :=
  ∀ (m : (ℓ : Loc Cert.DqkvRefIdeal.nD Cert.DqkvRefIdeal.τ Cert.DqkvRefIdeal.sig) → Buf (Elt Ideal) ℓ) (g : Dev Cert.DqkvRefIdeal.nD → PrngReg), Pre_DqkvRefIdeal m →
    θ_run (Cert.DqkvRefIdeal.defs (F := Ideal)) (onTc (τ := Cert.DqkvRefIdeal.τ) (Cert.DqkvRefIdeal.main (F := Ideal))) ⟨m, fun _ => 0, g⟩ (fun r => (∀ c : Dev Cert.DqkvRefIdeal.nD,
      r.2.mem ((c.tc : Thread Cert.DqkvRefIdeal.nD Cert.DqkvRefIdeal.τ).loc Cert.DqkvRefIdeal.main_arg0) = m ((c.tc : Thread Cert.DqkvRefIdeal.nD Cert.DqkvRefIdeal.τ).loc Cert.DqkvRefIdeal.main_arg0)
      ∧ r.2.mem ((c.tc : Thread Cert.DqkvRefIdeal.nD Cert.DqkvRefIdeal.τ).loc Cert.DqkvRefIdeal.main_arg1) = m ((c.tc : Thread Cert.DqkvRefIdeal.nD Cert.DqkvRefIdeal.τ).loc Cert.DqkvRefIdeal.main_arg1)
      ∧ r.2.mem ((c.tc : Thread Cert.DqkvRefIdeal.nD Cert.DqkvRefIdeal.τ).loc Cert.DqkvRefIdeal.main_arg2) = m ((c.tc : Thread Cert.DqkvRefIdeal.nD Cert.DqkvRefIdeal.τ).loc Cert.DqkvRefIdeal.main_arg2)
      ∧ r.2.mem ((c.tc : Thread Cert.DqkvRefIdeal.nD Cert.DqkvRefIdeal.τ).loc Cert.DqkvRefIdeal.main_arg3) = m ((c.tc : Thread Cert.DqkvRefIdeal.nD Cert.DqkvRefIdeal.τ).loc Cert.DqkvRefIdeal.main_arg3)
      ∧ r.2.mem ((c.tc : Thread Cert.DqkvRefIdeal.nD Cert.DqkvRefIdeal.τ).loc Cert.DqkvRefIdeal.main_arg4) = m ((c.tc : Thread Cert.DqkvRefIdeal.nD Cert.DqkvRefIdeal.τ).loc Cert.DqkvRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v51) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_v47) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Dqkv_DqkvIdeal : Prop :=
  True

def algebraic_DqkvIdeal_DqkvRefIdeal [hDqkvIdeal : Cert.DqkvIdeal.Facts] [hDqkvRefIdeal : Cert.DqkvRefIdeal.Facts] : Prop :=
  ∀ (m : (ℓ : Loc Cert.DqkvIdeal.nD Cert.DqkvIdeal.τ Cert.DqkvIdeal.sig) → Buf (Elt Ideal) ℓ) (g : Dev Cert.DqkvIdeal.nD → PrngReg)
    (m' : (ℓ : Loc Cert.DqkvRefIdeal.nD Cert.DqkvRefIdeal.τ Cert.DqkvRefIdeal.sig) → Buf (Elt Ideal) ℓ) (g' : Dev Cert.DqkvRefIdeal.nD → PrngReg), Pre_DqkvIdeal m →
    (∀ c : Dev Cert.DqkvIdeal.nD,
      m' ((c.tc : Thread Cert.DqkvRefIdeal.nD Cert.DqkvRefIdeal.τ).loc Cert.DqkvRefIdeal.main_arg0) = m ((c.tc : Thread Cert.DqkvIdeal.nD Cert.DqkvIdeal.τ).loc Cert.DqkvIdeal.main_arg0)
      ∧ m' ((c.tc : Thread Cert.DqkvRefIdeal.nD Cert.DqkvRefIdeal.τ).loc Cert.DqkvRefIdeal.main_arg1) = m ((c.tc : Thread Cert.DqkvIdeal.nD Cert.DqkvIdeal.τ).loc Cert.DqkvIdeal.main_arg1)
      ∧ m' ((c.tc : Thread Cert.DqkvRefIdeal.nD Cert.DqkvRefIdeal.τ).loc Cert.DqkvRefIdeal.main_arg2) = m ((c.tc : Thread Cert.DqkvIdeal.nD Cert.DqkvIdeal.τ).loc Cert.DqkvIdeal.main_arg2)
      ∧ m' ((c.tc : Thread Cert.DqkvRefIdeal.nD Cert.DqkvRefIdeal.τ).loc Cert.DqkvRefIdeal.main_arg3) = m ((c.tc : Thread Cert.DqkvIdeal.nD Cert.DqkvIdeal.τ).loc Cert.DqkvIdeal.main_arg3)
      ∧ m' ((c.tc : Thread Cert.DqkvRefIdeal.nD Cert.DqkvRefIdeal.τ).loc Cert.DqkvRefIdeal.main_arg4) = m ((c.tc : Thread Cert.DqkvIdeal.nD Cert.DqkvIdeal.τ).loc Cert.DqkvIdeal.main_arg4)) →
    ∃ (v0 : (c : Dev Cert.DqkvIdeal.nD) → Buf (Elt Ideal) ((c.tc : Thread Cert.DqkvIdeal.nD Cert.DqkvIdeal.τ).loc Cert.DqkvIdeal.main_v71_0)) (v1 : (c : Dev Cert.DqkvIdeal.nD) → Buf (Elt Ideal) ((c.tc : Thread Cert.DqkvIdeal.nD Cert.DqkvIdeal.τ).loc Cert.DqkvIdeal.main_v71_1)) (v2 : (c : Dev Cert.DqkvIdeal.nD) → Buf (Elt Ideal) ((c.tc : Thread Cert.DqkvIdeal.nD Cert.DqkvIdeal.τ).loc Cert.DqkvIdeal.main_v71_2)) (v3 : (c : Dev Cert.DqkvIdeal.nD) → Buf (Elt Ideal) ((c.tc : Thread Cert.DqkvIdeal.nD Cert.DqkvIdeal.τ).loc Cert.DqkvIdeal.main_v71_3)) (v4 : (c : Dev Cert.DqkvIdeal.nD) → Buf (Elt Ideal) ((c.tc : Thread Cert.DqkvIdeal.nD Cert.DqkvIdeal.τ).loc Cert.DqkvIdeal.main_v71_4)),
      θ_run (Cert.DqkvIdeal.defs (F := Ideal)) (onTc (τ := Cert.DqkvIdeal.τ) (Cert.DqkvIdeal.main (F := Ideal))) ⟨m, fun _ => 0, g⟩ (fun r => ∀ c : Dev Cert.DqkvIdeal.nD,
          r.2.mem ((c.tc : Thread Cert.DqkvIdeal.nD Cert.DqkvIdeal.τ).loc Cert.DqkvIdeal.main_v71_0) = v0 c
          ∧ r.2.mem ((c.tc : Thread Cert.DqkvIdeal.nD Cert.DqkvIdeal.τ).loc Cert.DqkvIdeal.main_v71_1) = v1 c
          ∧ r.2.mem ((c.tc : Thread Cert.DqkvIdeal.nD Cert.DqkvIdeal.τ).loc Cert.DqkvIdeal.main_v71_2) = v2 c
          ∧ r.2.mem ((c.tc : Thread Cert.DqkvIdeal.nD Cert.DqkvIdeal.τ).loc Cert.DqkvIdeal.main_v71_3) = v3 c
          ∧ r.2.mem ((c.tc : Thread Cert.DqkvIdeal.nD Cert.DqkvIdeal.τ).loc Cert.DqkvIdeal.main_v71_4) = v4 c
          ∧ r.2.mem ((c.tc : Thread Cert.DqkvIdeal.nD Cert.DqkvIdeal.τ).loc Cert.DqkvIdeal.main_arg0) = m ((c.tc : Thread Cert.DqkvIdeal.nD Cert.DqkvIdeal.τ).loc Cert.DqkvIdeal.main_arg0)
          ∧ r.2.mem ((c.tc : Thread Cert.DqkvIdeal.nD Cert.DqkvIdeal.τ).loc Cert.DqkvIdeal.main_arg1) = m ((c.tc : Thread Cert.DqkvIdeal.nD Cert.DqkvIdeal.τ).loc Cert.DqkvIdeal.main_arg1)
          ∧ r.2.mem ((c.tc : Thread Cert.DqkvIdeal.nD Cert.DqkvIdeal.τ).loc Cert.DqkvIdeal.main_arg2) = m ((c.tc : Thread Cert.DqkvIdeal.nD Cert.DqkvIdeal.τ).loc Cert.DqkvIdeal.main_arg2)
          ∧ r.2.mem ((c.tc : Thread Cert.DqkvIdeal.nD Cert.DqkvIdeal.τ).loc Cert.DqkvIdeal.main_arg3) = m ((c.tc : Thread Cert.DqkvIdeal.nD Cert.DqkvIdeal.τ).loc Cert.DqkvIdeal.main_arg3)
          ∧ r.2.mem ((c.tc : Thread Cert.DqkvIdeal.nD Cert.DqkvIdeal.τ).loc Cert.DqkvIdeal.main_arg4) = m ((c.tc : Thread Cert.DqkvIdeal.nD Cert.DqkvIdeal.τ).loc Cert.DqkvIdeal.main_arg4))
      ∧ θ_run (Cert.DqkvRefIdeal.defs (F := Ideal)) (onTc (τ := Cert.DqkvRefIdeal.τ) (Cert.DqkvRefIdeal.main (F := Ideal))) ⟨m', fun _ => 0, g'⟩ (fun r => ∀ c : Dev Cert.DqkvRefIdeal.nD,
          r.2.mem ((c.tc : Thread Cert.DqkvRefIdeal.nD Cert.DqkvRefIdeal.τ).loc Cert.DqkvRefIdeal.main_v110) = v0 c
          ∧ r.2.mem ((c.tc : Thread Cert.DqkvRefIdeal.nD Cert.DqkvRefIdeal.τ).loc Cert.DqkvRefIdeal.main_v109) = v1 c
          ∧ r.2.mem ((c.tc : Thread Cert.DqkvRefIdeal.nD Cert.DqkvRefIdeal.τ).loc Cert.DqkvRefIdeal.main_v111) = v2 c
          ∧ r.2.mem ((c.tc : Thread Cert.DqkvRefIdeal.nD Cert.DqkvRefIdeal.τ).loc Cert.DqkvRefIdeal.main_v17) = v3 c
          ∧ r.2.mem ((c.tc : Thread Cert.DqkvRefIdeal.nD Cert.DqkvRefIdeal.τ).loc Cert.DqkvRefIdeal.main_v112) = v4 c
          ∧ r.2.mem ((c.tc : Thread Cert.DqkvRefIdeal.nD Cert.DqkvRefIdeal.τ).loc Cert.DqkvRefIdeal.main_arg0) = m' ((c.tc : Thread Cert.DqkvRefIdeal.nD Cert.DqkvRefIdeal.τ).loc Cert.DqkvRefIdeal.main_arg0)
          ∧ r.2.mem ((c.tc : Thread Cert.DqkvRefIdeal.nD Cert.DqkvRefIdeal.τ).loc Cert.DqkvRefIdeal.main_arg1) = m' ((c.tc : Thread Cert.DqkvRefIdeal.nD Cert.DqkvRefIdeal.τ).loc Cert.DqkvRefIdeal.main_arg1)
          ∧ r.2.mem ((c.tc : Thread Cert.DqkvRefIdeal.nD Cert.DqkvRefIdeal.τ).loc Cert.DqkvRefIdeal.main_arg2) = m' ((c.tc : Thread Cert.DqkvRefIdeal.nD Cert.DqkvRefIdeal.τ).loc Cert.DqkvRefIdeal.main_arg2)
          ∧ r.2.mem ((c.tc : Thread Cert.DqkvRefIdeal.nD Cert.DqkvRefIdeal.τ).loc Cert.DqkvRefIdeal.main_arg3) = m' ((c.tc : Thread Cert.DqkvRefIdeal.nD Cert.DqkvRefIdeal.τ).loc Cert.DqkvRefIdeal.main_arg3)
          ∧ r.2.mem ((c.tc : Thread Cert.DqkvRefIdeal.nD Cert.DqkvRefIdeal.τ).loc Cert.DqkvRefIdeal.main_arg4) = m' ((c.tc : Thread Cert.DqkvRefIdeal.nD Cert.DqkvRefIdeal.τ).loc Cert.DqkvRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v46) = v0 c
          ∧ r.2.mem ((c.tc : Thread Cert.MixRefIdeal.nD Cert.MixRefIdeal.τ).loc Cert.MixRefIdeal.main_v49) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Fox_FoxIdeal : Prop :=
  True

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)
      ∧ m' ((c.tc : Thread Cert.FoxRefIdeal.nD Cert.FoxRefIdeal.τ).loc Cert.FoxRefIdeal.main_arg5) = m ((c.tc : Thread Cert.FoxIdeal.nD Cert.FoxIdeal.τ).loc Cert.FoxIdeal.main_arg5)) →
    ∃ (v0 : (c : Dev Cert.FoxIdeal.nD) → Buf (Elt Ideal) ((c.tc : Thread Cert.FoxIdeal.nD Cert.FoxIdeal.τ).loc Cert.FoxIdeal.main_v28_0)) (v1 : (c : Dev Cert.FoxIdeal.nD) → Buf (Elt Ideal) ((c.tc : Thread Cert.FoxIdeal.nD Cert.FoxIdeal.τ).loc Cert.FoxIdeal.main_v28_1)) (v2 : (c : Dev Cert.FoxIdeal.nD) → Buf (Elt Ideal) ((c.tc : Thread Cert.FoxIdeal.nD Cert.FoxIdeal.τ).loc Cert.FoxIdeal.main_v28_2)) (v3 : (c : Dev Cert.FoxIdeal.nD) → Buf (Elt Ideal) ((c.tc : Thread Cert.FoxIdeal.nD Cert.FoxIdeal.τ).loc Cert.FoxIdeal.main_v28_3)) (v4 : (c : Dev Cert.FoxIdeal.nD) → Buf (Elt Ideal) ((c.tc : Thread Cert.FoxIdeal.nD Cert.FoxIdeal.τ).loc Cert.FoxIdeal.main_v28_4)) (v5 : (c : Dev Cert.FoxIdeal.nD) → Buf (Elt Ideal) ((c.tc : Thread Cert.FoxIdeal.nD Cert.FoxIdeal.τ).loc Cert.FoxIdeal.main_v28_5)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v28_0) = v0 c
          ∧ r.2.mem ((c.tc : Thread Cert.FoxIdeal.nD Cert.FoxIdeal.τ).loc Cert.FoxIdeal.main_v28_1) = v1 c
          ∧ r.2.mem ((c.tc : Thread Cert.FoxIdeal.nD Cert.FoxIdeal.τ).loc Cert.FoxIdeal.main_v28_2) = v2 c
          ∧ r.2.mem ((c.tc : Thread Cert.FoxIdeal.nD Cert.FoxIdeal.τ).loc Cert.FoxIdeal.main_v28_3) = v3 c
          ∧ r.2.mem ((c.tc : Thread Cert.FoxIdeal.nD Cert.FoxIdeal.τ).loc Cert.FoxIdeal.main_v28_4) = v4 c
          ∧ r.2.mem ((c.tc : Thread Cert.FoxIdeal.nD Cert.FoxIdeal.τ).loc Cert.FoxIdeal.main_v28_5) = v5 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v55) = v0 c
          ∧ r.2.mem ((c.tc : Thread Cert.FoxRefIdeal.nD Cert.FoxRefIdeal.τ).loc Cert.FoxRefIdeal.main_v47) = v1 c
          ∧ r.2.mem ((c.tc : Thread Cert.FoxRefIdeal.nD Cert.FoxRefIdeal.τ).loc Cert.FoxRefIdeal.main_v56) = v2 c
          ∧ r.2.mem ((c.tc : Thread Cert.FoxRefIdeal.nD Cert.FoxRefIdeal.τ).loc Cert.FoxRefIdeal.main_v48) = v3 c
          ∧ r.2.mem ((c.tc : Thread Cert.FoxRefIdeal.nD Cert.FoxRefIdeal.τ).loc Cert.FoxRefIdeal.main_v57) = v4 c
          ∧ r.2.mem ((c.tc : Thread Cert.FoxRefIdeal.nD Cert.FoxRefIdeal.τ).loc Cert.FoxRefIdeal.main_v54) = v5 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4)
          ∧ r.2.mem ((c.tc : Thread Cert.FoxRefIdeal.nD Cert.FoxRefIdeal.τ).loc Cert.FoxRefIdeal.main_arg5) = m' ((c.tc : Thread Cert.FoxRefIdeal.nD Cert.FoxRefIdeal.τ).loc Cert.FoxRefIdeal.main_arg5))

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hDqkv : Cert.Dqkv.Facts) (hDqkvIdeal : Cert.DqkvIdeal.Facts) (hDqkvRefIdeal : Cert.DqkvRefIdeal.Facts) (hMix : Cert.Mix.Facts) (hMixIdeal : Cert.MixIdeal.Facts) (hMixRefIdeal : Cert.MixRefIdeal.Facts) (hFox : Cert.Fox.Facts) (hFoxIdeal : Cert.FoxIdeal.Facts) (hFoxRefIdeal : Cert.FoxRefIdeal.Facts),
    quiescent_Sgu (hSgu := hSgu)
    ∧ quiescent_SguIdeal (hSguIdeal := hSguIdeal)
    ∧ quiescent_SguRefIdeal (hSguRefIdeal := hSguRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Dqkv (hDqkv := hDqkv)
    ∧ quiescent_DqkvIdeal (hDqkvIdeal := hDqkvIdeal)
    ∧ quiescent_DqkvRefIdeal (hDqkvRefIdeal := hDqkvRefIdeal)
    ∧ quiescent_Mix (hMix := hMix)
    ∧ quiescent_MixIdeal (hMixIdeal := hMixIdeal)
    ∧ quiescent_MixRefIdeal (hMixRefIdeal := hMixRefIdeal)
    ∧ quiescent_Fox (hFox := hFox)
    ∧ quiescent_FoxIdeal (hFoxIdeal := hFoxIdeal)
    ∧ quiescent_FoxRefIdeal (hFoxRefIdeal := hFoxRefIdeal)
    ∧ preserves_Sgu_SguIdeal
    ∧ algebraic_SguIdeal_SguRefIdeal (hSguIdeal := hSguIdeal) (hSguRefIdeal := hSguRefIdeal)
    ∧ preserves_Ffn_FfnIdeal
    ∧ algebraic_FfnIdeal_FfnRefIdeal (hFfnIdeal := hFfnIdeal) (hFfnRefIdeal := hFfnRefIdeal)
    ∧ preserves_Dqkv_DqkvIdeal
    ∧ algebraic_DqkvIdeal_DqkvRefIdeal (hDqkvIdeal := hDqkvIdeal) (hDqkvRefIdeal := hDqkvRefIdeal)
    ∧ preserves_Mix_MixIdeal
    ∧ algebraic_MixIdeal_MixRefIdeal (hMixIdeal := hMixIdeal) (hMixRefIdeal := hMixRefIdeal)
    ∧ preserves_Fox_FoxIdeal
    ∧ algebraic_FoxIdeal_FoxRefIdeal (hFoxIdeal := hFoxIdeal) (hFoxRefIdeal := hFoxRefIdeal)
-- ==== Sgu.lean ====
abbrev S8x2048x1024 : Shape := ⟨3, ![8, 2048, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1x1024 : Shape := ⟨2, ![1, 1024]⟩
abbrev S1x2048 : Shape := ⟨2, ![1, 2048]⟩
abbrev S128x8 : Shape := ⟨2, ![128, 8]⟩
abbrev S1x256x1024 : Shape := ⟨3, ![1, 256, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S1x1024, .f32⟩
  | .hbm, ⟨8, _⟩ => ⟨S1024x4096, .bf16⟩
  | .hbm, ⟨9, _⟩ => ⟨S1x2048, .f32⟩
  | .hbm, ⟨10, _⟩ => ⟨S128x8, .f32⟩
  | .hbm, ⟨11, _⟩ => ⟨S2048x1024, .bf16⟩
  | .hbm, ⟨12, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S8x128x128, .f32⟩
  | .local _ .vmem, ⟨6, _⟩ => ⟨S128x8, .f32⟩
  | .local _ .vmem, ⟨7, _⟩ => ⟨S2048x1024, .bf16⟩
  | .local _ .vmem, ⟨8, _⟩ => ⟨S1x256x1024, .f32⟩
  | .local _ .vmem, ⟨9, _⟩ => ⟨S1x256x1024, .f32⟩
  | .local _ .vmem, ⟨10, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SguRefIdeal.lean ====
abbrev S8x2048x1024 : Shape := ⟨3, ![8, 2048, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x2048x2048 : Shape := ⟨3, ![8, 2048, 2048]⟩
abbrev S1x1x2048 : Shape := ⟨3, ![1, 1, 2048]⟩
abbrev S128x128 : Shape := ⟨2, ![128, 128]⟩
abbrev S1x128x128 : Shape := ⟨3, ![1, 128, 128]⟩
abbrev S8x16x128x8x256 : Shape := ⟨5, ![8, 16, 128, 8, 256]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x4096, .f32⟩
  | .hbm, ⟨24, _⟩ => ⟨S_, .f32⟩
  | .hbm, ⟨25, _⟩ => ⟨S8x2048x4096, .f32⟩
  | .hbm, ⟨26, _⟩ => ⟨S8x2048x4096, .f32⟩
  | .hbm, ⟨27, _⟩ => ⟨S_, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | .hbm, ⟨31, _⟩ => ⟨S_, .f32⟩
  | .hbm, ⟨32, _⟩ => ⟨S8x2048x4096, .f32⟩
  | .hbm, ⟨33, _⟩ => ⟨S8x2048x4096, .f32⟩
  | .hbm, ⟨34, _⟩ => ⟨S8x2048x4096, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S1x1x2048, .f32⟩
  | .hbm, ⟨51, _⟩ => ⟨S8x2048x2048, .f32⟩
  | .hbm, ⟨52, _⟩ => ⟨S8x2048x2048, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .f32⟩
  | .hbm, ⟨66, _⟩ => ⟨S_, .f32⟩
  | .hbm, ⟨67, _⟩ => ⟨S8x128x128, .i1⟩
  | .hbm, ⟨68, _⟩ => ⟨S8x128x128, .f32⟩
  | .hbm, ⟨69, _⟩ => ⟨S8x128x128, .f32⟩
  | .hbm, ⟨70, _⟩ => ⟨S8x16x128x8x256, .f32⟩
  | .hbm, ⟨71, _⟩ => ⟨S8x8x16x256x128, .f32⟩
  | .hbm, ⟨72, _⟩ => ⟨S8x16x128x8x256, .f32⟩
  | .hbm, ⟨73, _⟩ => ⟨S128x8, .f32⟩
  | .hbm, ⟨74, _⟩ => ⟨S1x1x128x8x1, .f32⟩
  | .hbm, ⟨75, _⟩ => ⟨S8x16x128x8x256, .f32⟩
  | .hbm, ⟨76, _⟩ => ⟨S8x16x128x8x256, .f32⟩
  | .hbm, ⟨77, _⟩ => ⟨S8x2048x2048, .f32⟩
  | .hbm, ⟨78, _⟩ => ⟨S8x2048x2048, .f32⟩
  | .hbm, ⟨79, _⟩ => ⟨S8x2048x1024, .f32⟩
  | .hbm, ⟨80, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S22x1x256 : Shape := ⟨3, ![22, 1, 256]⟩
abbrev S_ : Shape := ⟨0, ![]⟩
abbrev S8x22x8x256 : Shape := ⟨4, ![8, 22, 8, 256]⟩
abbrev S1x1024 : Shape := ⟨2, ![1, 1024]⟩
abbrev S8x22x2x256 : Shape := ⟨4, ![8, 22, 2, 256]⟩
abbrev S1x512x1024 : Shape := ⟨3, ![1, 512, 1024]⟩
abbrev S1x22x8x256 : Shape := ⟨4, ![1, 22, 8, 256]⟩
abbrev S1x22x2x256 : Shape := ⟨4, ![1, 22, 2, 256]⟩
abbrev S512x1024 : Shape := ⟨2, ![512, 1024]⟩
abbrev S22x520x256 : Shape := ⟨3, ![22, 520, 256]⟩
abbrev S512x2816 : Shape := ⟨2, ![512, 2816]⟩
abbrev S512 : Shape := ⟨1, ![512]⟩
abbrev S512x1 : Shape := ⟨2, ![512, 1]⟩
abbrev S22x8x256 : Shape := ⟨3, ![22, 8, 256]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x8x256 : Shape := ⟨3, ![1, 8, 256]⟩
abbrev S8x256 : Shape := ⟨2, ![8, 256]⟩
abbrev S22x2x256 : Shape := ⟨3, ![22, 2, 256]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024x5632, .bf16⟩
  | .hbm, ⟨7, _⟩ => ⟨S1024x22x256, .bf16⟩
  | .hbm, ⟨8, _⟩ => ⟨S22x1024x256, .bf16⟩
  | .hbm, ⟨9, _⟩ => ⟨S3x22x256, .f32⟩
  | .hbm, ⟨10, _⟩ => ⟨S22x3x256, .f32⟩
  | .hbm, ⟨11, _⟩ => ⟨S22x1x256, .f32⟩
  | .hbm, ⟨12, _⟩ => ⟨S_, .f32⟩
  | .hbm, ⟨13, _⟩ => ⟨S8x22x8x256, .f32⟩
  | .hbm, ⟨14, _⟩ => ⟨S1x1024, .f32⟩
  | .hbm, ⟨15, _⟩ => ⟨S2816x1024, .bf16⟩
  | .hbm, ⟨16, _⟩ => ⟨S8x2048x1024, .f32⟩
  | .hbm, ⟨17, _⟩ => ⟨S8x22x2x256, .f32⟩
  | .local _ .vmem, ⟨0, _⟩ => ⟨S1x512x1024, .f32⟩
  | .local _ .vmem, ⟨1, _⟩ => ⟨S1x512x1024, .f32⟩
  | .local _ .vmem, ⟨2, _⟩ => ⟨S1x22x8x256, .f32⟩
  | .local _ .vmem, ⟨3, _⟩ => ⟨S1x22x8x256, .f32⟩
  | .local _ .vmem, ⟨4, _⟩ => ⟨S1x1024, .f32⟩
  | .local _ .vmem, ⟨5, _⟩ => ⟨S22x1024x256, .bf16⟩
  | .local _ .vmem, ⟨6, _⟩ => ⟨S22x3x256, .f32⟩
  | .local _ .vmem, ⟨7, _⟩ => ⟨S22x1x256, .f32⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x22x2x256, .f32⟩
  | .local _ .vmem, ⟨12, _⟩ => ⟨S1x22x2x256, .f32⟩
  | .local _ .vmem, ⟨13, _⟩ => ⟨S512x1024, .bf16⟩
  | .local _ .vmem, ⟨14, _⟩ => ⟨S22x520x256, .f32⟩
  | .local _ .vmem, ⟨15, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v878 : BitVec 1 := Scalar.cmpi .eq arg1 c3_i32
  let v879 : BitVec 32 := Scalar.extui v878
  let c0_i32_624 : BitVec 32 := 0#32
  let v880 : BitVec 1 := Scalar.cmpi .ne v879 c0_i32_624
  v880

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x22x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S22x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x22x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x5632 : Shape := ⟨3, ![8, 2, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S8x2x22x256 : Shape := ⟨4, ![8, 2, 22, 256]⟩
abbrev S8x22x2x256 : Shape := ⟨4, ![8, 22, 2, 256]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2x5632, .f32⟩
  | .hbm, ⟨24, _⟩ => ⟨S8x2048x5632, .f32⟩
  | .hbm, ⟨25, _⟩ => ⟨S8x2050x5632, .f32⟩
  | .hbm, ⟨26, _⟩ => ⟨S1x5632, .f32⟩
  | .hbm, ⟨27, _⟩ => ⟨S5632, .f32⟩
  | .hbm, ⟨28, _⟩ => ⟨S8x2048x5632, .f32⟩
  | .hbm, ⟨29, _⟩ => ⟨S1x1x5632, .f32⟩
  | .hbm, ⟨30, _⟩ => ⟨S8x2048x5632, .f32⟩
  | .hbm, ⟨31, _⟩ => ⟨S8x2048x5632, .f32⟩
  | .hbm, ⟨32, _⟩ => ⟨S1x1x5632, .f32⟩
  | .hbm, ⟨33, _⟩ => ⟨S8x2048x5632, .f32⟩
  | .hbm, ⟨34, _⟩ => ⟨S8x2048x5632, .f32⟩
  | .hbm, ⟨35, _⟩ => ⟨S1x5632, .f32⟩
  | .hbm, ⟨36, _⟩ => ⟨S5632, .f32⟩
  | .hbm, ⟨37, _⟩ => ⟨S8x2048x5632, .f32⟩
  | .hbm, ⟨38, _⟩ => ⟨S1x1x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S8x2048x5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x1024, .f32⟩
  | .hbm, ⟨62, _⟩ => ⟨S8x2048x1024, .f32⟩
  | .hbm, ⟨63, _⟩ => ⟨S8x2x5632, .f32⟩
  | .hbm, ⟨64, _⟩ => ⟨S8x2x22x256, .f32⟩
  | .hbm, ⟨65, _⟩ => ⟨S8x22x2x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Dqkv.lean ====
abbrev S8x2048x1024 : Shape := ⟨3, ![8, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S1x1024 : Shape := ⟨2, ![1, 1024]⟩
abbrev S1x64 : Shape := ⟨2, ![1, 64]⟩
abbrev S16x64 : Shape := ⟨2, ![16, 64]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S128x1 : Shape := ⟨2, ![128, 1]⟩
abbrev S2048x128 : Shape := ⟨2, ![2048, 128]⟩
abbrev S1x512x1024 : Shape := ⟨3, ![1, 512, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1x512x128 : Shape := ⟨3, ![1, 512, 128]⟩

abbrev nBuf : Space → Nat
  | .hbm => 162
  | .vmem => 24
  | .smem => 0
  | _ => 0

abbrev hbmTy0_0 (i : Nat) : BufTy := match i % 128 with
  | 0 => ⟨S8x2048x1024, .f32⟩
  | 1 => ⟨S1024, .f32⟩
  | 2 => ⟨S1024x3072, .f32⟩
  | 3 => ⟨S64, .f32⟩
  | 4 => ⟨S64, .f32⟩
  | 5 => ⟨S1024, .i32⟩
  | 6 => ⟨S_, .i32⟩
  | 7 => ⟨S_, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i1⟩
  | 14 => ⟨S1024, .i32⟩
  | 15 => ⟨S1024, .i32⟩
  | 16 => ⟨S_, .i32⟩
  | 17 => ⟨S1024, .i32⟩
  | 18 => ⟨S1024, .i1⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S128, .i32⟩
  | 26 => ⟨S1x128, .i32⟩
  | 27 => ⟨S1024x128, .i32⟩
  | 28 => ⟨S1024x128, .i32⟩
  | 29 => ⟨S1024x128, .i1⟩
  | 30 => ⟨S1024x128, .bf16⟩
  | 31 => ⟨S128x1024, .bf16⟩
  | 32 => ⟨S128x1024, .bf16⟩
  | 33 => ⟨S256x1024, .bf16⟩
  | 34 => ⟨S1x1024, .f32⟩
  | 35 => ⟨S1024x3072, .bf16⟩
  | 36 => ⟨S1x64, .f32⟩
  | 37 => ⟨S16x64, .f32⟩
  | 38 => ⟨S1024, .f32⟩
  | 39 => ⟨S1x1024, .f32⟩
  | 40 => ⟨S1x64, .f32⟩
  | 41 => ⟨S16x64, .f32⟩
  | 42 => ⟨S1024, .f32⟩
  | 43 => ⟨S1x1024, .f32⟩
  | 44 => ⟨S2048, .i32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S2048, .f32⟩
  | 54 => ⟨S2048x1, .f32⟩
  | 55 => ⟨S1x8, .f32⟩
  | 56 => ⟨S2048x8, .f32⟩
  | 57 => ⟨S2048x8, .f32⟩
  | 58 => ⟨S2048x8, .f32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i1⟩
  | 96 => ⟨S_, .i32⟩
  | 97 => ⟨S_, .i1⟩
  | 98 => ⟨S128, .i1⟩
  | 99 => ⟨S128, .i1⟩
  | 100 => ⟨S128, .i1⟩
  | 101 => ⟨S128, .i32⟩
  | 102 => ⟨S128, .i32⟩
  | 103 => ⟨S128, .i32⟩
  | 104 => ⟨S1x128, .i32⟩
  | 105 => ⟨S_, .i32⟩
  | 106 => ⟨S1x128, .i32⟩
  | 107 => ⟨S1x128, .i1⟩
  | 108 => ⟨S2048x8, .f32⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S2048x128, .f32⟩
  | 118 => ⟨S_, .f32⟩
  | 119 => ⟨S_, .f32⟩
  | 120 => ⟨S2048x128, .i1⟩
  | 121 => ⟨S2048x128, .f32⟩
  | 122 => ⟨S2048x128, .f32⟩
  | 123 => ⟨S2048x8, .f32⟩
  | 124 => ⟨S_, .i32⟩
  | 125 => ⟨S128, .i32⟩
  | 126 => ⟨S128, .i1⟩
  | 127 => ⟨S_, .i32⟩
  | _ => ⟨S8x2048x1024, .f32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S2048x128, .f32⟩
  | 5 => ⟨S1x128, .i32⟩
  | 6 => ⟨S_, .i32⟩
  | 7 => ⟨S1x128, .i32⟩
  | 8 => ⟨S1x128, .i1⟩
  | 9 => ⟨S2048x128, .f32⟩
  | 10 => ⟨S_, .f32⟩
  | 11 => ⟨S_, .f32⟩
  | 12 => ⟨S2048x128, .i1⟩
  | 13 => ⟨S2048x128, .f32⟩
  | 14 => ⟨S2048x128, .f32⟩
  | 15 => ⟨S1x128, .i32⟩
  | 16 => ⟨S_, .i32⟩
  | 17 => ⟨S1x128, .i32⟩
  | 18 => ⟨S1x128, .i1⟩
  | 19 => ⟨S1x128, .i32⟩
  | 20 => ⟨S_, .i32⟩
  | 21 => ⟨S1x128, .i32⟩
  | 22 => ⟨S1x128, .i1⟩
  | 23 => ⟨S1x128, .i1⟩
  | 24 => ⟨S_, .f32⟩
  | 25 => ⟨S_, .f32⟩
  | 26 => ⟨S2048x128, .i1⟩
  | 27 => ⟨S2048x128, .f32⟩
  | 28 => ⟨S2048x128, .f32⟩
  | 29 => ⟨S8x2048x1024, .bf16⟩
  | 30 => ⟨S8x2048x1024, .f32⟩
  | 31 => ⟨S8x2048x1024, .bf16⟩
  | 32 => ⟨S8x2048x1024, .f32⟩
  | 33 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x1024, .bf16⟩
  | .local _ .vmem, ⟨23, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst : Ref sig .tc := ⟨.hbm, 47, rfl⟩
abbrev main_v25 : Ref sig .tc := ⟨.hbm, 48, rfl⟩
abbrev main_v26 : Ref sig .tc := ⟨.hbm, 49, rfl⟩
abbrev main_cst_0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_1 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v36 : Ref sig .tc := ⟨.hbm, 81, rfl⟩
abbrev main_c_2 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_v5 : Ref sig .tc := ⟨.hbm, 91, rfl⟩
abbrev main_call2_v6 : Ref sig .tc := ⟨.hbm, 92, rfl⟩
abbrev main_call2_c_2 : Ref sig .tc := ⟨.hbm, 93, rfl⟩
abbrev main_call2_v7 : Ref sig .tc := ⟨.hbm, 94, rfl⟩
abbrev main_call2_v8 : Ref sig .tc := ⟨.hbm, 95, rfl⟩
abbrev main_call2_c_3 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_v37 : Ref sig .tc := ⟨.hbm, 103, rfl⟩
abbrev main_v38 : Ref sig .tc := ⟨.hbm, 104, rfl⟩
abbrev main_c_3 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_c_4 : Ref sig .tc := ⟨.hbm, 109, rfl⟩
abbrev main_v42 : Ref sig .tc := ⟨.hbm, 110, rfl⟩
abbrev main_v43 : Ref sig .tc := ⟨.hbm, 111, rfl⟩
abbrev main_c_5 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_6 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v49 : Ref sig .tc := ⟨.hbm, 122, rfl⟩
abbrev main_v50 : Ref sig .tc := ⟨.hbm, 123, rfl⟩
abbrev main_c_7 : Ref sig .tc := ⟨.hbm, 124, rfl⟩
abbrev main_v51 : Ref sig .tc := ⟨.hbm, 125, rfl⟩
abbrev main_v52 : Ref sig .tc := ⟨.hbm, 126, rfl⟩
abbrev main_c_8 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_c_9 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_cst_10 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v62 : Ref sig .tc := ⟨.hbm, 142, rfl⟩
abbrev main_v63 : Ref sig .tc := ⟨.hbm, 143, rfl⟩
abbrev main_c_11 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_c_12 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_13 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_v70 : Ref sig .tc := ⟨.hbm, 156, rfl⟩
abbrev main_v71_0 : Ref sig .tc := ⟨.hbm, 157, rfl⟩
abbrev main_v71_1 : Ref sig .tc := ⟨.hbm, 158, rfl⟩
abbrev main_v71_2 : Ref sig .tc := ⟨.hbm, 159, rfl⟩
abbrev main_v71_3 : Ref sig .tc := ⟨.hbm, 160, rfl⟩
abbrev main_v71_4 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== DqkvRefIdeal.lean ====
abbrev S8x2048x1024 : Shape := ⟨3, ![8, 2048, 1024]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x8 : Shape := ⟨4, ![8, 2048, 16, 8]⟩
abbrev S8x2048x16x48 : Shape := ⟨4, ![8, 2048, 16, 48]⟩

abbrev nBuf : Space → Nat
  | .hbm => 132
  | .vmem => 0
  | .smem => 0
  | _ => 0

abbrev hbmTy0_0 (i : Nat) : BufTy := match i % 128 with
  | 0 => ⟨S8x2048x1024, .f32⟩
  | 1 => ⟨S1024, .f32⟩
  | 2 => ⟨S1024x3072, .f32⟩
  | 3 => ⟨S64, .f32⟩
  | 4 => ⟨S64, .f32⟩
  | 5 => ⟨S2048, .i32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S8x2048x3072, .f32⟩
  | 23 => ⟨S8x2048x1024, .f32⟩
  | 24 => ⟨S8x2048x1024, .f32⟩
  | 25 => ⟨S8x2048x1024, .f32⟩
  | 26 => ⟨S8x2048x16x64, .f32⟩
  | 27 => ⟨S8x2048x16x64, .f32⟩
  | 28 => ⟨S_, .f32⟩
  | 29 => ⟨S8x2048x16, .f32⟩
  | 30 => ⟨S8x2048x16x1, .f32⟩
  | 31 => ⟨S_, .f32⟩
  | 32 => ⟨S8x2048x16x1, .f32⟩
  | 33 => ⟨S8x2048x16x1, .f32⟩
  | 34 => ⟨S_, .f32⟩
  | 35 => ⟨S8x2048x16x1, .f32⟩
  | 36 => ⟨S8x2048x16x1, .f32⟩
  | 37 => ⟨S8x2048x16x1, .f32⟩
  | 38 => ⟨S8x2048x16x64, .f32⟩
  | 39 => ⟨S8x2048x16x64, .f32⟩
  | 40 => ⟨S1x1x1x64, .f32⟩
  | 41 => ⟨S8x2048x16x64, .f32⟩
  | 42 => ⟨S8x2048x16x64, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S2048, .f32⟩
  | 52 => ⟨S2048x1, .f32⟩
  | 53 => ⟨S1x8, .f32⟩
  | 54 => ⟨S2048x8, .f32⟩
  | 55 => ⟨S2048x8, .f32⟩
  | 56 => ⟨S2048x8, .f32⟩
  | 57 => ⟨S2048x8, .f32⟩
  | 58 => ⟨S1x2048x1x8, .f32⟩
  | 59 => ⟨S2048x8, .f32⟩
  | 60 => ⟨S1x2048x1x8, .f32⟩
  | 61 => ⟨S8x2048x16x8, .f32⟩
  | 62 => ⟨S8x2048x16x8, .f32⟩
  | 63 => ⟨S8x2048x16x8, .f32⟩
  | 64 => ⟨S8x2048x16x8, .f32⟩
  | 65 => ⟨S8x2048x16x8, .f32⟩
  | 66 => ⟨S8x2048x16x8, .f32⟩
  | 67 => ⟨S8x2048x16x8, .f32⟩
  | 68 => ⟨S8x2048x16x8, .f32⟩
  | 69 => ⟨S8x2048x16x8, .f32⟩
  | 70 => ⟨S8x2048x16x8, .f32⟩
  | 71 => ⟨S8x2048x16x8, .f32⟩
  | 72 => ⟨S8x2048x16x8, .f32⟩
  | 73 => ⟨S8x2048x16x48, .f32⟩
  | 74 => ⟨S8x2048x16x64, .f32⟩
  | 75 => ⟨S8x2048x1024, .f32⟩
  | 76 => ⟨S_, .f32⟩
  | 77 => ⟨S8x2048x1024, .f32⟩
  | 78 => ⟨S8x2048x1024, .f32⟩
  | 79 => ⟨S8x2048x16x64, .f32⟩
  | 80 => ⟨S8x2048x16x64, .f32⟩
  | 81 => ⟨S_, .f32⟩
  | 82 => ⟨S8x2048x16, .f32⟩
  | 83 => ⟨S8x2048x16x1, .f32⟩
  | 84 => ⟨S_, .f32⟩
  | 85 => ⟨S8x2048x16x1, .f32⟩
  | 86 => ⟨S8x2048x16x1, .f32⟩
  | 87 => ⟨S_, .f32⟩
  | 88 => ⟨S8x2048x16x1, .f32⟩
  | 89 => ⟨S8x2048x16x1, .f32⟩
  | 90 => ⟨S8x2048x16x1, .f32⟩
  | 91 => ⟨S8x2048x16x64, .f32⟩
  | 92 => ⟨S8x2048x16x64, .f32⟩
  | 93 => ⟨S1x1x1x64, .f32⟩
  | 94 => ⟨S8x2048x16x64, .f32⟩
  | 95 => ⟨S8x2048x16x64, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S2048, .f32⟩
  | 105 => ⟨S2048x1, .f32⟩
  | 106 => ⟨S1x8, .f32⟩
  | 107 => ⟨S2048x8, .f32⟩
  | 108 => ⟨S2048x8, .f32⟩
  | 109 => ⟨S2048x8, .f32⟩
  | 110 => ⟨S2048x8, .f32⟩
  | 111 => ⟨S1x2048x1x8, .f32⟩
  | 112 => ⟨S2048x8, .f32⟩
  | 113 => ⟨S1x2048x1x8, .f32⟩
  | 114 => ⟨S8x2048x16x8, .f32⟩
  | 115 => ⟨S8x2048x16x8, .f32⟩
  | 116 => ⟨S8x2048x16x8, .f32⟩
  | 117 => ⟨S8x2048x16x8, .f32⟩
  | 118 => ⟨S8x2048x16x8, .f32⟩
  | 119 => ⟨S8x2048x16x8, .f32⟩
  | 120 => ⟨S8x2048x16x8, .f32⟩
  | 121 => ⟨S8x2048x16x8, .f32⟩
  | 122 => ⟨S8x2048x16x8, .f32⟩
  | 123 => ⟨S8x2048x16x8, .f32⟩
  | 124 => ⟨S8x2048x16x8, .f32⟩
  | 125 => ⟨S8x2048x16x8, .f32⟩
  | 126 => ⟨S8x2048x16x48, .f32⟩
  | 127 => ⟨S8x2048x16x64, .f32⟩
  | _ => ⟨S8x2048x1024, .f32⟩

abbrev hbmTy0_1 (i : Nat) : BufTy := match i % 128 with
  | 0 => ⟨S8x2048x1024, .f32⟩
  | 1 => ⟨S8x2048x1024, .bf16⟩
  | 2 => ⟨S8x2048x1024, .bf16⟩
  | 3 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩

abbrev nD : Nat := 1
abbrev τ : Topo := Topo.v7x

variable {F : FTy → Type} [FloatOps F]
-- ==== Mix.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S22x1x256 : Shape := ⟨3, ![22, 1, 256]⟩
abbrev S_ : Shape := ⟨0, ![]⟩
abbrev S8x22x8x256 : Shape := ⟨4, ![8, 22, 8, 256]⟩
abbrev S1x1024 : Shape := ⟨2, ![1, 1024]⟩
abbrev S8x22x2x256 : Shape := ⟨4, ![8, 22, 2, 256]⟩
abbrev S1x512x1024 : Shape := ⟨3, ![1, 512, 1024]⟩
abbrev S1x22x8x256 : Shape := ⟨4, ![1, 22, 8, 256]⟩
abbrev S1x22x2x256 : Shape := ⟨4, ![1, 22, 2, 256]⟩
abbrev S512x1024 : Shape := ⟨2, ![512, 1024]⟩
abbrev S22x520x256 : Shape := ⟨3, ![22, 520, 256]⟩
abbrev S512x2816 : Shape := ⟨2, ![512, 2816]⟩
abbrev S512 : Shape := ⟨1, ![512]⟩
abbrev S512x1 : Shape := ⟨2, ![512, 1]⟩
abbrev S22x8x256 : Shape := ⟨3, ![22, 8, 256]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x8x256 : Shape := ⟨3, ![1, 8, 256]⟩
abbrev S8x256 : Shape := ⟨2, ![8, 256]⟩
abbrev S22x2x256 : Shape := ⟨3, ![22, 2, 256]⟩

abbrev nBuf : Space → Nat
  | .hbm => 22
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x5632, .bf16⟩
  | .hbm, ⟨9, _⟩ => ⟨S1024x22x256, .bf16⟩
  | .hbm, ⟨10, _⟩ => ⟨S22x1024x256, .bf16⟩
  | .hbm, ⟨11, _⟩ => ⟨S3x22x256, .f32⟩
  | .hbm, ⟨12, _⟩ => ⟨S22x3x256, .f32⟩
  | .hbm, ⟨13, _⟩ => ⟨S22x1x256, .f32⟩
  | .hbm, ⟨14, _⟩ => ⟨S_, .f32⟩
  | .hbm, ⟨15, _⟩ => ⟨S8x22x8x256, .f32⟩
  | .hbm, ⟨16, _⟩ => ⟨S1x1024, .f32⟩
  | .hbm, ⟨17, _⟩ => ⟨S2816x1024, .bf16⟩
  | .hbm, ⟨18, _⟩ => ⟨S8x2048x1024, .bf16⟩
  | .hbm, ⟨19, _⟩ => ⟨S1024x1024, .bf16⟩
  | .hbm, ⟨20, _⟩ => ⟨S8x2048x1024, .f32⟩
  | .hbm, ⟨21, _⟩ => ⟨S8x22x2x256, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x22x8x256, .f32⟩
  | .local _ .vmem, ⟨6, _⟩ => ⟨S1x22x8x256, .f32⟩
  | .local _ .vmem, ⟨7, _⟩ => ⟨S1x1024, .f32⟩
  | .local _ .vmem, ⟨8, _⟩ => ⟨S22x1024x256, .bf16⟩
  | .local _ .vmem, ⟨9, _⟩ => ⟨S22x3x256, .f32⟩
  | .local _ .vmem, ⟨10, _⟩ => ⟨S22x1x256, .f32⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x22x2x256, .f32⟩
  | .local _ .vmem, ⟨15, _⟩ => ⟨S1x22x2x256, .f32⟩
  | .local _ .vmem, ⟨16, _⟩ => ⟨S512x1024, .bf16⟩
  | .local _ .vmem, ⟨17, _⟩ => ⟨S22x520x256, .f32⟩
  | .local _ .vmem, ⟨18, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v884 : BitVec 1 := Scalar.cmpi .eq arg1 c3_i32
  let v885 : BitVec 32 := Scalar.extui v884
  let c0_i32_630 : BitVec 32 := 0#32
  let v886 : BitVec 1 := Scalar.cmpi .ne v885 c0_i32_630
  v886

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x22x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S22x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S22x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x22x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixRefIdeal.lean ====
abbrev S8x2048x1024 : Shape := ⟨3, ![8, 2048, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x5632 : Shape := ⟨3, ![8, 2, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S8x2x22x256 : Shape := ⟨4, ![8, 2, 22, 256]⟩
abbrev S8x22x2x256 : Shape := ⟨4, ![8, 22, 2, 256]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2x5632, .f32⟩
  | .hbm, ⟨28, _⟩ => ⟨S8x2048x5632, .f32⟩
  | .hbm, ⟨29, _⟩ => ⟨S8x2050x5632, .f32⟩
  | .hbm, ⟨30, _⟩ => ⟨S1x5632, .f32⟩
  | .hbm, ⟨31, _⟩ => ⟨S5632, .f32⟩
  | .hbm, ⟨32, _⟩ => ⟨S8x2048x5632, .f32⟩
  | .hbm, ⟨33, _⟩ => ⟨S1x1x5632, .f32⟩
  | .hbm, ⟨34, _⟩ => ⟨S8x2048x5632, .f32⟩
  | .hbm, ⟨35, _⟩ => ⟨S8x2048x5632, .f32⟩
  | .hbm, ⟨36, _⟩ => ⟨S1x1x5632, .f32⟩
  | .hbm, ⟨37, _⟩ => ⟨S8x2048x5632, .f32⟩
  | .hbm, ⟨38, _⟩ => ⟨S8x2048x5632, .f32⟩
  | .hbm, ⟨39, _⟩ => ⟨S1x5632, .f32⟩
  | .hbm, ⟨40, _⟩ => ⟨S5632, .f32⟩
  | .hbm, ⟨41, _⟩ => ⟨S8x2048x5632, .f32⟩
  | .hbm, ⟨42, _⟩ => ⟨S1x1x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x5632, .f32⟩
  | .hbm, ⟨47, _⟩ => ⟨S5632, .f32⟩
  | .hbm, ⟨48, _⟩ => ⟨S8x2048x5632, .f32⟩
  | .hbm, ⟨49, _⟩ => ⟨S1x1x5632, .f32⟩
  | .hbm, ⟨50, _⟩ => ⟨S8x2048x5632, .f32⟩
  | .hbm, ⟨51, _⟩ => ⟨S8x2048x5632, .f32⟩
  | .hbm, ⟨52, _⟩ => ⟨S8x2048x5632, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S8x2x5632, .f32⟩
  | .hbm, ⟨68, _⟩ => ⟨S8x2x22x256, .f32⟩
  | .hbm, ⟨69, _⟩ => ⟨S8x22x2x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Fox.lean ====
abbrev S8x2048x1024 : Shape := ⟨3, ![8, 2048, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S1024x16 : Shape := ⟨2, ![1024, 16]⟩
abbrev S1x1024 : Shape := ⟨2, ![1, 1024]⟩
abbrev S1024x3072 : Shape := ⟨2, ![1024, 3072]⟩
abbrev S1x64 : Shape := ⟨2, ![1, 64]⟩
abbrev S16x64 : Shape := ⟨2, ![16, 64]⟩
abbrev S8x2048x128 : Shape := ⟨3, ![8, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S512x256 : Shape := ⟨2, ![512, 256]⟩
abbrev S512x512 : Shape := ⟨2, ![512, 512]⟩

abbrev nBuf : Space → Nat
  | .hbm => 62
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S128, .i32⟩
  | .hbm, ⟨27, _⟩ => ⟨S1x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S1024x128, .bf16⟩
  | .hbm, ⟨32, _⟩ => ⟨S128x1024, .bf16⟩
  | .hbm, ⟨33, _⟩ => ⟨S128x1024, .bf16⟩
  | .hbm, ⟨34, _⟩ => ⟨S256x1024, .bf16⟩
  | .hbm, ⟨35, _⟩ => ⟨S1024x16, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x128, .bf16⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S1x1024, .f32⟩
  | .hbm, ⟨45, _⟩ => ⟨S1024x3072, .f32⟩
  | .hbm, ⟨46, _⟩ => ⟨S1024x3072, .bf16⟩
  | .hbm, ⟨47, _⟩ => ⟨S1x64, .f32⟩
  | .hbm, ⟨48, _⟩ => ⟨S16x64, .f32⟩
  | .hbm, ⟨49, _⟩ => ⟨S1024, .f32⟩
  | .hbm, ⟨50, _⟩ => ⟨S1x1024, .f32⟩
  | .hbm, ⟨51, _⟩ => ⟨S1x64, .f32⟩
  | .hbm, ⟨52, _⟩ => ⟨S16x64, .f32⟩
  | .hbm, ⟨53, _⟩ => ⟨S1024, .f32⟩
  | .hbm, ⟨54, _⟩ => ⟨S1x1024, .f32⟩
  | .hbm, ⟨55, _⟩ => ⟨S8x2048x1024, .bf16⟩
  | .hbm, ⟨56, _⟩ => ⟨S8x2048x1024, .f32⟩
  | .hbm, ⟨57, _⟩ => ⟨S8x2048x1024, .bf16⟩
  | .hbm, ⟨58, _⟩ => ⟨S8x2048x1024, .f32⟩
  | .hbm, ⟨59, _⟩ => ⟨S8x2048x1024, .bf16⟩
  | .hbm, ⟨60, _⟩ => ⟨S8x2048x128, .f32⟩
  | .hbm, ⟨61, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1024x128, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_call1_v0 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_call2_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_v28_3 : Ref sig .tc := ⟨.hbm, 58, rfl⟩
abbrev main_v28_4 : Ref sig .tc := ⟨.hbm, 59, rfl⟩
abbrev main_v28_5 : Ref sig .tc := ⟨.hbm, 60, rfl⟩
abbrev main_v28_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FoxRefIdeal.lean ====
abbrev S8x2048x1024 : Shape := ⟨3, ![8, 2048, 1024]⟩
abbrev S1024 : Shape := ⟨1, ![1024]⟩
abbrev S1024x3088 : Shape := ⟨2, ![1024, 3088]⟩
abbrev S16 : Shape := ⟨1, ![16]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3088 : Shape := ⟨3, ![8, 2048, 3088]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S1x1x16 : Shape := ⟨3, ![1, 1, 16]⟩
abbrev S8x2048x128 : Shape := ⟨3, ![8, 2048, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S64, .f32⟩
  | .hbm, ⟨5, _⟩ => ⟨S64, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x3088, .f32⟩
  | .hbm, ⟨23, _⟩ => ⟨S8x2048x1024, .f32⟩
  | .hbm, ⟨24, _⟩ => ⟨S8x2048x16x64, .f32⟩
  | .hbm, ⟨25, _⟩ => ⟨S8x2048x16x64, .f32⟩
  | .hbm, ⟨26, _⟩ => ⟨S_, .f32⟩
  | .hbm, ⟨27, _⟩ => ⟨S8x2048x16, .f32⟩
  | .hbm, ⟨28, _⟩ => ⟨S8x2048x16x1, .f32⟩
  | .hbm, ⟨29, _⟩ => ⟨S_, .f32⟩
  | .hbm, ⟨30, _⟩ => ⟨S8x2048x16x1, .f32⟩
  | .hbm, ⟨31, _⟩ => ⟨S8x2048x16x1, .f32⟩
  | .hbm, ⟨32, _⟩ => ⟨S_, .f32⟩
  | .hbm, ⟨33, _⟩ => ⟨S8x2048x16x1, .f32⟩
  | .hbm, ⟨34, _⟩ => ⟨S8x2048x16x1, .f32⟩
  | .hbm, ⟨35, _⟩ => ⟨S8x2048x16x1, .f32⟩
  | .hbm, ⟨36, _⟩ => ⟨S8x2048x16x64, .f32⟩
  | .hbm, ⟨37, _⟩ => ⟨S8x2048x16x64, .f32⟩
  | .hbm, ⟨38, _⟩ => ⟨S1x1x1x64, .f32⟩
  | .hbm, ⟨39, _⟩ => ⟨S8x2048x16x64, .f32⟩
  | .hbm, ⟨40, _⟩ => ⟨S8x2048x16x64, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x16x64, .f32⟩
  | .hbm, ⟨47, _⟩ => ⟨S8x2048x16x64, .f32⟩
  | .hbm, ⟨48, _⟩ => ⟨S_, .f32⟩
  | .hbm, ⟨49, _⟩ => ⟨S8x2048x16, .f32⟩
  | .hbm, ⟨50, _⟩ => ⟨S8x2048x16x1, .f32⟩
  | .hbm, ⟨51, _⟩ => ⟨S_, .f32⟩
  | .hbm, ⟨52, _⟩ => ⟨S8x2048x16x1, .f32⟩
  | .hbm, ⟨53, _⟩ => ⟨S8x2048x16x1, .f32⟩
  | .hbm, ⟨54, _⟩ => ⟨S_, .f32⟩
  | .hbm, ⟨55, _⟩ => ⟨S8x2048x16x1, .f32⟩
  | .hbm, ⟨56, _⟩ => ⟨S8x2048x16x1, .f32⟩
  | .hbm, ⟨57, _⟩ => ⟨S8x2048x16x1, .f32⟩
  | .hbm, ⟨58, _⟩ => ⟨S8x2048x16x64, .f32⟩
  | .hbm, ⟨59, _⟩ => ⟨S8x2048x16x64, .f32⟩
  | .hbm, ⟨60, _⟩ => ⟨S1x1x1x64, .f32⟩
  | .hbm, ⟨61, _⟩ => ⟨S8x2048x16x64, .f32⟩
  | .hbm, ⟨62, _⟩ => ⟨S8x2048x16x64, .f32⟩
  | .hbm, ⟨63, _⟩ => ⟨S8x2048x1024, .f32⟩
  | .hbm, ⟨64, _⟩ => ⟨S8x2048x1024, .f32⟩
  | .hbm, ⟨65, _⟩ => ⟨S8x2048x16, .f32⟩
  | .hbm, ⟨66, _⟩ => ⟨S1x1x16, .f32⟩
  | .hbm, ⟨67, _⟩ => ⟨S8x2048x16, .f32⟩
  | .hbm, ⟨68, _⟩ => ⟨S8x2048x16, .f32⟩
  | .hbm, ⟨69, _⟩ => ⟨S_, .i32⟩
  | .hbm, ⟨70, _⟩ => ⟨S_, .f32⟩
  | .hbm, ⟨71, _⟩ => ⟨S8x2048x128, .f32⟩
  | .hbm, ⟨72, _⟩ => ⟨S8x2048x128, .f32⟩
  | .hbm, ⟨73, _⟩ => ⟨S_, .f32⟩
  | .hbm, ⟨74, _⟩ => ⟨S8x2048x128, .f32⟩
  | .hbm, ⟨75, _⟩ => ⟨S8x2048x128, .f32⟩
  | .hbm, ⟨76, _⟩ => ⟨S8x2048x128, .f32⟩
  | .hbm, ⟨77, _⟩ => ⟨S8x2048x128, .f32⟩
  | .hbm, ⟨78, _⟩ => ⟨S8x2048x128, .i1⟩
  | .hbm, ⟨79, _⟩ => ⟨S8x2048x128, .f32⟩
  | .hbm, ⟨80, _⟩ => ⟨S8x2048x128, .f32⟩
  | .hbm, ⟨81, _⟩ => ⟨S8x2048x128, .f32⟩
  | .hbm, ⟨82, _⟩ => ⟨S8x2048x128, .f32⟩
  | .hbm, ⟨83, _⟩ => ⟨S8x2048x128, .f32⟩
  | .hbm, ⟨84, _⟩ => ⟨S8x2048x128, .f32⟩
  | .hbm, ⟨85, _⟩ => ⟨S8x2048x128, .f32⟩
  | .hbm, ⟨86, _⟩ => ⟨S8x2048x128, .f32⟩
  | .hbm, ⟨87, _⟩ => ⟨S8x2048x128, .f32⟩
  | .hbm, ⟨88, _⟩ => ⟨S8x2048x1024, .bf16⟩
  | .hbm, ⟨89, _⟩ => ⟨S8x2048x1024, .bf16⟩
  | .hbm, ⟨90, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c : Ref sig .tc := ⟨.hbm, 69, rfl⟩
abbrev main_call0_v0 : Ref sig .tc := ⟨.hbm, 70, rfl⟩
abbrev main_v53 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.SguSpec.lean ====
module

public import Idealize.ShloMosaic.Lib.Pointwise
public import Idealize.ShloMosaic.Lib.WordCmp

@[expose] public section

/-! The spatial gating layer over the extended reals, entry by entry: root mean square rows, a gated projection, chunks of 128 rows mixed
    by lower triangular weights, and the residual sum. Both programs are read against these formulas. -/

noncomputable section

namespace Cert.SguSpec

open Idealize.ShloMosaic

/-- A row divided by its root mean square (`N` its length, as the programs write it) and scaled. -/
def rms {n : ℕ} (N : EReal) (a g : Fin n → EReal) (d : Fin n) : EReal :=
  a d * Ideal.rsqrt (Ideal.div (∑ e, a e * a e) N + Ideal.ofBits .f32 0x358637BD#32) * g d

/-- The activation, by the error function. -/
def gelu (z : EReal) : EReal :=
  Ideal.ofBits .f32 0x3F000000#32 * z * (1 + Ideal.erf (z * Ideal.ofBits .f32 0x3F3504F3#32))

section
variable (x : Fin 8 → Fin 2048 → Fin 1024 → EReal) (g : Fin 1024 → EReal) (w : Fin 1024 → Fin 4096 → EReal) (gv : Fin 2048 → EReal)
  (ws : Fin 8 → Fin 128 → Fin 128 → EReal) (bs : Fin 8 → Fin 128 → EReal) (wo : Fin 2048 → Fin 1024 → EReal)

/-- The activated projection of a normalised row. -/
def act (b : Fin 8) (t : Fin 2048) (j : Fin 4096) : EReal :=
  gelu (∑ d, rms (Ideal.ofBits .f32 0x44800000#32) (x b t) g d * w d j)

/-- The normalised value half of the projection. -/
def val (b : Fin 8) (t : Fin 2048) (j : Fin 2048) : EReal :=
  rms (Ideal.ofBits .f32 0x45000000#32) (fun j : Fin 2048 => act x g w b t ⟨2048 + j, by omega⟩) gv j

/-- Row `t` of lane `j` mixed with the rows of its chunk of 128 that come no later. -/
def mixed (b : Fin 8) (t : Fin 2048) (j : Fin 2048) : EReal :=
  ∑ s : Fin 128, (if (s : ℕ) ≤ (t : ℕ) % 128 then
    ws ⟨(j : ℕ) / 256, by omega⟩ ⟨(t : ℕ) % 128, by omega⟩ s * val x g w gv b ⟨(t : ℕ) / 128 * 128 + s, by omega⟩ j else 0) +
    bs ⟨(j : ℕ) / 256, by omega⟩ ⟨(t : ℕ) % 128, by omega⟩

/-- The layer. -/
def out (b : Fin 8) (t : Fin 2048) (d : Fin 1024) : EReal :=
  x b t d + ∑ j : Fin 2048, act x g w b t ⟨j, by omega⟩ * mixed x g w gv ws bs b t j * wo j d

end

/-- Choosing by a comparison of two small naturals. -/
theorem select_sle (a t : ℕ) (ha : a < 128) (ht : t < 128) (p q : EReal) :
    Scalar.select (IntOp.cmpi .sle (BitVec.ofNat 32 a) (BitVec.ofNat 32 t)) p q = if a ≤ t then p else q := by
  rw [WordCmp.cmpi_sle_ofNat (by omega) (by omega), WordCmp.select_ofBool]
  simp only [decide_eq_true_eq]

/-- The same for a mask that is first made of ones and zeros. -/
theorem select_sge (a t : ℕ) (ha : a < 128) (ht : t < 128) (p q : EReal) :
    Scalar.select (Scalar.select (IntOp.cmpi .sge (IntOp.addi (BitVec.ofNat 32 t) 0#32) (BitVec.ofNat 32 a)) 1#1 0#1) p q = if a ≤ t then p else q := by
  rw [show IntOp.addi (BitVec.ofNat 32 t) 0#32 = BitVec.ofNat 32 t from BitVec.add_zero _, WordCmp.cmpi_sge_ofNat (by omega) (by omega)]
  by_cases h : a ≤ t <;> simp [h, Scalar.select]

end Cert.SguSpec
-- ==== Proof.SguK.lean ====
module

public import proofs.«01_k».proof.Defs
public import proofs.«01_k».proof.Proof.Gen.SguIdeal.Value
public import proofs.«01_k».proof.Proof.SguSpec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.SguIdeal.Value

open Cert.SguIdeal Cert.SguIdeal.Gen Idealize.ShloMosaic Idealize.ShloMosaic.TcCoe Idealize.SL.Sem Idealize.ShloMosaic.StableHlo

variable (m : (ℓ : Loc nD τ sig) → Buf (Elt Ideal) ℓ)

theorem idx : ∀ t : Fin cfg0.N, win0_0.index t = ![t.val / 8, t.val % 8, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![t.val / 8, t.val % 8, 0] :=
  (by decide +kernel : ∀ t : Fin grid0.N, _)

/-- A load of the whole scratch after stores that leave `G`. -/
theorem read_whole_of (v : View sig .tc .vmem S256x2048 .bf16) (L : List (View.Piece (Elt Ideal) S256x2048 .bf16)) (G : Vec Ideal S256x2048 .bf16)
    (h : ∀ y, View.canon L y = G y) : v.readCov L (Rect.unit ![0, 0] ![256, 2048] inb_S256x2048_S256x2048_0_0).toLoadRect = G := by
  rw [View.readCov_eq_canon']
  funext j
  rw [h]
  idx_vars j
  exact congrArg G (by blk_ext <;> simp)

/-- The gated values of one block of rows, from the gate `U`, the values `V`, the mixing weights and the bias. -/
def mixK (U : FVec Ideal S256x2048 .f32) (V : FVec Ideal S256x2048 .bf16) (ws : Vec Ideal S8x128x128 .f32) (bs : Vec Ideal S128x8 .f32) : Vec Ideal S256x2048 .bf16 :=
  fun i => U i * (∑ s : Fin 128, Scalar.select (IntOp.cmpi .sle (BitVec.ofNat 32 s) (BitVec.ofNat 32 ((i 0 : ℕ) % 128)))
    (ws (ix3 ⟨(i 1 : ℕ) / 256, by have : (i 1 : ℕ) < 2048 := (i 1).isLt; omega⟩ ⟨(i 0 : ℕ) % 128, by omega⟩ s)) 0 *
      V (ix2 ⟨(i 0 : ℕ) / 128 * 128 + s, by have : (i 0 : ℕ) < 256 := (i 0).isLt; omega⟩ (i 1)) +
    bs (ix2 ⟨(i 0 : ℕ) % 128, by omega⟩ ⟨(i 1 : ℕ) / 256, by have : (i 1 : ℕ) < 2048 := (i 1).isLt; omega⟩))

section block
variable {X : Fin 8 → Fin 2048 → Fin 1024 → EReal} {g : Fin 1024 → EReal} {w : Fin 1024 → Fin 4096 → EReal} {gv : Fin 2048 → EReal}
  {ws : Fin 8 → Fin 128 → Fin 128 → EReal} {bs : Fin 8 → Fin 128 → EReal} {wo : Fin 2048 → Fin 1024 → EReal}
  {x0 : Vec Ideal S1x256x1024 .f32} {x1 : Vec Ideal S1x1024 .f32} {x2 : Vec Ideal S1024x4096 .bf16} {x3 : Vec Ideal S1x2048 .f32}
  {x4 : Vec Ideal S8x128x128 .f32} {x5 : Vec Ideal S128x8 .f32} {x6 : Vec Ideal S2048x1024 .bf16}
  {b : Fin 8} {T : Fin 256 → Fin 2048}
  (h0 : ∀ r d, x0 (ix3 0 r d) = X b (T r) d) (h1 : ∀ d, x1 (ix2 0 d) = g d) (h2 : ∀ d j, x2 (ix2 d j) = w d j)
  (h3 : ∀ j, x3 (ix2 0 j) = gv j) (h4 : ∀ a p q, x4 (ix3 a p q) = ws a p q) (h5 : ∀ p a, x5 (ix2 p a) = bs a p) (h6 : ∀ j d, x6 (ix2 j d) = wo j d)

include h0 h1 in
theorem pay5_at (r : Fin 256) (d : Fin 1024) :
    k0_pay5 (F := Ideal) x0 x1 (ix2 r d) = SguSpec.rms (Ideal.ofBits .f32 0x44800000#32) (X b (T r)) g d := by
  pointwise [k0_pay5, k0_pay4]
  simp only [h0, h1]
  rfl

include h0 h1 h2 in
theorem pay10_at (r : Fin 256) (j : Fin 2048) :
    k0_pay10 (F := Ideal) (k0_pay5 x0 x1) (View.ld x2 (Rect.unit ![0, 0] ![1024, 2048] inb_S1024x4096_S1024x2048_0_0)) (ix2 r j)
      = SguSpec.act X g w b (T r) ⟨j, by omega⟩ := by
  pointwise [k0_pay10]
  simp only [pay5_at h0 h1, h2]
  rfl

include h0 h1 h2 in
theorem pay6_at (r : Fin 256) (j : Fin 2048) :
    k0_pay6 (F := Ideal) x0 x1 (View.ld x2 (Rect.unit ![0, 2048] ![1024, 2048] inb_S1024x4096_S1024x2048_0_2048)) (ix2 r j)
      = SguSpec.act X g w b (T r) ⟨2048 + j, by omega⟩ := by
  pointwise [k0_pay6]
  simp only [pay5_at h0 h1, h2]
  rfl

include h0 h1 h2 h3 in
theorem pay9_at (r : Fin 256) (j : Fin 2048) :
    k0_pay9 (F := Ideal) (k0_pay6 x0 x1 (View.ld x2 (Rect.unit ![0, 2048] ![1024, 2048] inb_S1024x4096_S1024x2048_0_2048))) (k0_pay7 x3)
      (k0_pay8 x0 x1 (View.ld x2 (Rect.unit ![0, 2048] ![1024, 2048] inb_S1024x4096_S1024x2048_0_2048))) (ix2 r j)
      = SguSpec.val X g w gv b (T r) j := by
  have e := pay6_at h0 h1 h2
  generalize View.ld x2 (Rect.unit ![0, 2048] ![1024, 2048] inb_S1024x4096_S1024x2048_0_2048) = z at e ⊢
  pointwise [k0_pay9, k0_pay7, k0_pay8]
  simp only [e, h3]
  rfl

include h0 h1 h2 h3 h4 h5 h6 in
/-- One block of the result, from the blocks the launch hands the body. -/
theorem block_at {i : ℕ} (hT : ∀ r, (T r : ℕ) = i * 256 + r) (r : Fin 256) (d : Fin 1024) :
    k0_pay3 (k0_pay4 x0) (mixK (k0_pay10 (k0_pay5 x0 x1) (View.ld x2 (Rect.unit ![0, 0] ![1024, 2048] inb_S1024x4096_S1024x2048_0_0)))
      (k0_pay9 (k0_pay6 x0 x1 (View.ld x2 (Rect.unit ![0, 2048] ![1024, 2048] inb_S1024x4096_S1024x2048_0_2048))) (k0_pay7 x3)
      (k0_pay8 x0 x1 (View.ld x2 (Rect.unit ![0, 2048] ![1024, 2048] inb_S1024x4096_S1024x2048_0_2048)))) x4 x5) x6 (ix3 0 r d)
      = SguSpec.out X g w gv ws bs wo b (T r) d := by
  have eU := pay10_at h0 h1 h2
  have eV := pay9_at h0 h1 h2 h3
  generalize k0_pay10 (F := Ideal) _ _ = U at eU ⊢
  generalize k0_pay9 (F := Ideal) _ _ _ = V at eV ⊢
  have hm : ∀ j, mixK U V x4 x5 (ix2 r j) = SguSpec.act X g w b (T r) ⟨j, by omega⟩ * SguSpec.mixed X g w gv ws bs b (T r) j := by
    intro j
    have e1 : (T r : ℕ) % 128 = (r : ℕ) % 128 := by rw [hT]; omega
    refine congrArg₂ (· * ·) (eU r j) (congrArg₂ (· + ·) (Finset.sum_congr rfl fun s _ => ?_) ?_)
    · rw [SguSpec.select_sle s _ s.isLt (Nat.mod_lt _ (by decide))]
      have e2 : T ⟨(r : ℕ) / 128 * 128 + s, by omega⟩ = ⟨(T r : ℕ) / 128 * 128 + s, by omega⟩ := Fin.ext (by show (T _ : ℕ) = _ / 128 * 128 + _; rw [hT, hT]; dsimp only; omega)
      change (if (s : ℕ) ≤ (r : ℕ) % 128 then x4 (ix3 ⟨(j : ℕ) / 256, by omega⟩ ⟨(r : ℕ) % 128, by omega⟩ s) else 0) * V (ix2 ⟨(r : ℕ) / 128 * 128 + s, by omega⟩ j) = _
      rw [h4, eV, ite_mul, zero_mul, e2]
      simp only [e1]
    · change x5 (ix2 ⟨(r : ℕ) % 128, by omega⟩ ⟨(j : ℕ) / 256, by omega⟩) = _
      rw [h5]
      simp only [e1]
  pointwise [k0_pay3, k0_pay4]
  simp only [hm, h0, h6]
  rfl
end block

theorem final (c : Dev nD) : (dats m 0 c).arrAt 7 cfg0.N = fun i : S8x2048x1024.Idx =>
    SguSpec.out (fun b t d => m ((c.tc : Thread nD τ).loc main_arg0) (ix3 b t d)) (fun d => m ((c.tc : Thread nD τ).loc main_arg1) (ix1 d))
      (fun d j => m ((c.tc : Thread nD τ).loc main_arg2) (ix2 d j)) (fun d => m ((c.tc : Thread nD τ).loc main_arg3) (ix1 d))
      (fun b t d => m ((c.tc : Thread nD τ).loc main_arg4) (ix3 b t d)) (fun d j => m ((c.tc : Thread nD τ).loc main_arg5) (ix2 d j))
      (fun d j => m ((c.tc : Thread nD τ).loc main_arg6) (ix2 d j)) (i 0) (i 1) (i 2) := by
  refine (dats m 0 c).arrAt_eq_of_covers 7 _ (by decide +kernel) fun t hf y => ?_
  blk_simp
  rw [after0_7]
  simp only [outsAt0]
  frame_open
  simp (disch := decide) only [↓ View.readCov_skip, ↓ View.readCov_cons_toLoadRect, ↓ View.readCov_fill]
  frame_out
  refine Eq.trans (congrArg (fun M => k0_pay3 _ M _ y) (read_whole_of _ _ (mixK (k0_pay10 (k0_pay5 (iblk m c 0 t) (iblk m c 1 t))
                  (View.ld (iblk m c 2 t) (Rect.unit ![0, 0] ![1024, 2048] inb_S1024x4096_S1024x2048_0_0))) (k0_pay9
                (k0_pay6 (iblk m c 0 t) (iblk m c 1 t)
                  (View.ld (iblk m c 2 t) (Rect.unit ![0, 2048] ![1024, 2048] inb_S1024x4096_S1024x2048_0_2048)))
                (k0_pay7 (iblk m c 3 t))
                (k0_pay8 (iblk m c 0 t) (iblk m c 1 t)
                  (View.ld (iblk m c 2 t) (Rect.unit ![0, 2048] ![1024, 2048] inb_S1024x4096_S1024x2048_0_2048)))) (iblk m c 4 t) (iblk m c 5 t)) ?_)) ?_
  · intro y
    canon_tiles x h
    all_goals
      simp only [mixK]
      open_payloads
      generalize k0_pay10 (F := Ideal) _ _ = U
      generalize k0_pay9 (F := Ideal) _ _ _ = V
      generalize (iblk m c 4 t : Vec Ideal S8x128x128 .f32) = A
      generalize (iblk m c 5 t : Vec Ideal S128x8 .f32) = B
      pointwise
      blk_point []
      exact congrArg (BitVec.ofNat 32) (by omega)
  have hc : (t : ℕ) < 64 := lt_of_lt_of_eq t.isLt N_0
  rw [show y = ix3 0 (y 1) (y 2) from by blk_ext]
  refine (block_at (X := fun b t d => m ((c.tc : Thread nD τ).loc main_arg0) (ix3 b t d)) (g := fun d => m ((c.tc : Thread nD τ).loc main_arg1) (ix1 d))
      (w := fun d j => m ((c.tc : Thread nD τ).loc main_arg2) (ix2 d j)) (gv := fun d => m ((c.tc : Thread nD τ).loc main_arg3) (ix1 d))
      (ws := fun b t d => m ((c.tc : Thread nD τ).loc main_arg4) (ix3 b t d)) (bs := fun d j => m ((c.tc : Thread nD τ).loc main_arg5) (ix2 d j))
      (wo := fun d j => m ((c.tc : Thread nD τ).loc main_arg6) (ix2 d j)) (b := ⟨t / 8, by omega⟩) (T := fun r => ⟨t % 8 * 256 + r, by omega⟩) (?_) ?_ ?_ ?_ ?_ ?_ ?_ (i := t % 8) (fun _ => rfl) (y 1) (y 2)).trans ?_
  · intro r d; blk_point [iblk, V, idx t]
  · intro d; blk_point [iblk, V, idx t]
  · intro d j; blk_point [iblk, V, idx t]
  · intro j; blk_point [iblk, V, idx t]
  · intro a p q; blk_point [iblk, V, idx t]
  · intro p a; blk_point [iblk, V, idx t]
  · intro j d; blk_point [iblk, V, idx t]
  · refine congr (congr (congrArg _ ?_) ?_) ?_
    all_goals
      refine Fin.ext ?_
      blk_simp [idx t]
    rfl

end Cert.SguIdeal.Value
-- ==== Proof.SguRefValue.lean ====
module

public import proofs.«01_k».proof.Defs
public import proofs.«01_k».proof.Proof.Gen.SguRefIdeal.Run
public import proofs.«01_k».proof.Proof.SguSpec
public import Idealize.ShloMosaic.Lib.Pointwise

@[expose] public section

set_option maxRecDepth 16384

noncomputable section

namespace Cert.SguRefIdeal.Value

open Cert.SguRefIdeal Cert.SguRefIdeal.Gen Idealize.ShloMosaic Idealize.ShloMosaic.TcCoe Idealize.SL.Sem Idealize.ShloMosaic.StableHlo

/-- The normalised rows the projections read. -/
def rH (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The activated projection. -/
def rZ (h : FVec Ideal S8x2048x1024 .f32) (w : FVec Ideal S1024x4096 .f32) : FVec Ideal S8x2048x4096 .f32 :=
  mulf (mulf (broadcastInDim S8x2048x4096 ![] bcast_S_S8x2048x4096 (constant S_ .f32 0x3F000000#32)) (Host.dotGeneral dot_S8x2048x1024_S1024x4096_S8x2048x4096_2_0_01_1_n_n none h w)) (addf (broadcastInDim S8x2048x4096 ![] bcast_S_S8x2048x4096 (constant S_ .f32 0x3F800000#32)) (Host.erf (mulf (Host.dotGeneral dot_S8x2048x1024_S1024x4096_S8x2048x4096_2_0_01_1_n_n none h w) (broadcastInDim S8x2048x4096 ![] bcast_S_S8x2048x4096 (constant S_ .f32 0x3F3504F3#32)))))

/-- The normalised value half. -/
def rV (z : FVec Ideal S8x2048x4096 .f32) (g : FVec Ideal S2048 .f32) : FVec Ideal S8x2048x2048 .f32 :=
  mulf (mulf (extractStridedSlice S8x2048x2048 ![0, 0, 2048] z slices_S8x2048x4096_S8x2048x2048_0_0_2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (extractStridedSlice S8x2048x2048 ![0, 0, 2048] z slices_S8x2048x4096_S8x2048x2048_0_0_2048) (extractStridedSlice S8x2048x2048 ![0, 0, 2048] z slices_S8x2048x4096_S8x2048x2048_0_0_2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))

/-- The mixed values, each chunk of rows through the masked weights of its group of lanes. -/
def rM (v : FVec Ideal S8x2048x2048 .f32) (w : FVec Ideal S8x128x128 .f32) (b : FVec Ideal S8x128 .f32) : FVec Ideal S8x2048x2048 .f32 :=
  shapeCast S8x2048x2048 (addf (transpose S8x16x128x8x256 [1, 2, 4, 0, 3] (Host.dotGeneral dot_S8x16x128x8x256_S8x128x128_S8x8x16x256x128_2_2_014_1_3_0 none (shapeCast S8x16x128x8x256 v shapeCasts_S8x2048x2048_S8x16x128x8x256) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (id (constant (F := Ideal) S_ .f32 0x00000000#32))))) transposes_S8x8x16x256x128_S8x16x128x8x256_1_2_4_0_3) (broadcastInDim S8x16x128x8x256 ![0, 1, 2, 3, 4] bcast_S1x1x128x8x1_S8x16x128x8x256_0_1_2_3_4 (broadcastInDim S1x1x128x8x1 ![2, 3] bcast_S128x8_S1x1x128x8x1_2_3 (transpose S128x8 [1, 0] b transposes_S8x128_S128x8_1_0)))) shapeCasts_S8x16x128x8x256_S8x2048x2048

/-- The layer's output from its input, the activated projection and the mixed values. -/
def rO (x : FVec Ideal S8x2048x1024 .f32) (z : FVec Ideal S8x2048x4096 .f32) (mx : FVec Ideal S8x2048x2048 .f32) (wo : FVec Ideal S2048x1024 .f32) : FVec Ideal S8x2048x1024 .f32 :=
  addf x (Host.dotGeneral dot_S8x2048x2048_S2048x1024_S8x2048x1024_2_0_01_1_n_n none (mulf (extractStridedSlice S8x2048x2048 ![0, 0, 0] z slices_S8x2048x4096_S8x2048x2048_0_0_0) mx) wo)

theorem res_eq (m : (ℓ : Loc nD τ sig) → Buf (Elt Ideal) ℓ) (c : Dev nD) :
    res_main_v51 m c = rO (m ((c.tc : Thread nD τ).loc main_arg0))
      (rZ (rH (m ((c.tc : Thread nD τ).loc main_arg0)) (m ((c.tc : Thread nD τ).loc main_arg1))) (m ((c.tc : Thread nD τ).loc main_arg2)))
      (rM (rV (rZ (rH (m ((c.tc : Thread nD τ).loc main_arg0)) (m ((c.tc : Thread nD τ).loc main_arg1))) (m ((c.tc : Thread nD τ).loc main_arg2)))
        (m ((c.tc : Thread nD τ).loc main_arg3))) (m ((c.tc : Thread nD τ).loc main_arg4)) (m ((c.tc : Thread nD τ).loc main_arg5)))
      (m ((c.tc : Thread nD τ).loc main_arg6)) := by
  unfold res_main_v51 rO rM rV rZ rH; rfl

theorem rH_at (x : FVec Ideal S8x2048x1024 .f32) (g : FVec Ideal S1024 .f32) (b : Fin 8) (t : Fin 2048) (d : Fin 1024) :
    rH x g (ix3 b t d) = SguSpec.rms (Ideal.ofBits .f32 0x44800000#32) (fun d => x (ix3 b t d)) (fun d => g (ix1 d)) d := by
  pointwise [rH, SguSpec.rms]

theorem rZ_at (h : FVec Ideal S8x2048x1024 .f32) (w : FVec Ideal S1024x4096 .f32) (b : Fin 8) (t : Fin 2048) (j : Fin 4096) :
    rZ h w (ix3 b t j) = SguSpec.gelu (∑ d : Fin 1024, h (ix3 b t d) * w (ix2 d j)) := by
  pointwise [rZ, SguSpec.gelu]

theorem rV_at (z : FVec Ideal S8x2048x4096 .f32) (g : FVec Ideal S2048 .f32) (b : Fin 8) (t : Fin 2048) (j : Fin 2048) :
    rV z g (ix3 b t j) = SguSpec.rms (Ideal.ofBits .f32 0x45000000#32) (fun j : Fin 2048 => z (ix3 b t ⟨2048 + j, by omega⟩)) (fun j => g (ix1 j)) j := by
  pointwise [rV, SguSpec.rms]

theorem rM_at (v : FVec Ideal S8x2048x2048 .f32) (w : FVec Ideal S8x128x128 .f32) (a : FVec Ideal S8x128 .f32) (b : Fin 8) (t : Fin 2048) (j : Fin 2048) :
    rM v w a (ix3 b t j) = ∑ s : Fin 128, (if (s : ℕ) ≤ (t : ℕ) % 128 then
      w (ix3 ⟨(j : ℕ) / 256, by omega⟩ ⟨(t : ℕ) % 128, by omega⟩ s) * v (ix3 b ⟨(t : ℕ) / 128 * 128 + s, by omega⟩ j) else 0) +
      a (ix2 ⟨(j : ℕ) / 256, by omega⟩ ⟨(t : ℕ) % 128, by omega⟩) := by
  pointwise [rM]
  refine congrArg (· + _) (Finset.sum_congr rfl fun s _ => ?_)
  rw [SguSpec.select_sge _ _ s.isLt (Nat.mod_lt _ (by decide))]
  split
  · exact mul_comm _ _
  · exact (congrArg (_ * ·) (Ideal.ofBits_zero .f32)).trans (mul_zero _)

theorem rO_at (x : FVec Ideal S8x2048x1024 .f32) (z : FVec Ideal S8x2048x4096 .f32) (mx : FVec Ideal S8x2048x2048 .f32) (wo : FVec Ideal S2048x1024 .f32)  (b : Fin 8) (t : Fin 2048) (d : Fin 1024) :
    rO x z mx wo (ix3 b t d) = x (ix3 b t d) + ∑ j : Fin 2048, z (ix3 b t ⟨j, by omega⟩) * mx (ix3 b t j) * wo (ix2 j d) := by
  pointwise [rO]

/-- The reference's result, entry by entry. -/
theorem res_at (m : (ℓ : Loc nD τ sig) → Buf (Elt Ideal) ℓ) (c : Dev nD) (b : Fin 8) (t : Fin 2048) (d : Fin 1024) :
    res_main_v51 m c (ix3 b t d) = SguSpec.out (fun b t d => m ((c.tc : Thread nD τ).loc main_arg0) (ix3 b t d)) (fun d => m ((c.tc : Thread nD τ).loc main_arg1) (ix1 d))
      (fun d j => m ((c.tc : Thread nD τ).loc main_arg2) (ix2 d j)) (fun d => m ((c.tc : Thread nD τ).loc main_arg3) (ix1 d))
      (fun b t d => m ((c.tc : Thread nD τ).loc main_arg4) (ix3 b t d)) (fun d j => m ((c.tc : Thread nD τ).loc main_arg5) (ix2 d j))
      (fun d j => m ((c.tc : Thread nD τ).loc main_arg6) (ix2 d j)) b t d := by
  rw [res_eq, rO_at]
  simp only [rM_at, rV_at, rZ_at, rH_at]
  rfl

end Cert.SguRefIdeal.Value
-- ==== Proof.SguClaim.lean ====
module

public import proofs.«01_k».proof.Proof.SguK
public import proofs.«01_k».proof.Proof.SguRefValue
public import Idealize.ShloMosaic.Lib.Claim

@[expose] public section

set_option maxRecDepth 16384

noncomputable section

namespace Cert.SguClaim

open Idealize.ShloMosaic Idealize.SL.Sem

theorem frame_ref : Cert.quiescent_SguRefIdeal := fun m g _ =>
  (θ_run Cert.SguRefIdeal.defs _ _).mono (fun r h => ⟨fun c => (h c).2, sem_eq_zero_of_no_sems (by decide) r.2⟩)
    (Cert.SguRefIdeal.Value.run (F := Ideal) m g)

theorem algebraic : Cert.algebraic_SguIdeal_SguRefIdeal := by
  pair_intro
  · run_from Cert.SguIdeal.Value.run_blocks m g
  · run_from Cert.SguRefIdeal.Value.run m' g'
    rw [Cert.SguIdeal.Value.final m c]
    obtain ⟨e0, e1, e2, e3, e4, e5, e6⟩ := hagree c
    funext j
    rw [show j = ix3 (j 0) (j 1) (j 2) from eq_ix3 j]
    refine (Cert.SguRefIdeal.Value.res_at m' c _ _ _).trans ?_
    rw [e0, e1, e2, e3, e4, e5, e6]
    rfl

end Cert.SguClaim
-- ==== Proof.FfnSpec.lean ====
module

public import proofs.«01_k».proof.Proof.SguSpec

@[expose] public section

/-! The gated feed-forward layer with a causal convolution of three rows, over the extended reals, entry by entry: root mean square rows, one
    projection of 5632 lanes, the convolution along the rows of a sequence (rows before the first count as zero), the gate, and the residual sum. -/

noncomputable section

namespace Cert.FfnSpec

open Idealize.ShloMosaic

/-- The gate's activation. -/
def silu (a : EReal) : EReal := a * Ideal.div 1 (1 + Ideal.exp (-a))

theorem exp_nonneg (a : EReal) : 0 ≤ Ideal.exp a := by
  induction a with
  | bot => exact le_rfl
  | top => exact le_top
  | coe r => exact EReal.coe_nonneg.mpr (Real.exp_pos r).le

theorem silu_eq (a : EReal) : Ideal.div a (1 + Ideal.exp (0 - a)) = silu a := by
  have h : 1 + Ideal.exp (-a) ≠ 0 := ne_of_gt (lt_of_lt_of_le zero_lt_one (le_add_of_nonneg_right (exp_nonneg _)))
  rw [silu, zero_sub, Ideal.div, Ideal.div, if_neg h, if_neg h, one_mul]

section
variable (x : Fin 8 → Fin 2048 → Fin 1024 → EReal) (g : Fin 1024 → EReal) (w : Fin 1024 → Fin 5632 → EReal) (cw : Fin 3 → Fin 5632 → EReal)
  (cb : Fin 5632 → EReal) (wd : Fin 2816 → Fin 1024 → EReal)

/-- The projection of a normalised row. -/
def up (b : Fin 8) (t : Fin 2048) (j : Fin 5632) : EReal :=
  ∑ d, SguSpec.rms (Ideal.ofBits .f32 0x44800000#32) (x b t) g d * w d j

/-- The projection `k` rows earlier, zero before the first row. -/
def past (k : ℕ) (b : Fin 8) (t : Fin 2048) (j : Fin 5632) : EReal :=
  if (t : ℕ) < k then 0 else up x g w b ⟨(t : ℕ) - k, by omega⟩ j

/-- The convolution along the rows. -/
def conv (b : Fin 8) (t : Fin 2048) (j : Fin 5632) : EReal :=
  cb j + cw 0 j * past x g w 2 b t j + cw 1 j * past x g w 1 b t j + cw 2 j * up x g w b t j

/-- The gated lanes. -/
def act (b : Fin 8) (t : Fin 2048) (j : Fin 2816) : EReal :=
  silu (conv x g w cw cb b t ⟨j, by omega⟩) * conv x g w cw cb b t ⟨2816 + j, by omega⟩

/-- The layer. -/
def out (b : Fin 8) (t : Fin 2048) (d : Fin 1024) : EReal :=
  x b t d + ∑ j : Fin 2816, act x g w cw cb b t j * wd j d

/-- The rows a later call starts from: the projection's last two, its lanes in 22 groups of 256. -/
def state (b : Fin 8) (i : Fin 22) (k : Fin 2) (l : Fin 256) : EReal :=
  up x g w b ⟨2046 + k, by omega⟩ ⟨(i : ℕ) * 256 + l, by omega⟩
end

end Cert.FfnSpec
-- ==== Proof.FfnReads.lean ====
module

public import proofs.«01_k».proof.Defs
public import proofs.«01_k».proof.Proof.FfnSpec
public import Idealize.ShloMosaic.Lib.WritesUnit
public import Idealize.ShloMosaic.Lib.Pointwise
public import Idealize.ShloMosaic.Lib.Pipeline.ValueKit
public import Idealize.ShloMosaic.Lib.Pipeline.ReadBack

@[expose] public section

/-! Loads of 512 rows that begin in the eight rows carried from the tile before and end in the rows just stored. -/

set_option maxRecDepth 16384

noncomputable section

namespace Cert.FfnIdeal.Value

open Cert.FfnIdeal Idealize.ShloMosaic Idealize.ShloMosaic.TcCoe Idealize.SL.Sem Idealize.ShloMosaic.StableHlo

/-- Rows `k` and on of eight rows `h` followed by the 512 rows `u`. -/
def strad (k : ℕ) (u : Vec Ideal S1x512x256 .f32) (h : Vec Ideal S1x8x256 .f32) : Vec Ideal S1x512x256 .f32 :=
  fun j => if hk : k + (j 1 : ℕ) < 8 then h (ix3 0 ⟨k + j 1, hk⟩ (j 2)) else u (ix3 0 ⟨(k + j 1 - 8) % 512, by omega⟩ (j 2))

/-- The last eight of 512 rows. -/
def tail (u : Vec Ideal S1x512x256 .f32) : Vec Ideal S1x8x256 .f32 := fun j => u (ix3 0 ⟨504 + j 1, by have : (j 1 : ℕ) < 8 := (j 1).isLt; omega⟩ (j 2))

/-- The projection of a tile's normalised rows `hb`, group `i` of 256 lanes. -/
def upK (hb : Vec Ideal S512x1024 .bf16) (wu : Vec Ideal S22x1024x256 .bf16) (i : Fin 22) (r : Fin 512) (l : Fin 256) : EReal :=
  ∑ d : Fin 1024, hb (ix2 r d) * wu (ix3 i d l)

/-- The eight carried rows `hd` followed by the projection, from row `k` on. -/
def eK (hb : Vec Ideal S512x1024 .bf16) (wu : Vec Ideal S22x1024x256 .bf16) (hd : Fin 22 → Fin 8 → Fin 256 → EReal) (k : ℕ) (i : Fin 22) (r : Fin 512) (l : Fin 256) : EReal :=
  if hk : k + (r : ℕ) < 8 then hd i ⟨k + r, hk⟩ l else upK hb wu i ⟨(k + r - 8) % 512, by omega⟩ l

def convK (hb : Vec Ideal S512x1024 .bf16) (wu : Vec Ideal S22x1024x256 .bf16) (cw : Vec Ideal S22x3x256 .f32) (cb : Vec Ideal S22x1x256 .f32)
    (hd : Fin 22 → Fin 8 → Fin 256 → EReal) (i : Fin 22) (r : Fin 512) (l : Fin 256) : EReal :=
  cb (ix3 i 0 l) + cw (ix3 i 0 l) * eK hb wu hd 6 i r l + cw (ix3 i 1 l) * eK hb wu hd 7 i r l + cw (ix3 i 2 l) * upK hb wu i r l

/-- The gated lanes of a tile. -/
def actK (hb : Vec Ideal S512x1024 .bf16) (wu : Vec Ideal S22x1024x256 .bf16) (cw : Vec Ideal S22x3x256 .f32) (cb : Vec Ideal S22x1x256 .f32)
    (hd : Fin 22 → Fin 8 → Fin 256 → EReal) : Vec Ideal S512x2816 .bf16 := fun j =>
  FfnSpec.silu (convK hb wu cw cb hd ⟨(j 1 : ℕ) / 256, by have : (j 1 : ℕ) < 2816 := (j 1).isLt; omega⟩ (j 0) ⟨(j 1 : ℕ) % 256, by omega⟩)
    * convK hb wu cw cb hd ⟨11 + (j 1 : ℕ) / 256, by have : (j 1 : ℕ) < 2816 := (j 1).isLt; omega⟩ (j 0) ⟨(j 1 : ℕ) % 256, by omega⟩

theorem actK_at (hb : Vec Ideal S512x1024 .bf16) (wu : Vec Ideal S22x1024x256 .bf16) (cw : Vec Ideal S22x3x256 .f32) (cb : Vec Ideal S22x1x256 .f32)
    (hd : Fin 22 → Fin 8 → Fin 256 → EReal) {j : S512x2816.Idx} {x : S512x256.Idx} (i i' : Fin 22) (h0 : (j 0 : ℕ) = (x 0 : ℕ)) (h1 : (j 1 : ℕ) = i * 256 + (x 1 : ℕ))
    (hi : (i' : ℕ) = 11 + i) :
    actK hb wu cw cb hd j = FfnSpec.silu (convK hb wu cw cb hd i (x 0) (x 1)) * convK hb wu cw cb hd i' (x 0) (x 1) := by
  have hx : (x 1 : ℕ) < 256 := (x 1).isLt
  have e0 : j 0 = x 0 := Fin.ext h0
  have e1 : ∀ h, (⟨(j 1 : ℕ) / 256, h⟩ : Fin 22) = i := fun h => Fin.ext (by dsimp only; omega)
  have e2 : ∀ h, (⟨11 + (j 1 : ℕ) / 256, h⟩ : Fin 22) = i' := fun h => Fin.ext (by dsimp only; omega)
  have e3 : ∀ h, (⟨(j 1 : ℕ) % 256, h⟩ : Fin 256) = x 1 := fun h => Fin.ext (by dsimp only; omega)
  rw [actK, e0, e1, e2, e3]

/-- What the carried buffer holds after a tile: the tile's projection from row 8 on, and its last eight rows again before it. -/
def scrK (hb : Vec Ideal S512x1024 .bf16) (wu : Vec Ideal S22x1024x256 .bf16) : Vec Ideal S22x520x256 .f32 := fun j =>
  upK hb wu (j 0) ⟨((j 1 : ℕ) + 504) % 512, by omega⟩ (j 2)

/-- A load of all gated lanes after stores that leave `G`. -/
theorem read_whole_of {sig' : RefSig} {κ : Kind} {sp : Space} (v : View sig' κ sp S512x2816 .bf16) (L : List (View.Piece (Elt Ideal) S512x2816 .bf16)) (G : Vec Ideal S512x2816 .bf16) (h1)
    (h : ∀ y, View.canon L y = G y) : v.readCov L (Rect.unit (s := S512x2816) ![0, 0] ![512, 2816] h1).toLoadRect = G := by
  rw [View.readCov_eq_canon']
  funext j
  rw [h]
  idx_vars j
  exact congrArg G (by blk_ext <;> simp)

section reads
variable {sig' : RefSig} {κ : Kind} {sp : Space} (v : View sig' κ sp S22x520x256 .f32) (f : v.ty.Contents (Elt Ideal))

theorem readAt_skip (r : Rect S22x520x256) (w : r.shape.Idx → Elt Ideal .f32) (L : List (View.Piece (Elt Ideal) S22x520x256 .f32)) (B : LoadRect S22x520x256)
    (h : LoadRect.disj r B = true) : v.readAt (Elt Ideal) B (v.writes (Elt Ideal) f (⟨r, w⟩ :: L)) = v.readAt (Elt Ideal) B (v.writes (Elt Ideal) f L) :=
  funext fun j => View.read_writes_cons_miss v f ⟨r, w⟩ L (B.idx j) (LoadRect.idx_not_mem_of_disj h j)

/-- The stores to another group of lanes are passed over, two at a time. -/
theorem readAt_group {i i' : ℕ} {size : Fin 3 → ℕ} (k : ℕ) (h1) (h2) (h3) (w : Vec Ideal S1x8x256 .f32) (u : Vec Ideal S1x512x256 .f32)
    (L : List (View.Piece (Elt Ideal) S22x520x256 .f32)) (hs : size 0 = 1) (hi : i ≠ i') :
    v.readAt (Elt Ideal) (Rect.unit (s := S22x520x256) ![i, k, 0] size h1).toLoadRect
      (v.writes (Elt Ideal) f (⟨Rect.unit (s := S22x520x256) ![i', 0, 0] S1x8x256.size h2, w⟩ :: ⟨Rect.unit (s := S22x520x256) ![i', 8, 0] S1x512x256.size h3, u⟩ :: L))
      = v.readAt (Elt Ideal) (Rect.unit (s := S22x520x256) ![i, k, 0] size h1).toLoadRect (v.writes (Elt Ideal) f L) := by
  funext j
  have e0 : (j 0 : ℕ) < 1 := lt_of_lt_of_eq (j 0).isLt hs
  have e : i + 1 * (j 0 : ℕ) < i' ∨ i' + 1 ≤ i + 1 * (j 0 : ℕ) := by omega
  exact (View.read_writes_cons_unit_of_not_mem v f h2 w _ _ rfl 0 e).trans (View.read_writes_cons_unit_of_not_mem v f h3 u L _ rfl 0 e)

theorem readCov_group {i i' : ℕ} {size : Fin 3 → ℕ} (k : ℕ) (h1) (h2) (h3) (w : Vec Ideal S1x8x256 .f32) (u : Vec Ideal S1x512x256 .f32)
    (L : List (View.Piece (Elt Ideal) S22x520x256 .f32)) (hs : size 0 = 1) (hi : i ≠ i') :
    v.readCov (Val := Elt Ideal) (⟨Rect.unit (s := S22x520x256) ![i', 0, 0] S1x8x256.size h2, w⟩ :: ⟨Rect.unit (s := S22x520x256) ![i', 8, 0] S1x512x256.size h3, u⟩ :: L)
      (Rect.unit (s := S22x520x256) ![i, k, 0] size h1).toLoadRect
      = v.readCov L (Rect.unit (s := S22x520x256) ![i, k, 0] size h1).toLoadRect :=
  readAt_group v v.junk k h1 h2 h3 w u L hs hi

theorem readAt_tail {i : ℕ} (h1) (h2) (u : Vec Ideal S1x512x256 .f32) (L : List (View.Piece (Elt Ideal) S22x520x256 .f32)) :
    v.readAt (Elt Ideal) (Rect.unit (s := S22x520x256) ![i, 512, 0] S1x8x256.size h1).toLoadRect
      (v.writes (Elt Ideal) f (⟨Rect.unit (s := S22x520x256) ![i, 8, 0] S1x512x256.size h2, u⟩ :: L)) = tail u := by
  funext j
  have e0 : (j 0 : ℕ) < 1 := (j 0).isLt
  have e1 : (j 1 : ℕ) < 8 := (j 1).isLt
  exact View.read_writes_cons_unit_of_mem v f h2 u L _ (ix3 0 ⟨504 + j 1, by omega⟩ (j 2) : S1x512x256.Idx) rfl (show ∀ a : Fin 3, _ from fun
    | 0 => (show i + 1 * (j 0 : ℕ) = i + 0 by omega)
    | 1 => (show 512 + 1 * (j 1 : ℕ) = 8 + (504 + (j 1 : ℕ)) by omega)
    | 2 => (show 0 + 1 * (j 2 : ℕ) = 0 + (j 2 : ℕ) by omega))

theorem readCov_tail {i : ℕ} (h1) (h2) (u : Vec Ideal S1x512x256 .f32) (L : List (View.Piece (Elt Ideal) S22x520x256 .f32)) :
    v.readCov (Val := Elt Ideal) (⟨Rect.unit (s := S22x520x256) ![i, 8, 0] S1x512x256.size h2, u⟩ :: L)
      (Rect.unit (s := S22x520x256) ![i, 512, 0] S1x8x256.size h1).toLoadRect = tail u :=
  readAt_tail v v.junk h1 h2 u L

theorem inb_head {i k : ℕ} (h1 : ∀ a, (![i, k, 0] : Fin 3 → ℕ) a + S1x512x256.size a ≤ S22x520x256.size a) :
    ∀ a, (![i, 0, 0] : Fin 3 → ℕ) a + S1x8x256.size a ≤ S22x520x256.size a := fun
    | 0 => h1 0
    | 1 => (show 0 + 8 ≤ 520 by omega)
    | 2 => (show 0 + 256 ≤ 256 by omega)

theorem readAt_strad {i k : ℕ} (h1) (h2) (u : Vec Ideal S1x512x256 .f32) (L : List (View.Piece (Elt Ideal) S22x520x256 .f32)) :
    v.readAt (Elt Ideal) (Rect.unit (s := S22x520x256) ![i, k, 0] S1x512x256.size h1).toLoadRect
      (v.writes (Elt Ideal) f (⟨Rect.unit (s := S22x520x256) ![i, 8, 0] S1x512x256.size h2, u⟩ :: L))
      = strad k u (v.readAt (Elt Ideal) (Rect.unit (s := S22x520x256) ![i, 0, 0] S1x8x256.size (inb_head h1)).toLoadRect (v.writes (Elt Ideal) f L)) := by
  funext j
  have e0 : (j 0 : ℕ) < 1 := (j 0).isLt
  have e1 : (j 1 : ℕ) < 512 := (j 1).isLt
  have hk : k + 512 ≤ 520 := h1 1
  rw [strad]
  split
  · rename_i hj
    refine (View.read_writes_cons_unit_of_not_mem v f h2 u L _ rfl 1 (.inl (show k + 1 * (j 1 : ℕ) < 8 by omega))).trans (congrArg (v.read (Elt Ideal) _) ?_)
    exact funext (show ∀ a : Fin 3, _ from fun
      | 0 => Fin.ext (show i + 1 * (j 0 : ℕ) = i + 1 * 0 by omega)
      | 1 => Fin.ext (show k + 1 * (j 1 : ℕ) = 0 + 1 * (k + (j 1 : ℕ)) by omega)
      | 2 => Fin.ext (show 0 + 1 * (j 2 : ℕ) = 0 + 1 * (j 2 : ℕ) by omega))
  · exact View.read_writes_cons_unit_of_mem v f h2 u L _ (ix3 0 ⟨(k + j 1 - 8) % 512, by omega⟩ (j 2) : S1x512x256.Idx) rfl (show ∀ a : Fin 3, _ from fun
      | 0 => (show i + 1 * (j 0 : ℕ) = i + 0 by omega)
      | 1 => (show k + 1 * (j 1 : ℕ) = 8 + (k + (j 1 : ℕ) - 8) % 512 by omega)
      | 2 => (show 0 + 1 * (j 2 : ℕ) = 0 + (j 2 : ℕ) by omega))

theorem readCov_strad {i k : ℕ} (h1) (h2) (u : Vec Ideal S1x512x256 .f32) (L : List (View.Piece (Elt Ideal) S22x520x256 .f32)) :
    v.readCov (Val := Elt Ideal) (⟨Rect.unit (s := S22x520x256) ![i, 8, 0] S1x512x256.size h2, u⟩ :: L)
      (Rect.unit (s := S22x520x256) ![i, k, 0] S1x512x256.size h1).toLoadRect
      = strad k u (v.readCov L (Rect.unit (s := S22x520x256) ![i, 0, 0] S1x8x256.size (inb_head h1)).toLoadRect) :=
  readAt_strad v v.junk h1 h2 u L

/-- The rows handed to the launch, read back group by group. -/
theorem readCov_prev (p : Vec Ideal S22x8x256 .f32) {i : ℕ} (hi : i < 22) (h1) (h2) :
    v.readCov (Val := Elt Ideal) [⟨Rect.unit (s := S22x520x256) ![0, 0, 0] S22x8x256.size h1, p⟩]
      (Rect.unit (s := S22x520x256) ![i, 0, 0] S1x8x256.size h2).toLoadRect = fun j => p (ix3 ⟨i, hi⟩ (j 1) (j 2)) := by
  funext j
  have e0 : (j 0 : ℕ) < 1 := (j 0).isLt
  exact View.read_writes_cons_unit_of_mem v v.junk h1 p [] _ (ix3 ⟨i, hi⟩ (j 1) (j 2) : S22x8x256.Idx) rfl (show ∀ a : Fin 3, _ from fun
    | 0 => (show i + 1 * (j 0 : ℕ) = 0 + i by omega)
    | 1 => (show 0 + 1 * (j 1 : ℕ) = 0 + (j 1 : ℕ) by omega)
    | 2 => (show 0 + 1 * (j 2 : ℕ) = 0 + (j 2 : ℕ) by omega))

include v in
/-- The two stores of a group leave `G`'s values at the group's indices. -/
theorem canon_group (G : Vec Ideal S22x520x256 .f32) {i : ℕ} (h1) (h2) (w : Vec Ideal S1x8x256 .f32) (u : Vec Ideal S1x512x256 .f32)
    (L : List (View.Piece (Elt Ideal) S22x520x256 .f32)) (y : S22x520x256.Idx)
    (hw : ∀ q : Fin 8, (y 0 : ℕ) = i → (y 1 : ℕ) = q → w (ix3 0 q (y 2)) = G y) (hu : ∀ r : Fin 512, (y 0 : ℕ) = i → (y 1 : ℕ) = 8 + r → u (ix3 0 r (y 2)) = G y)
    (hL : (y 0 : ℕ) ≠ i → View.canon L y = G y) :
    View.canon (⟨Rect.unit (s := S22x520x256) ![i, 0, 0] S1x8x256.size h1, w⟩ :: ⟨Rect.unit (s := S22x520x256) ![i, 8, 0] S1x512x256.size h2, u⟩ :: L) y = G y := by
  rw [← View.read_writes_junk_eq_canon v] at hL ⊢
  have hy : (y 1 : ℕ) < 520 := (y 1).isLt
  by_cases e : (y 0 : ℕ) = i
  · by_cases e1 : (y 1 : ℕ) < 8
    · refine (View.read_writes_cons_unit_of_mem v _ h1 w _ y (ix3 0 ⟨y 1, e1⟩ (y 2) : S1x8x256.Idx) rfl (show ∀ a : Fin 3, _ from fun
        | 0 => (show (y 0 : ℕ) = i + 0 by omega)
        | 1 => (show (y 1 : ℕ) = 0 + (y 1 : ℕ) by omega)
        | 2 => (show (y 2 : ℕ) = 0 + (y 2 : ℕ) by omega))).trans (hw ⟨y 1, e1⟩ e rfl)
    · refine (View.read_writes_cons_unit_of_not_mem v _ h1 w _ y rfl 1 (.inr (show 0 + 8 ≤ (y 1 : ℕ) by omega))).trans ?_
      refine (View.read_writes_cons_unit_of_mem v _ h2 u _ y (ix3 0 ⟨y 1 - 8, by omega⟩ (y 2) : S1x512x256.Idx) rfl (show ∀ a : Fin 3, _ from fun
        | 0 => (show (y 0 : ℕ) = i + 0 by omega)
        | 1 => (show (y 1 : ℕ) = 8 + ((y 1 : ℕ) - 8) by omega)
        | 2 => (show (y 2 : ℕ) = 0 + (y 2 : ℕ) by omega))).trans (hu ⟨y 1 - 8, by omega⟩ e (by dsimp only; omega))
  · have h : (y 0 : ℕ) < i ∨ i + 1 ≤ (y 0 : ℕ) := by omega
    exact (View.read_writes_cons_unit_of_not_mem v _ h1 w _ y rfl 0 h).trans ((View.read_writes_cons_unit_of_not_mem v _ h2 u L y rfl 0 h).trans (hL e))

end reads

end Cert.FfnIdeal.Value
-- ==== Proof.FfnTile.lean ====
module

public import proofs.«01_k».proof.Defs
public import proofs.«01_k».proof.Proof.FfnSpec
public import proofs.«01_k».proof.Proof.Gen.FfnIdeal.Skeleton
public import proofs.«01_k».proof.Proof.FfnReads
public import Idealize.ShloMosaic.Lib.Pointwise
public import Idealize.ShloMosaic.Lib.Pipeline.ValueKit
public import Idealize.ShloMosaic.Lib.Pipeline.ReadBack

@[expose] public section

/-! One tile of the layer, from the blocks the launch hands the body and the rows carried from the tile before. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

/-- A group's projection, stored. -/
theorem u_at (hb : Vec Ideal S512x1024 .bf16) (W : Vec Ideal S1x1024x256 .bf16) (r : Fin 512) (l : Fin 256) :
    k0_pay7 (F := Ideal) hb W (ix3 0 r l) = ∑ d : Fin 1024, hb (ix2 r d) * W (ix3 0 d l) := by
  pointwise [k0_pay7, k0_pay6]

/-- The rows handed on are only cast back and forth. -/
theorem pay9_eq (w : Vec Ideal S1x8x256 .f32) : k0_pay9 (F := Ideal) w = w := by
  funext j
  pointwise [k0_pay9]

/-- One group's convolution, from its loads. -/
def convV (hb : Vec Ideal S512x1024 .bf16) (W : Vec Ideal S1x1024x256 .bf16) (C : Vec Ideal S1x3x256 .f32) (B : Vec Ideal S1x1x256 .f32)
    (s6 s7 : Vec Ideal S1x512x256 .f32) (r : Fin 512) (l : Fin 256) : EReal :=
  B (ix3 0 0 l) + C (ix3 0 0 l) * s6 (ix3 0 r l) + C (ix3 0 1 l) * s7 (ix3 0 r l) + C (ix3 0 2 l) * ∑ d : Fin 1024, hb (ix2 r d) * W (ix3 0 d l)

theorem chunkV_at (hb : Vec Ideal S512x1024 .bf16) (W : Vec Ideal S1x1024x256 .bf16) (C : Vec Ideal S1x3x256 .f32) (B : Vec Ideal S1x1x256 .f32)
    (s6 s7 : Vec Ideal S1x512x256 .f32) (W' : Vec Ideal S1x1024x256 .bf16) (C' : Vec Ideal S1x3x256 .f32) (B' : Vec Ideal S1x1x256 .f32)
    (s6' s7' : Vec Ideal S1x512x256 .f32) (r : Fin 512) (l : Fin 256) :
    k0_pay13 (F := Ideal) (k0_pay8 (k0_pay6 hb W) C B s6 s7) (k0_pay10 hb W') C' B' s6' s7' (ix2 r l)
      = FfnSpec.silu (convV hb W C B s6 s7 r l) * convV hb W' C' B' s6' s7' r l := by
  pointwise [k0_pay13, k0_pay8, k0_pay6, k0_pay10]
  rw [FfnSpec.silu_eq]
  rfl

/-- The loads of one group, in the blocks. -/
theorem convV_eq (hb : Vec Ideal S512x1024 .bf16) (wu : Vec Ideal S22x1024x256 .bf16) (cw : Vec Ideal S22x3x256 .f32) (cb : Vec Ideal S22x1x256 .f32)
    (hd : Fin 22 → Fin 8 → Fin 256 → EReal) {i : ℕ} (hi : i < 22) (h1) (h2) (h3) (H : Vec Ideal S1x8x256 .f32) (hH : ∀ q l, H (ix3 0 q l) = hd ⟨i, hi⟩ q l)
    (r : Fin 512) (l : Fin 256) :
    convV hb (View.ld wu (Rect.unit (s := S22x1024x256) ![i, 0, 0] S1x1024x256.size h1)) (View.ld cw (Rect.unit (s := S22x3x256) ![i, 0, 0] S1x3x256.size h2))
      (View.ld cb (Rect.unit (s := S22x1x256) ![i, 0, 0] S1x1x256.size h3))
      (strad 6 (k0_pay7 hb (View.ld wu (Rect.unit (s := S22x1024x256) ![i, 0, 0] S1x1024x256.size h1))) H)
      (strad 7 (k0_pay7 hb (View.ld wu (Rect.unit (s := S22x1024x256) ![i, 0, 0] S1x1024x256.size h1))) H) r l = convK hb wu cw cb hd ⟨i, hi⟩ r l := by
  have eW : ∀ d l, View.ld wu (Rect.unit (s := S22x1024x256) ![i, 0, 0] S1x1024x256.size h1) (ix3 0 d l) = wu (ix3 ⟨i, hi⟩ d l) := fun d l => by
    exact congrArg wu (by blk_ext <;> simp)
  have eC : ∀ k l, View.ld cw (Rect.unit (s := S22x3x256) ![i, 0, 0] S1x3x256.size h2) (ix3 0 k l) = cw (ix3 ⟨i, hi⟩ k l) := fun d l => by
    exact congrArg cw (by blk_ext <;> simp)
  have eB : ∀ l, View.ld cb (Rect.unit (s := S22x1x256) ![i, 0, 0] S1x1x256.size h3) (ix3 0 0 l) = cb (ix3 ⟨i, hi⟩ 0 l) := fun l => by
    exact congrArg cb (by blk_ext <;> simp)
  have eS : ∀ k r l, strad k (k0_pay7 hb (View.ld wu (Rect.unit (s := S22x1024x256) ![i, 0, 0] S1x1024x256.size h1))) H (ix3 0 r l) = eK hb wu hd k ⟨i, hi⟩ r l := fun k r l => by
    rw [strad, eK]
    refine dite_congr rfl (fun hk => hH _ _) fun hk => ?_
    refine (u_at hb _ _ _).trans ?_
    exact Finset.sum_congr rfl fun d _ => congrArg _ (eW d l)
  rw [convV, convK, upK]
  simp only [eW, eC, eB, eS]

/-- Eleven stores' worth of gated lanes: one of them. -/
theorem chunk_at (hb : Vec Ideal S512x1024 .bf16) (wu : Vec Ideal S22x1024x256 .bf16) (cw : Vec Ideal S22x3x256 .f32) (cb : Vec Ideal S22x1x256 .f32)
    (hd : Fin 22 → Fin 8 → Fin 256 → EReal) {i i' : ℕ} (hi : i < 22) (hi' : i' < 22) (h1) (h2) (h3) (h1') (h2') (h3') (H H' : Vec Ideal S1x8x256 .f32)
    (hH : ∀ q l, H (ix3 0 q l) = hd ⟨i, hi⟩ q l) (hH' : ∀ q l, H' (ix3 0 q l) = hd ⟨i', hi'⟩ q l) {j : S512x2816.Idx} {x : S512x256.Idx}
    (e0 : (j 0 : ℕ) = (x 0 : ℕ)) (e1 : (j 1 : ℕ) = i * 256 + (x 1 : ℕ)) (e : i' = 11 + i) :
    k0_pay13 (F := Ideal) (k0_pay8 (k0_pay6 hb (View.ld wu (Rect.unit (s := S22x1024x256) ![i, 0, 0] S1x1024x256.size h1)))
        (View.ld cw (Rect.unit (s := S22x3x256) ![i, 0, 0] S1x3x256.size h2)) (View.ld cb (Rect.unit (s := S22x1x256) ![i, 0, 0] S1x1x256.size h3))
        (strad 6 (k0_pay7 hb (View.ld wu (Rect.unit (s := S22x1024x256) ![i, 0, 0] S1x1024x256.size h1))) H)
        (strad 7 (k0_pay7 hb (View.ld wu (Rect.unit (s := S22x1024x256) ![i, 0, 0] S1x1024x256.size h1))) H))
      (k0_pay10 hb (View.ld wu (Rect.unit (s := S22x1024x256) ![i', 0, 0] S1x1024x256.size h1')))
      (View.ld cw (Rect.unit (s := S22x3x256) ![i', 0, 0] S1x3x256.size h2')) (View.ld cb (Rect.unit (s := S22x1x256) ![i', 0, 0] S1x1x256.size h3'))
      (strad 6 (k0_pay7 hb (View.ld wu (Rect.unit (s := S22x1024x256) ![i', 0, 0] S1x1024x256.size h1'))) H')
      (strad 7 (k0_pay7 hb (View.ld wu (Rect.unit (s := S22x1024x256) ![i', 0, 0] S1x1024x256.size h1'))) H') x
      = actK hb wu cw cb hd j := by
  refine (congrArg _ (eq_ix2 x)).trans ((chunkV_at hb _ _ _ _ _ _ _ _ _ _ (x 0) (x 1)).trans ?_)
  exact (congrArg₂ (fun a b => FfnSpec.silu a * b) (convV_eq hb wu cw cb hd hi h1 h2 h3 H hH _ _) (convV_eq hb wu cw cb hd hi' h1' h2' h3' H' hH' _ _)).trans
    (actK_at hb wu cw cb hd ⟨i, hi⟩ ⟨i', hi'⟩ e0 e1 e).symm

/-- The eight rows kept for the next tile, of the buffer as the last tile left it. -/
theorem head_at (xs : Vec Ideal S22x520x256 .f32) {i : ℕ} (hi : i < 22) (h1) (q : Fin 8) (l : Fin 256) :
    View.ld xs (Rect.unit (s := S22x520x256) ![i, 0, 0] ![1, 8, 256] h1) (ix3 0 q l) = xs (ix3 ⟨i, hi⟩ ⟨q, by omega⟩ l) :=
  congrArg xs (by blk_ext <;> simp)

/-- At a sequence's first tile they are the rows handed to the launch. -/
theorem headA_at {sig' : RefSig} {κ : Kind} {sp : Space} (v : View sig' κ sp S22x520x256 .f32) (p : Vec Ideal S1x22x8x256 .f32) {i : ℕ} (hi : i < 22) (h1) (h2) (q : Fin 8) (l : Fin 256) :
    v.readCov (Val := Elt Ideal) [⟨Rect.unit (s := S22x520x256) ![0, 0, 0] ![22, 8, 256] h1, k0_pay5 (F := Ideal) p⟩]
      (Rect.unit (s := S22x520x256) ![i, 0, 0] ![1, 8, 256] h2).toLoadRect (ix3 0 q l) = p (ix4 0 ⟨i, hi⟩ q l) := by
  refine (congrFun (readCov_prev v (k0_pay5 (F := Ideal) p) hi h1 h2) (ix3 0 q l)).trans ?_
  show k0_pay5 (F := Ideal) p (ix3 ⟨i, hi⟩ q l) = _
  pointwise [k0_pay5]

theorem u_of (hb : Vec Ideal S512x1024 .bf16) (wu : Vec Ideal S22x1024x256 .bf16) {i : ℕ} (hi : i < 22) (h1) (r : Fin 512) (l : Fin 256) :
    k0_pay7 (F := Ideal) hb (View.ld wu (Rect.unit (s := S22x1024x256) ![i, 0, 0] ![1, 1024, 256] h1)) (ix3 0 r l) = upK hb wu ⟨i, hi⟩ r l :=
  (u_at hb _ r l).trans (Finset.sum_congr rfl fun d _ => congrArg _ (congrArg wu (by blk_ext <;> simp)))

/-- The two stores of a group leave the buffer's final contents there. -/
theorem group_at {sig' : RefSig} {κ : Kind} {sp : Space} (v : View sig' κ sp S22x520x256 .f32) (hb : Vec Ideal S512x1024 .bf16) (wu : Vec Ideal S22x1024x256 .bf16)
    {i : ℕ} (hi : i < 22) (h1) (h2) (h3)
    (L : List (View.Piece (Elt Ideal) S22x520x256 .f32)) (y : S22x520x256.Idx) (hL : (y 0 : ℕ) ≠ i → View.canon L y = scrK hb wu y) :
    View.canon (⟨Rect.unit (s := S22x520x256) ![i, 0, 0] ![1, 8, 256] h1,
        k0_pay9 (F := Ideal) (tail (k0_pay7 hb (View.ld wu (Rect.unit (s := S22x1024x256) ![i, 0, 0] ![1, 1024, 256] h3))))⟩ ::
      ⟨Rect.unit (s := S22x520x256) ![i, 8, 0] ![1, 512, 256] h2, k0_pay7 (F := Ideal) hb (View.ld wu (Rect.unit (s := S22x1024x256) ![i, 0, 0] ![1, 1024, 256] h3))⟩ :: L) y
      = scrK hb wu y := by
  rw [pay9_eq]
  refine canon_group v (scrK hb wu) h1 h2 _ _ L y (fun q e0 e1 => (u_of hb wu hi h3 _ _).trans (congr (congrArg₂ (upK hb wu) (Fin.ext e0.symm) (Fin.ext ?_)) rfl))
    (fun r e0 e1 => (u_of hb wu hi h3 _ _).trans (congr (congrArg₂ (upK hb wu) (Fin.ext e0.symm) (Fin.ext ?_)) rfl)) hL
  · show 504 + (q : ℕ) = ((y 1 : ℕ) + 504) % 512
    omega
  · show (r : ℕ) = ((y 1 : ℕ) + 504) % 512
    omega

/-- The rows handed on by the last tile. -/
theorem state_of (w : Vec Ideal S22x2x256 .f32) (i : Fin 22) (k : Fin 2) (l : Fin 256) : k0_pay2 (F := Ideal) w (ix4 0 i k l) = w (ix3 i k l) := by
  pointwise [k0_pay2]

theorem read_state_of {sig' : RefSig} {κ : Kind} {sp : Space} (v : View sig' κ sp S22x520x256 .f32) (L : List (View.Piece (Elt Ideal) S22x520x256 .f32)) (G : Vec Ideal S22x520x256 .f32) (h1)
    (h : ∀ y, View.canon L y = G y) (i : Fin 22) (k : Fin 2) (l : Fin 256) :
    v.readCov L (Rect.unit (s := S22x520x256) ![0, 6, 0] ![22, 2, 256] h1).toLoadRect (ix3 i k l) = G (ix3 i ⟨6 + k, by omega⟩ l) := by
  rw [View.readCov_eq_canon']
  exact (h _).trans (congrArg G (by blk_ext <;> simp))

/-- The gate's sum and the residual. -/
theorem out_at (x0 : Vec Ideal S1x512x1024 .f32) (M : Vec Ideal S512x2816 .bf16) (wd : Vec Ideal S2816x1024 .bf16) (r : Fin 512) (d : Fin 1024) :
    k0_pay1 (F := Ideal) (k0_pay120 (k0_pay3 x0) M wd) (ix3 0 r d) = x0 (ix3 0 r d) + ∑ j : Fin 2816, M (ix2 r j) * wd (ix2 j d) := by
  pointwise [k0_pay1, k0_pay120, k0_pay3]

/-- A tile's output rows. -/
def outK (x0 : Vec Ideal S1x512x1024 .f32) (g : Vec Ideal S1x1024 .f32) (wu : Vec Ideal S22x1024x256 .bf16) (cw : Vec Ideal S22x3x256 .f32) (cb : Vec Ideal S22x1x256 .f32)
    (hd : Fin 22 → Fin 8 → Fin 256 → EReal) (wd : Vec Ideal S2816x1024 .bf16) (r : Fin 512) (d : Fin 1024) : EReal :=
  x0 (ix3 0 r d) + ∑ j : Fin 2816, actK (k0_pay4 x0 g) wu cw cb hd (ix2 r j) * wd (ix2 j d)

end Cert.FfnIdeal.Value
-- ==== Proof.FfnTileSpec.lean ====
module

public import proofs.«01_k».proof.Defs
public import proofs.«01_k».proof.Proof.FfnSpec
public import proofs.«01_k».proof.Proof.Gen.FfnIdeal.Skeleton
public import proofs.«01_k».proof.Proof.FfnTile
public import Idealize.ShloMosaic.Lib.Pointwise
public import Idealize.ShloMosaic.Lib.Pipeline.ValueKit
public import Idealize.ShloMosaic.Lib.Pipeline.ReadBack

@[expose] public section

/-! One tile of the layer is the layer at the rows of the tile. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

theorem lane_lt (i : Fin 22) (l : Fin 256) : (i : ℕ) * 256 + l < 5632 := by omega
theorem row_lt {n : ℕ} (hn : n < 4) (r : Fin 512) : n * 512 + r < 2048 := by omega
theorem before_lt {n : ℕ} (hn : n < 4) (q : Fin 8) : n * 512 - 8 + q < 2048 := by omega
theorem after_lt {n : ℕ} (hn : n < 4) (q : Fin 8) : n * 512 + 504 + q < 2048 := by omega
theorem eight_lt (q : Fin 8) : (q : ℕ) < 520 := by omega

section tile
variable {X : Fin 8 → Fin 2048 → Fin 1024 → EReal} {g : Fin 1024 → EReal} {w : Fin 1024 → Fin 5632 → EReal} {cw : Fin 3 → Fin 5632 → EReal} {cb : Fin 5632 → EReal}
  {wd : Fin 2816 → Fin 1024 → EReal}
  {x0 : Vec Ideal S1x512x1024 .f32} {x2 : Vec Ideal S1x1024 .f32} {x3 : Vec Ideal S22x1024x256 .bf16} {x4 : Vec Ideal S22x3x256 .f32} {x5 : Vec Ideal S22x1x256 .f32}
  {x6 : Vec Ideal S2816x1024 .bf16} {hd : Fin 22 → Fin 8 → Fin 256 → EReal}
  {b : Fin 8} {n : ℕ} (hn : n < 4)
  (h0 : ∀ (r : Fin 512) d, x0 (ix3 0 r d) = X b ⟨n * 512 + r, row_lt hn r⟩ d) (h2 : ∀ d, x2 (ix2 0 d) = g d)
  (h3 : ∀ (i : Fin 22) d (l : Fin 256), x3 (ix3 i d l) = w d ⟨(i : ℕ) * 256 + l, lane_lt i l⟩)
  (h4 : ∀ (i : Fin 22) k (l : Fin 256), x4 (ix3 i k l) = cw k ⟨(i : ℕ) * 256 + l, lane_lt i l⟩)
  (h5 : ∀ (i : Fin 22) (l : Fin 256), x5 (ix3 i 0 l) = cb ⟨(i : ℕ) * 256 + l, lane_lt i l⟩)
  (h6 : ∀ j d, x6 (ix2 j d) = wd j d)
  (hh : ∀ (i : Fin 22) (q : Fin 8) (l : Fin 256), hd i q l = if n = 0 then 0 else FfnSpec.up X g w b ⟨n * 512 - 8 + q, before_lt hn q⟩ ⟨(i : ℕ) * 256 + l, lane_lt i l⟩)

include h0 h2 in
theorem rows_at (r : Fin 512) (d : Fin 1024) :
    k0_pay4 (F := Ideal) x0 x2 (ix2 r d) = SguSpec.rms (Ideal.ofBits .f32 0x44800000#32) (X b ⟨n * 512 + r, row_lt hn r⟩) g d := by
  pointwise [k0_pay4, k0_pay3]
  simp only [h0, h2]
  rfl

include h0 h2 h3 in
theorem upK_at (i : Fin 22) (r : Fin 512) (l : Fin 256) :
    upK (k0_pay4 x0 x2) x3 i r l = FfnSpec.up X g w b ⟨n * 512 + r, row_lt hn r⟩ ⟨(i : ℕ) * 256 + l, lane_lt i l⟩ := by
  simp only [upK, rows_at hn h0 h2, h3]
  rfl

include h0 h2 h3 hh in
theorem eK_at (k : ℕ) (hk : k = 6 ∨ k = 7) (i : Fin 22) (r : Fin 512) (l : Fin 256) :
    eK (k0_pay4 x0 x2) x3 hd k i r l = FfnSpec.past X g w (8 - k) b ⟨n * 512 + r, row_lt hn r⟩ ⟨(i : ℕ) * 256 + l, lane_lt i l⟩ := by
  rw [eK, FfnSpec.past]
  by_cases h : k + (r : ℕ) < 8
  · rw [dif_pos h, hh]
    by_cases e : n = 0
    · rw [if_pos e, if_pos (by dsimp only; omega)]
    · rw [if_neg e, if_neg (by dsimp only; omega)]
      exact congrArg (fun q => FfnSpec.up X g w b q _) (Fin.ext (by dsimp only; omega))
  · rw [dif_neg h, if_neg (by dsimp only; omega), upK_at hn h0 h2 h3]
    exact congrArg (fun q => FfnSpec.up X g w b q _) (Fin.ext (by dsimp only; omega))

include h0 h2 h3 h4 h5 hh in
theorem convK_at (i : Fin 22) (r : Fin 512) (l : Fin 256) (j : Fin 5632) (hj : (j : ℕ) = i * 256 + l) :
    convK (k0_pay4 x0 x2) x3 x4 x5 hd i r l = FfnSpec.conv X g w cw cb b ⟨n * 512 + r, row_lt hn r⟩ j := by
  have ej : j = ⟨(i : ℕ) * 256 + l, lane_lt i l⟩ := Fin.ext hj
  rw [ej]
  rw [convK, eK_at hn h0 h2 h3 hh 6 (.inl rfl), eK_at hn h0 h2 h3 hh 7 (.inr rfl), upK_at hn h0 h2 h3, h4, h4, h4, h5]
  rfl

include h0 h2 h3 h4 h5 h6 hh in
/-- A tile's output rows are the layer's. -/
theorem outK_at (r : Fin 512) (d : Fin 1024) :
    outK x0 x2 x3 x4 x5 hd x6 r d = FfnSpec.out X g w cw cb wd b ⟨n * 512 + r, row_lt hn r⟩ d := by
  rw [outK, FfnSpec.out, h0]
  refine congrArg₂ (· + ·) rfl (Finset.sum_congr rfl fun j _ => congrArg₂ (· * ·) ?_ (h6 j d))
  exact congrArg₂ (fun a b => FfnSpec.silu a * b) (convK_at hn h0 h2 h3 h4 h5 hh _ _ _ _ (show (j : ℕ) = (j : ℕ) / 256 * 256 + (j : ℕ) % 256 by omega))
    (convK_at hn h0 h2 h3 h4 h5 hh _ _ _ _ (show 2816 + (j : ℕ) = (11 + (j : ℕ) / 256) * 256 + (j : ℕ) % 256 by omega))

include h0 h2 h3 in
/-- What a tile leaves in the carried buffer: its own last eight rows first. -/
theorem scrK_at (i : Fin 22) (q : Fin 8) (l : Fin 256) :
    scrK (k0_pay4 x0 x2) x3 (ix3 i ⟨q, eight_lt q⟩ l) = FfnSpec.up X g w b ⟨n * 512 + 504 + q, after_lt hn q⟩ ⟨(i : ℕ) * 256 + l, lane_lt i l⟩ := by
  refine (upK_at hn h0 h2 h3 i ⟨((q : ℕ) + 504) % 512, by omega⟩ l).trans (congrArg (fun t => FfnSpec.up X g w b t _) (Fin.ext ?_))
  show n * 512 + ((q : ℕ) + 504) % 512 = n * 512 + 504 + (q : ℕ)
  omega
end tile

end Cert.FfnIdeal.Value
-- ==== Proof.FfnRunA.lean ====
module

public import proofs.«01_k».proof.Defs
public import proofs.«01_k».proof.Proof.Gen.FfnIdeal.Value
public import proofs.«01_k».proof.Proof.FfnSpec
public import Idealize.ShloMosaic.Lib.Pointwise
public import Idealize.ShloMosaic.Lib.Pipeline.ValueKit
public import Idealize.ShloMosaic.Lib.Pipeline.ReadBack
public import proofs.«01_k».proof.Proof.FfnTile

@[expose] public section

/-! A sequence's first tile: its output rows, and what it leaves for the next. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem scratch_A (c : Dev nD) (t : Fin cfg0.N) (h0 : t.val % 4 = 0) (h1 : ¬t.val % 4 = 3) :
    (outsAt0 m c t.val t.isLt).2.2 = scrK (k0_pay4 (iblk m c 0 t) (iblk m c 2 t)) (iblk m c 3 t) := by
  rw [outsAt0_A m c t h0 h1]
  dsimp only
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 2 t) = hb
  generalize (iblk m c 3 t : Vec Ideal S22x1024x256 .bf16) = wu
  funext y
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_A (c : Dev nD) (t : Fin cfg0.N) (h0 : t.val % 4 = 0) (h1 : ¬t.val % 4 = 3) (r : Fin 512) (d : Fin 1024) :
    (outsAt0 m c t.val t.isLt).1 (ix3 0 r d) = outK (iblk m c 0 t) (iblk m c 2 t) (iblk m c 3 t) (iblk m c 4 t) (iblk m c 5 t)
      (fun i q l => iblk m c 1 t (ix4 0 i q l)) (iblk m c 6 t) r d := by
  unfold outK
  rw [outsAt0_A m c t h0 h1]
  dsimp only
  frame_open
  simp (disch := decide) only [↓ View.readCov_cons_toLoadRect, ↓ readAt_tail, ↓ readCov_tail, ↓ readAt_strad, ↓ readCov_strad, ↓ readAt_group, ↓ readCov_group]
  frame_out
  generalize (iblk m c 1 t : Vec Ideal S1x22x8x256 .f32) = p
  generalize k0_pay4 (F := Ideal) (iblk m c 0 t) (iblk m c 2 t) = hb
  generalize (iblk m c 3 t : Vec Ideal S22x1024x256 .bf16) = wu
  generalize (iblk m c 4 t : Vec Ideal S22x3x256 .f32) = cw
  generalize (iblk m c 5 t : Vec Ideal S22x1x256 .f32) = cb
  generalize (iblk m c 6 t : Vec Ideal S2816x1024 .bf16) = wd
  generalize (iblk m c 0 t : Vec Ideal S1x512x1024 .f32) = x0
  rw [read_whole_of _ _ (actK hb wu cw cb (fun i q l => p (ix4 0 i q l)))]
  · exact out_at _ _ _ _ _
  · intro y
    canon_tiles x h
    · exact chunk_at hb wu cw cb (fun i q l => p (ix4 0 i q l)) (i := 10) (i' := 21) (by decide) (by decide) _ _ _ _ _ _ _ _ (headA_at _ p (by decide) _ _) (headA_at _ p (by decide) _ _) h0 (by omega) rfl
    · exact chunk_at hb wu cw cb (fun i q l => p (ix4 0 i q l)) (i := 9) (i' := 20) (by decide) (by decide) _ _ _ _ _ _ _ _ (headA_at _ p (by decide) _ _) (headA_at _ p (by decide) _ _) h0 (by omega) rfl
    · exact chunk_at hb wu cw cb (fun i q l => p (ix4 0 i q l)) (i := 8) (i' := 19) (by decide) (by decide) _ _ _ _ _ _ _ _ (headA_at _ p (by decide) _ _) (headA_at _ p (by decide) _ _) h0 (by omega) rfl
    · exact chunk_at hb wu cw cb (fun i q l => p (ix4 0 i q l)) (i := 7) (i' := 18) (by decide) (by decide) _ _ _ _ _ _ _ _ (headA_at _ p (by decide) _ _) (headA_at _ p (by decide) _ _) h0 (by omega) rfl
    · exact chunk_at hb wu cw cb (fun i q l => p (ix4 0 i q l)) (i := 6) (i' := 17) (by decide) (by decide) _ _ _ _ _ _ _ _ (headA_at _ p (by decide) _ _) (headA_at _ p (by decide) _ _) h0 (by omega) rfl
    · exact chunk_at hb wu cw cb (fun i q l => p (ix4 0 i q l)) (i := 5) (i' := 16) (by decide) (by decide) _ _ _ _ _ _ _ _ (headA_at _ p (by decide) _ _) (headA_at _ p (by decide) _ _) h0 (by omega) rfl
    · exact chunk_at hb wu cw cb (fun i q l => p (ix4 0 i q l)) (i := 4) (i' := 15) (by decide) (by decide) _ _ _ _ _ _ _ _ (headA_at _ p (by decide) _ _) (headA_at _ p (by decide) _ _) h0 (by omega) rfl
    · exact chunk_at hb wu cw cb (fun i q l => p (ix4 0 i q l)) (i := 3) (i' := 14) (by decide) (by decide) _ _ _ _ _ _ _ _ (headA_at _ p (by decide) _ _) (headA_at _ p (by decide) _ _) h0 (by omega) rfl
    · exact chunk_at hb wu cw cb (fun i q l => p (ix4 0 i q l)) (i := 2) (i' := 13) (by decide) (by decide) _ _ _ _ _ _ _ _ (headA_at _ p (by decide) _ _) (headA_at _ p (by decide) _ _) h0 (by omega) rfl
    · exact chunk_at hb wu cw cb (fun i q l => p (ix4 0 i q l)) (i := 1) (i' := 12) (by decide) (by decide) _ _ _ _ _ _ _ _ (headA_at _ p (by decide) _ _) (headA_at _ p (by decide) _ _) h0 (by omega) rfl
    · exact chunk_at hb wu cw cb (fun i q l => p (ix4 0 i q l)) (i := 0) (i' := 11) (by decide) (by decide) _ _ _ _ _ _ _ _ (headA_at _ p (by decide) _ _) (headA_at _ p (by decide) _ _) h0 (by omega) rfl

end Cert.FfnIdeal.Value
-- ==== Proof.FfnRunB.lean ====
module

public import proofs.«01_k».proof.Defs
public import proofs.«01_k».proof.Proof.Gen.FfnIdeal.Value
public import proofs.«01_k».proof.Proof.FfnSpec
public import Idealize.ShloMosaic.Lib.Pointwise
public import Idealize.ShloMosaic.Lib.Pipeline.ValueKit
public import Idealize.ShloMosaic.Lib.Pipeline.ReadBack
public import proofs.«01_k».proof.Proof.FfnTile

@[expose] public section

/-! A tile between a sequence's first and last: its output rows, and what it leaves for the next. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem scratch_B (c : Dev nD) (t : Fin cfg0.N) (h0 : ¬t.val % 4 = 0) (h1 : ¬t.val % 4 = 3) :
    (outsAt0 m c t.val t.isLt).2.2 = scrK (k0_pay4 (iblk m c 0 t) (iblk m c 2 t)) (iblk m c 3 t) := by
  rw [outsAt0_B m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 2 t) = hb
  generalize (iblk m c 3 t : Vec Ideal S22x1024x256 .bf16) = wu
  funext y
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_B (c : Dev nD) (t : Fin cfg0.N) (h0 : ¬t.val % 4 = 0) (h1 : ¬t.val % 4 = 3) (r : Fin 512) (d : Fin 1024) :
    (outsAt0 m c t.val t.isLt).1 (ix3 0 r d) = outK (iblk m c 0 t) (iblk m c 2 t) (iblk m c 3 t) (iblk m c 4 t) (iblk m c 5 t)
      (fun i q l => (outsAt0 m c (t.val - 1) (by omega)).2.2 (ix3 i ⟨q, by omega⟩ l)) (iblk m c 6 t) r d := by
  unfold outK
  rw [outsAt0_B m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  simp only [View.writes_nil, read_unread_whole]
  generalize k0_pay4 (F := Ideal) (iblk m c 0 t) (iblk m c 2 t) = hb
  generalize (iblk m c 3 t : Vec Ideal S22x1024x256 .bf16) = wu
  generalize (iblk m c 4 t : Vec Ideal S22x3x256 .f32) = cw
  generalize (iblk m c 5 t : Vec Ideal S22x1x256 .f32) = cb
  generalize (iblk m c 6 t : Vec Ideal S2816x1024 .bf16) = wd
  generalize (iblk m c 0 t : Vec Ideal S1x512x1024 .f32) = x0
  rw [read_whole_of _ _ (actK hb wu cw cb (fun i q l => xs (ix3 i ⟨q, by omega⟩ l)))]
  · exact out_at _ _ _ _ _
  · intro y
    canon_tiles x h
    · exact chunk_at hb wu cw cb (fun i q l => xs (ix3 i ⟨q, by omega⟩ l)) (i := 10) (i' := 21) (by decide) (by decide) _ _ _ _ _ _ _ _ (head_at xs (by decide) _) (head_at xs (by decide) _) h0 (by omega) rfl
    · exact chunk_at hb wu cw cb (fun i q l => xs (ix3 i ⟨q, by omega⟩ l)) (i := 9) (i' := 20) (by decide) (by decide) _ _ _ _ _ _ _ _ (head_at xs (by decide) _) (head_at xs (by decide) _) h0 (by omega) rfl
    · exact chunk_at hb wu cw cb (fun i q l => xs (ix3 i ⟨q, by omega⟩ l)) (i := 8) (i' := 19) (by decide) (by decide) _ _ _ _ _ _ _ _ (head_at xs (by decide) _) (head_at xs (by decide) _) h0 (by omega) rfl
    · exact chunk_at hb wu cw cb (fun i q l => xs (ix3 i ⟨q, by omega⟩ l)) (i := 7) (i' := 18) (by decide) (by decide) _ _ _ _ _ _ _ _ (head_at xs (by decide) _) (head_at xs (by decide) _) h0 (by omega) rfl
    · exact chunk_at hb wu cw cb (fun i q l => xs (ix3 i ⟨q, by omega⟩ l)) (i := 6) (i' := 17) (by decide) (by decide) _ _ _ _ _ _ _ _ (head_at xs (by decide) _) (head_at xs (by decide) _) h0 (by omega) rfl
    · exact chunk_at hb wu cw cb (fun i q l => xs (ix3 i ⟨q, by omega⟩ l)) (i := 5) (i' := 16) (by decide) (by decide) _ _ _ _ _ _ _ _ (head_at xs (by decide) _) (head_at xs (by decide) _) h0 (by omega) rfl
    · exact chunk_at hb wu cw cb (fun i q l => xs (ix3 i ⟨q, by omega⟩ l)) (i := 4) (i' := 15) (by decide) (by decide) _ _ _ _ _ _ _ _ (head_at xs (by decide) _) (head_at xs (by decide) _) h0 (by omega) rfl
    · exact chunk_at hb wu cw cb (fun i q l => xs (ix3 i ⟨q, by omega⟩ l)) (i := 3) (i' := 14) (by decide) (by decide) _ _ _ _ _ _ _ _ (head_at xs (by decide) _) (head_at xs (by decide) _) h0 (by omega) rfl
    · exact chunk_at hb wu cw cb (fun i q l => xs (ix3 i ⟨q, by omega⟩ l)) (i := 2) (i' := 13) (by decide) (by decide) _ _ _ _ _ _ _ _ (head_at xs (by decide) _) (head_at xs (by decide) _) h0 (by omega) rfl
    · exact chunk_at hb wu cw cb (fun i q l => xs (ix3 i ⟨q, by omega⟩ l)) (i := 1) (i' := 12) (by decide) (by decide) _ _ _ _ _ _ _ _ (head_at xs (by decide) _) (head_at xs (by decide) _) h0 (by omega) rfl
    · exact chunk_at hb wu cw cb (fun i q l => xs (ix3 i ⟨q, by omega⟩ l)) (i := 0) (i' := 11) (by decide) (by decide) _ _ _ _ _ _ _ _ (head_at xs (by decide) _) (head_at xs (by decide) _) h0 (by omega) rfl

end Cert.FfnIdeal.Value
-- ==== Proof.FfnRunC.lean ====
module

public import proofs.«01_k».proof.Defs
public import proofs.«01_k».proof.Proof.Gen.FfnIdeal.Value
public import proofs.«01_k».proof.Proof.FfnSpec
public import Idealize.ShloMosaic.Lib.Pointwise
public import Idealize.ShloMosaic.Lib.Pipeline.ValueKit
public import Idealize.ShloMosaic.Lib.Pipeline.ReadBack
public import proofs.«01_k».proof.Proof.FfnTile

@[expose] public section

/-! A sequence's last tile: its output rows, and the rows it hands on. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem state_C (c : Dev nD) (t : Fin cfg0.N) (h0 : ¬t.val % 4 = 0) (h1 : t.val % 4 = 3) (i : Fin 22) (k : Fin 2) (l : Fin 256) :
    (outsAt0 m c t.val t.isLt).2.1 (ix4 0 i k l) = scrK (k0_pay4 (iblk m c 0 t) (iblk m c 2 t)) (iblk m c 3 t) (ix3 i ⟨6 + k, by omega⟩ l) := by
  rw [outsAt0_C m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 2 t) = hb
  generalize (iblk m c 3 t : Vec Ideal S22x1024x256 .bf16) = wu
  refine (state_of _ i k l).trans (read_state_of _ _ (scrK hb wu) _ (fun y => ?_) i k l)
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_C (c : Dev nD) (t : Fin cfg0.N) (h0 : ¬t.val % 4 = 0) (h1 : t.val % 4 = 3) (r : Fin 512) (d : Fin 1024) :
    (outsAt0 m c t.val t.isLt).1 (ix3 0 r d) = outK (iblk m c 0 t) (iblk m c 2 t) (iblk m c 3 t) (iblk m c 4 t) (iblk m c 5 t)
      (fun i q l => (outsAt0 m c (t.val - 1) (by omega)).2.2 (ix3 i ⟨q, by omega⟩ l)) (iblk m c 6 t) r d := by
  unfold outK
  rw [outsAt0_C m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  simp only [View.writes_nil, read_unread_whole]
  generalize k0_pay4 (F := Ideal) (iblk m c 0 t) (iblk m c 2 t) = hb
  generalize (iblk m c 3 t : Vec Ideal S22x1024x256 .bf16) = wu
  generalize (iblk m c 4 t : Vec Ideal S22x3x256 .f32) = cw
  generalize (iblk m c 5 t : Vec Ideal S22x1x256 .f32) = cb
  generalize (iblk m c 6 t : Vec Ideal S2816x1024 .bf16) = wd
  generalize (iblk m c 0 t : Vec Ideal S1x512x1024 .f32) = x0
  rw [read_whole_of _ _ (actK hb wu cw cb (fun i q l => xs (ix3 i ⟨q, by omega⟩ l)))]
  · exact out_at _ _ _ _ _
  · intro y
    canon_tiles x h
    · exact chunk_at hb wu cw cb (fun i q l => xs (ix3 i ⟨q, by omega⟩ l)) (i := 10) (i' := 21) (by decide) (by decide) _ _ _ _ _ _ _ _ (head_at xs (by decide) _) (head_at xs (by decide) _) h0 (by omega) rfl
    · exact chunk_at hb wu cw cb (fun i q l => xs (ix3 i ⟨q, by omega⟩ l)) (i := 9) (i' := 20) (by decide) (by decide) _ _ _ _ _ _ _ _ (head_at xs (by decide) _) (head_at xs (by decide) _) h0 (by omega) rfl
    · exact chunk_at hb wu cw cb (fun i q l => xs (ix3 i ⟨q, by omega⟩ l)) (i := 8) (i' := 19) (by decide) (by decide) _ _ _ _ _ _ _ _ (head_at xs (by decide) _) (head_at xs (by decide) _) h0 (by omega) rfl
    · exact chunk_at hb wu cw cb (fun i q l => xs (ix3 i ⟨q, by omega⟩ l)) (i := 7) (i' := 18) (by decide) (by decide) _ _ _ _ _ _ _ _ (head_at xs (by decide) _) (head_at xs (by decide) _) h0 (by omega) rfl
    · exact chunk_at hb wu cw cb (fun i q l => xs (ix3 i ⟨q, by omega⟩ l)) (i := 6) (i' := 17) (by decide) (by decide) _ _ _ _ _ _ _ _ (head_at xs (by decide) _) (head_at xs (by decide) _) h0 (by omega) rfl
    · exact chunk_at hb wu cw cb (fun i q l => xs (ix3 i ⟨q, by omega⟩ l)) (i := 5) (i' := 16) (by decide) (by decide) _ _ _ _ _ _ _ _ (head_at xs (by decide) _) (head_at xs (by decide) _) h0 (by omega) rfl
    · exact chunk_at hb wu cw cb (fun i q l => xs (ix3 i ⟨q, by omega⟩ l)) (i := 4) (i' := 15) (by decide) (by decide) _ _ _ _ _ _ _ _ (head_at xs (by decide) _) (head_at xs (by decide) _) h0 (by omega) rfl
    · exact chunk_at hb wu cw cb (fun i q l => xs (ix3 i ⟨q, by omega⟩ l)) (i := 3) (i' := 14) (by decide) (by decide) _ _ _ _ _ _ _ _ (head_at xs (by decide) _) (head_at xs (by decide) _) h0 (by omega) rfl
    · exact chunk_at hb wu cw cb (fun i q l => xs (ix3 i ⟨q, by omega⟩ l)) (i := 2) (i' := 13) (by decide) (by decide) _ _ _ _ _ _ _ _ (head_at xs (by decide) _) (head_at xs (by decide) _) h0 (by omega) rfl
    · exact chunk_at hb wu cw cb (fun i q l => xs (ix3 i ⟨q, by omega⟩ l)) (i := 1) (i' := 12) (by decide) (by decide) _ _ _ _ _ _ _ _ (head_at xs (by decide) _) (head_at xs (by decide) _) h0 (by omega) rfl
    · exact chunk_at hb wu cw cb (fun i q l => xs (ix3 i ⟨q, by omega⟩ l)) (i := 0) (i' := 11) (by decide) (by decide) _ _ _ _ _ _ _ _ (head_at xs (by decide) _) (head_at xs (by decide) _) h0 (by omega) rfl

end Cert.FfnIdeal.Value
-- ==== Proof.FfnK.lean ====
module

public import proofs.«01_k».proof.Defs
public import proofs.«01_k».proof.Proof.Gen.FfnIdeal.Value
public import proofs.«01_k».proof.Proof.FfnSpec
public import Idealize.ShloMosaic.Lib.Pointwise
public import Idealize.ShloMosaic.Lib.Pipeline.ValueKit
public import Idealize.ShloMosaic.Lib.Pipeline.ReadBack
public import proofs.«01_k».proof.Proof.FfnTileSpec
public import proofs.«01_k».proof.Proof.FfnRunA
public import proofs.«01_k».proof.Proof.FfnRunB
public import proofs.«01_k».proof.Proof.FfnRunC

@[expose] public section

/-! The launch's two results are the layer and the rows handed on. -/

set_option maxRecDepth 16384

noncomputable section

namespace Cert.FfnIdeal.Value

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ)

theorem idx : ∀ t : Fin cfg0.N, win0_0.index t = ![t.val / 4, t.val % 4, 0] ∧ win0_1.index t = ![t.val / 4, 0, 0, 0] ∧ win0_2.index t = ![0, 0] ∧ win0_3.index t = ![0, 0, 0]
    ∧ win0_4.index t = ![0, 0, 0] ∧ win0_5.index t = ![0, 0, 0] ∧ win0_6.index t = ![0, 0] ∧ win0_7.index t = ![t.val / 4, t.val % 4, 0] ∧ win0_8.index t = ![t.val / 4, 0, 0, 0] :=
  (by decide +kernel : ∀ t : Fin grid0.N, _)

section blocks
variable (c : Dev nD) (t : Fin cfg0.N)

theorem lt32 : (t : ℕ) < 32 := lt_of_lt_of_eq t.isLt N_0

theorem b0 (r : Fin 512) (d : Fin 1024) : iblk m c 0 t (ix3 0 r d) = (fun b t d => m ((c.tc : Thread nD τ).loc main_arg0) (ix3 b t d)) ⟨t / 4, by have := lt32 t; omega⟩ ⟨t % 4 * 512 + r, by omega⟩ d := by
  blk_point [iblk, V, idx t]

theorem b1 (i : Fin 22) (q : Fin 8) (l : Fin 256) : iblk m c 1 t (ix4 0 i q l) = (0 : EReal) := by
  blk_point [iblk, V, idx t]

theorem b2 (d : Fin 1024) : iblk m c 2 t (ix2 0 d) = (fun d => m ((c.tc : Thread nD τ).loc main_arg1) (ix1 d)) d := by
  blk_point [iblk, V, idx t]

theorem b3 (i : Fin 22) (d : Fin 1024) (l : Fin 256) : iblk m c 3 t (ix3 i d l) = (fun d j => m ((c.tc : Thread nD τ).loc main_arg2) (ix2 d j)) d ⟨(i : ℕ) * 256 + l, by omega⟩ := by
  blk_point [iblk, V, idx t]

theorem b4 (i : Fin 22) (k : Fin 3) (l : Fin 256) : iblk m c 4 t (ix3 i k l) = (fun d j => m ((c.tc : Thread nD τ).loc main_arg3) (ix2 d j)) k ⟨(i : ℕ) * 256 + l, by omega⟩ := by
  blk_point [iblk, V, idx t]

theorem b5 (i : Fin 22) (l : Fin 256) : iblk m c 5 t (ix3 i 0 l) = (fun d => m ((c.tc : Thread nD τ).loc main_arg4) (ix1 d)) ⟨(i : ℕ) * 256 + l, by omega⟩ := by
  blk_point [iblk, V, idx t]

theorem b6 (j : Fin 2816) (d : Fin 1024) : iblk m c 6 t (ix2 j d) = (fun d j => m ((c.tc : Thread nD τ).loc main_arg5) (ix2 d j)) j d := by
  blk_point [iblk, V, idx t]
end blocks

/-- What a tile that is not a sequence's last leaves in the carried buffer. -/
theorem scratch (c : Dev nD) (t : Fin cfg0.N) (h1 : ¬t.val % 4 = 3) :
    (outsAt0 m c t.val t.isLt).2.2 = scrK (k0_pay4 (iblk m c 0 t) (iblk m c 2 t)) (iblk m c 3 t) := by
  by_cases h0 : t.val % 4 = 0
  · exact scratch_A m c t h0 h1
  · exact scratch_B m c t h0 h1

/-- The eight rows carried into a tile that is not a sequence's first. -/
theorem carried (c : Dev nD) (t : Fin cfg0.N) (h0 : ¬t.val % 4 = 0) (h) (i : Fin 22) (q : Fin 8) (l : Fin 256) :
    (outsAt0 m c (t.val - 1) h).2.2 (ix3 i ⟨q, by omega⟩ l)
      = if (t : ℕ) % 4 = 0 then 0 else FfnSpec.up (fun b t d => m ((c.tc : Thread nD τ).loc main_arg0) (ix3 b t d)) (fun d => m ((c.tc : Thread nD τ).loc main_arg1) (ix1 d)) (fun d j => m ((c.tc : Thread nD τ).loc main_arg2) (ix2 d j)) ⟨t / 4, by have := lt32 t; omega⟩ ⟨t % 4 * 512 - 8 + q, by omega⟩ ⟨(i : ℕ) * 256 + l, by omega⟩ := by
  rw [if_neg h0]
  refine (congrFun (scratch m c ⟨t.val - 1, h⟩ (by dsimp only; omega)) _).trans ?_
  refine (scrK_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (b := ⟨(t.val - 1) / 4, by have := lt32 t; omega⟩) (n := (t.val - 1) % 4) (Nat.mod_lt _ (by decide)) (b0 m c ⟨t.val - 1, h⟩) (b2 m c ⟨t.val - 1, h⟩) (b3 m c ⟨t.val - 1, h⟩) i q l).trans ?_
  refine congr (congrArg₂ (FfnSpec.up _ _ _) (Fin.ext ?_) (Fin.ext ?_)) rfl
  · show (t.val - 1) / 4 = t.val / 4
    omega
  · show (t.val - 1) % 4 * 512 + 504 + (q : ℕ) = t.val % 4 * 512 - 8 + (q : ℕ)
    omega

/-- Every tile's output rows are the layer's. -/
theorem out_tile (c : Dev nD) (t : Fin cfg0.N) (r : Fin 512) (d : Fin 1024) :
    (outsAt0 m c t.val t.isLt).1 (ix3 0 r d)
      = FfnSpec.out (fun b t d => m ((c.tc : Thread nD τ).loc main_arg0) (ix3 b t d)) (fun d => m ((c.tc : Thread nD τ).loc main_arg1) (ix1 d)) (fun d j => m ((c.tc : Thread nD τ).loc main_arg2) (ix2 d j)) (fun d j => m ((c.tc : Thread nD τ).loc main_arg3) (ix2 d j)) (fun d => m ((c.tc : Thread nD τ).loc main_arg4) (ix1 d)) (fun d j => m ((c.tc : Thread nD τ).loc main_arg5) (ix2 d j)) ⟨t / 4, by have := lt32 t; omega⟩ ⟨t % 4 * 512 + r, by omega⟩ d := by
  by_cases h0 : t.val % 4 = 0
  · refine (out_A m c t h0 (by omega) r d).trans (outK_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (b := ⟨t.val / 4, by have := lt32 t; omega⟩) (n := t.val % 4) (Nat.mod_lt _ (by decide)) (b0 m c t) (b2 m c t) (b3 m c t) (b4 m c t) (b5 m c t) (b6 m c t) (fun i q l => ?_) r d)
    rw [if_pos h0]
    exact b1 m c t i q l
  · by_cases h1 : t.val % 4 = 3
    · exact (out_C m c t h0 h1 r d).trans (outK_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (b := ⟨t.val / 4, by have := lt32 t; omega⟩) (n := t.val % 4) (Nat.mod_lt _ (by decide)) (b0 m c t) (b2 m c t) (b3 m c t) (b4 m c t) (b5 m c t) (b6 m c t) (carried m c t h0 _) r d)
    · exact (out_B m c t h0 h1 r d).trans (outK_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (b := ⟨t.val / 4, by have := lt32 t; omega⟩) (n := t.val % 4) (Nat.mod_lt _ (by decide)) (b0 m c t) (b2 m c t) (b3 m c t) (b4 m c t) (b5 m c t) (b6 m c t) (carried m c t h0 _) r d)

theorem val7 (c : Dev nD) : (dats m 0 c).arrAt 7 cfg0.N = fun i : S8x2048x1024.Idx =>
    FfnSpec.out (fun b t d => m ((c.tc : Thread nD τ).loc main_arg0) (ix3 b t d)) (fun d => m ((c.tc : Thread nD τ).loc main_arg1) (ix1 d)) (fun d j => m ((c.tc : Thread nD τ).loc main_arg2) (ix2 d j)) (fun d j => m ((c.tc : Thread nD τ).loc main_arg3) (ix2 d j)) (fun d => m ((c.tc : Thread nD τ).loc main_arg4) (ix1 d)) (fun d j => m ((c.tc : Thread nD τ).loc main_arg5) (ix2 d j)) (i 0) (i 1) (i 2) := by
  refine (dats m 0 c).arrAt_eq_of_covers 7 _ (by decide +kernel) fun t hf y => ?_
  blk_simp
  rw [after0_7]
  rw [show y = ix3 0 (y 1) (y 2) from by blk_ext]
  refine (out_tile m c t (y 1) (y 2)).trans ?_
  refine congr (congr (congrArg _ ?_) ?_) ?_
  all_goals
    refine Fin.ext ?_
    blk_simp [idx t]
  rfl

theorem val8 (c : Dev nD) : (dats m 0 c).arrAt 8 cfg0.N = fun i : S8x22x2x256.Idx =>
    FfnSpec.state (fun b t d => m ((c.tc : Thread nD τ).loc main_arg0) (ix3 b t d)) (fun d => m ((c.tc : Thread nD τ).loc main_arg1) (ix1 d)) (fun d j => m ((c.tc : Thread nD τ).loc main_arg2) (ix2 d j)) (i 0) (i 1) (i 2) (i 3) := by
  refine (dats m 0 c).arrAt_eq_of_covers 8 _ (by decide +kernel) fun t hf y => ?_
  have h1 : t.val % 4 = 3 := (flush0_8 t).mp hf
  blk_simp
  rw [after0_8]
  rw [show y = ix4 0 (y 1) (y 2) (y 3) from by blk_ext]
  refine (state_C m c t (by omega) h1 (y 1) (y 2) (y 3)).trans ?_
  have hk : (y 2 : ℕ) < 2 := (y 2).isLt
  refine (scrK_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (b := ⟨t.val / 4, by have := lt32 t; omega⟩) (n := t.val % 4) (Nat.mod_lt _ (by decide)) (b0 m c t) (b2 m c t) (b3 m c t) (y 1) ⟨6 + (y 2 : ℕ), by omega⟩ (y 3)).trans ?_
  refine congr (congrArg₂ (FfnSpec.up _ _ _) (Fin.ext ?_) (Fin.ext ?_)) (Fin.ext ?_)
  all_goals
    blk_simp [idx t]
  · rfl
  · show t.val % 4 * 512 + 504 + (6 + (y 2 : ℕ)) = 2046 + (y 2 : ℕ)
    omega

end Cert.FfnIdeal.Value
-- ==== Proof.FfnRefValue.lean ====
module

public import proofs.«01_k».proof.Defs
public import proofs.«01_k».proof.Proof.Gen.FfnRefIdeal.Run
public import proofs.«01_k».proof.Proof.FfnSpec
public import Idealize.ShloMosaic.Lib.Pointwise
public import Idealize.ShloMosaic.Lib.Pipeline.ValueKit

@[expose] public section

set_option maxRecDepth 16384

noncomputable section

namespace Cert.FfnRefIdeal.Value

open Cert.FfnRefIdeal Cert.FfnRefIdeal.Gen Idealize.ShloMosaic Idealize.ShloMosaic.TcCoe Idealize.SL.Sem Idealize.ShloMosaic.StableHlo

/-- The normalised rows the projection reads. -/
def rH (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The projection. -/
def rU (h : FVec Ideal S8x2048x1024 .f32) (w : FVec Ideal S1024x5632 .f32) : FVec Ideal S8x2048x5632 .f32 :=
  Host.dotGeneral dot_S8x2048x1024_S1024x5632_S8x2048x5632_2_0_01_1_n_n none h w

/-- The projection after two rows of zeros. -/
def rP (u : FVec Ideal S8x2048x5632 .f32) : FVec Ideal S8x2050x5632 .f32 :=
  concatenate S8x2050x5632 1 [⟨S8x2x5632, (broadcastInDim S8x2x5632 ![] bcast_S_S8x2x5632 (constant S_ .f32 0x00000000#32))⟩, ⟨S8x2048x5632, u⟩] concatenates_S8x2x5632_S8x2048x5632_S8x2050x5632_d1

/-- The convolution. -/
def rC (p : FVec Ideal S8x2050x5632 .f32) (w : FVec Ideal S3x5632 .f32) (b : FVec Ideal S5632 .f32) : FVec Ideal S8x2048x5632 .f32 :=
  (addf (addf (addf (broadcastInDim S8x2048x5632 ![0, 1, 2] bcast_S1x1x5632_S8x2048x5632_0_1_2 (broadcastInDim S1x1x5632 ![2] bcast_S5632_S1x1x5632_2 b)) (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] w slices_S3x5632_S1x5632_0_0) shapeCasts_S1x5632_S5632))) (extractStridedSlice S8x2048x5632 ![0, 0, 0] p slices_S8x2050x5632_S8x2048x5632_0_0_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] w slices_S3x5632_S1x5632_1_0) shapeCasts_S1x5632_S5632))) (extractStridedSlice S8x2048x5632 ![0, 1, 0] p slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] w slices_S3x5632_S1x5632_2_0) shapeCasts_S1x5632_S5632))) (extractStridedSlice S8x2048x5632 ![0, 2, 0] p slices_S8x2050x5632_S8x2048x5632_0_2_0)))

/-- The layer's output from its input and the convolution. -/
def rO (x : FVec Ideal S8x2048x1024 .f32) (a : FVec Ideal S8x2048x5632 .f32) (wd : FVec Ideal S2816x1024 .f32) : FVec Ideal S8x2048x1024 .f32 :=
  addf x (Host.dotGeneral dot_S8x2048x2816_S2816x1024_S8x2048x1024_2_0_01_1_n_n none (mulf (mulf (extractStridedSlice S8x2048x2816 ![0, 0, 0] a slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] a slices_S8x2048x5632_S8x2048x2816_0_0_0)))))) (extractStridedSlice S8x2048x2816 ![0, 0, 2816] a slices_S8x2048x5632_S8x2048x2816_0_0_2816)) wd)

/-- The rows a later call starts from. -/
def rS (p : FVec Ideal S8x2050x5632 .f32) : FVec Ideal S8x22x2x256 .f32 :=
  transpose S8x22x2x256 [0, 2, 1, 3] (shapeCast _ (extractStridedSlice S8x2x5632 ![0, 2048, 0] p slices_S8x2050x5632_S8x2x5632_0_2048_0) shapeCasts_S8x2x5632_S8x2x22x256) transposes_S8x2x22x256_S8x22x2x256_0_2_1_3

theorem res_eq (m : (ℓ : Loc nD τ sig) → Buf (Elt Ideal) ℓ) (c : Dev nD) :
    res_main_v44 m c = rO (m ((c.tc : Thread nD τ).loc main_arg0))
      (rC (rP (rU (rH (m ((c.tc : Thread nD τ).loc main_arg0)) (m ((c.tc : Thread nD τ).loc main_arg1))) (m ((c.tc : Thread nD τ).loc main_arg2))))
        (m ((c.tc : Thread nD τ).loc main_arg3)) (m ((c.tc : Thread nD τ).loc main_arg4)))
      (m ((c.tc : Thread nD τ).loc main_arg5)) := by
  unfold res_main_v44 rO rC rP rU rH; rfl

theorem rH_at (x : FVec Ideal S8x2048x1024 .f32) (g : FVec Ideal S1024 .f32) (b : Fin 8) (t : Fin 2048) (d : Fin 1024) :
    rH x g (ix3 b t d) = SguSpec.rms (Ideal.ofBits .f32 0x44800000#32) (fun d => x (ix3 b t d)) (fun d => g (ix1 d)) d := by
  pointwise [rH, SguSpec.rms]

theorem rU_at (h : FVec Ideal S8x2048x1024 .f32) (w : FVec Ideal S1024x5632 .f32) (b : Fin 8) (t : Fin 2048) (j : Fin 5632) :
    rU h w (ix3 b t j) = ∑ d : Fin 1024, h (ix3 b t d) * w (ix2 d j) := by
  pointwise [rU]

theorem rP_at (u : FVec Ideal S8x2048x5632 .f32) (b : Fin 8) (t : Fin 2050) (j : Fin 5632) :
    rP u (ix3 b t j) = if h : (t : ℕ) < 2 then 0 else u (ix3 b ⟨(t : ℕ) - 2, by omega⟩ j) := by
  pointwise [rP]

theorem rC_at (p : FVec Ideal S8x2050x5632 .f32) (w : FVec Ideal S3x5632 .f32) (a : FVec Ideal S5632 .f32) (b : Fin 8) (t : Fin 2048) (j : Fin 5632) :
    rC p w a (ix3 b t j) = a (ix1 j) + w (ix2 0 j) * p (ix3 b ⟨t, by omega⟩ j) + w (ix2 1 j) * p (ix3 b ⟨1 + t, by omega⟩ j) + w (ix2 2 j) * p (ix3 b ⟨2 + t, by omega⟩ j) := by
  pointwise [rC]

theorem rO_at (x : FVec Ideal S8x2048x1024 .f32) (a : FVec Ideal S8x2048x5632 .f32) (wd : FVec Ideal S2816x1024 .f32) (b : Fin 8) (t : Fin 2048) (d : Fin 1024) :
    rO x a wd (ix3 b t d) = x (ix3 b t d) + ∑ j : Fin 2816, FfnSpec.silu (a (ix3 b t ⟨j, by omega⟩)) * a (ix3 b t ⟨2816 + j, by omega⟩) * wd (ix2 j d) := by
  pointwise [rO, FfnSpec.silu]

theorem rS_at (p : FVec Ideal S8x2050x5632 .f32) (b : Fin 8) (i : Fin 22) (k : Fin 2) (l : Fin 256) :
    rS p (ix4 b i k l) = p (ix3 b ⟨2048 + k, by omega⟩ ⟨(i : ℕ) * 256 + l, by omega⟩) := by
  pointwise [rS]

section
variable (m : (ℓ : Loc nD τ sig) → Buf (Elt Ideal) ℓ) (c : Dev nD)

/-- The projection, read at the arguments. -/
theorem up_at (b : Fin 8) (t : Fin 2048) (j : Fin 5632) :
    rU (rH (m ((c.tc : Thread nD τ).loc main_arg0)) (m ((c.tc : Thread nD τ).loc main_arg1))) (m ((c.tc : Thread nD τ).loc main_arg2)) (ix3 b t j)
      = FfnSpec.up (fun b t d => m ((c.tc : Thread nD τ).loc main_arg0) (ix3 b t d)) (fun d => m ((c.tc : Thread nD τ).loc main_arg1) (ix1 d))
          (fun d j => m ((c.tc : Thread nD τ).loc main_arg2) (ix2 d j)) b t j := by
  rw [rU_at]; simp only [rH_at]; rfl

/-- The convolution, read at the arguments. -/
theorem conv_at (b : Fin 8) (t : Fin 2048) (j : Fin 5632) :
    rC (rP (rU (rH (m ((c.tc : Thread nD τ).loc main_arg0)) (m ((c.tc : Thread nD τ).loc main_arg1))) (m ((c.tc : Thread nD τ).loc main_arg2))))
        (m ((c.tc : Thread nD τ).loc main_arg3)) (m ((c.tc : Thread nD τ).loc main_arg4)) (ix3 b t j)
      = FfnSpec.conv (fun b t d => m ((c.tc : Thread nD τ).loc main_arg0) (ix3 b t d)) (fun d => m ((c.tc : Thread nD τ).loc main_arg1) (ix1 d))
          (fun d j => m ((c.tc : Thread nD τ).loc main_arg2) (ix2 d j)) (fun d j => m ((c.tc : Thread nD τ).loc main_arg3) (ix2 d j))
          (fun d => m ((c.tc : Thread nD τ).loc main_arg4) (ix1 d)) b t j := by
  rw [rC_at]
  simp only [rP_at, up_at]
  refine congrArg₂ (· + ·) (congrArg₂ (· + ·) (congrArg₂ (· + ·) rfl (congrArg₂ (· * ·) rfl ?_)) (congrArg₂ (· * ·) rfl ?_)) (congrArg₂ (· * ·) rfl ?_)
  · rfl
  · simp only [FfnSpec.past]
    by_cases h : (t : ℕ) < 1
    · rw [dif_pos (show 1 + (t : ℕ) < 2 by omega), if_pos h]
    · rw [dif_neg (show ¬ 1 + (t : ℕ) < 2 by omega), if_neg h]
      exact congrArg (fun q => FfnSpec.up _ _ _ b q j) (Fin.ext (by show 1 + (t : ℕ) - 2 = (t : ℕ) - 1; omega))
  · rw [dif_neg (show ¬ 2 + (t : ℕ) < 2 by omega)]
    exact congrArg (fun q => FfnSpec.up _ _ _ b q j) (Fin.ext (by show 2 + (t : ℕ) - 2 = (t : ℕ); omega))

/-- The reference's first result, entry by entry. -/
theorem res_at (b : Fin 8) (t : Fin 2048) (d : Fin 1024) :
    res_main_v44 m c (ix3 b t d) = FfnSpec.out (fun b t d => m ((c.tc : Thread nD τ).loc main_arg0) (ix3 b t d)) (fun d => m ((c.tc : Thread nD τ).loc main_arg1) (ix1 d))
      (fun d j => m ((c.tc : Thread nD τ).loc main_arg2) (ix2 d j)) (fun d j => m ((c.tc : Thread nD τ).loc main_arg3) (ix2 d j))
      (fun d => m ((c.tc : Thread nD τ).loc main_arg4) (ix1 d)) (fun d j => m ((c.tc : Thread nD τ).loc main_arg5) (ix2 d j)) b t d := by
  rw [res_eq, rO_at]
  simp only [conv_at]
  rfl

/-- The reference's second result, entry by entry. -/
theorem state_at (b : Fin 8) (i : Fin 22) (k : Fin 2) (l : Fin 256) :
    rS (rP (rU (rH (m ((c.tc : Thread nD τ).loc main_arg0)) (m ((c.tc : Thread nD τ).loc main_arg1))) (m ((c.tc : Thread nD τ).loc main_arg2)))) (ix4 b i k l)
      = FfnSpec.state (fun b t d => m ((c.tc : Thread nD τ).loc main_arg0) (ix3 b t d)) (fun d => m ((c.tc : Thread nD τ).loc main_arg1) (ix1 d))
          (fun d j => m ((c.tc : Thread nD τ).loc main_arg2) (ix2 d j)) b i k l := by
  rw [rS_at, rP_at, dif_neg (show ¬ 2048 + (k : ℕ) < 2 by omega), up_at]
  exact congrArg (fun q => FfnSpec.up _ _ _ b q _) (Fin.ext (by show 2048 + (k : ℕ) - 2 = 2046 + (k : ℕ); omega))
end

end Cert.FfnRefIdeal.Value
-- ==== Proof.FfnClaim.lean ====
module

public import proofs.«01_k».proof.Proof.FfnK
public import proofs.«01_k».proof.Proof.FfnRefValue
public import Idealize.ShloMosaic.Lib.Claim

@[expose] public section

set_option maxRecDepth 16384

noncomputable section

namespace Cert.FfnClaim

open Idealize.ShloMosaic Idealize.SL.Sem

theorem frame_ref : Cert.quiescent_FfnRefIdeal := fun m g _ =>
  (θ_run Cert.FfnRefIdeal.defs _ _).mono (fun r h => ⟨fun c => (h c).2.2, sem_eq_zero_of_no_sems (by decide) r.2⟩)
    (Cert.FfnRefIdeal.Value.run (F := Ideal) m g)

theorem algebraic : Cert.algebraic_FfnIdeal_FfnRefIdeal := by
  pair_intro
  · run_from Cert.FfnIdeal.Value.run_blocks m g
  · run_from Cert.FfnRefIdeal.Value.run m' g'
    all_goals obtain ⟨e0, e1, e2, e3, e4, e5⟩ := hagree c
    · rw [Cert.FfnIdeal.Value.val7 m c]
      funext j
      rw [show j = ix3 (j 0) (j 1) (j 2) from eq_ix3 j]
      refine (Cert.FfnRefIdeal.Value.res_at m' c _ _ _).trans ?_
      rw [e0, e1, e2, e3, e4, e5]
      rfl
    · rw [Cert.FfnIdeal.Value.val8 m c]
      funext j
      rw [show j = ix4 (j 0) (j 1) (j 2) (j 3) from eq_ix4 j]
      rw [← e0, ← e1, ← e2]
      exact Cert.FfnRefIdeal.Value.state_at m' c _ _ _ _

end Cert.FfnClaim
-- ==== Proof.DqkvSpec.lean ====
module

public import proofs.«01_k».proof.Proof.SguSpec

@[expose] public section

/-! The queries, keys and values of the differential attention, over the extended reals, entry by entry: root mean square rows, one projection of
    3072 lanes, and for queries and keys root mean square segments of 64 lanes whose first sixteen lanes are rotated by the position. -/

noncomputable section

namespace Cert.DqkvSpec

open Idealize.ShloMosaic

/-- The angle of lane `i` at position `t`: the position times the lane's inverse wave length. -/
def ang (t : Fin 2048) (i : Fin 8) : EReal :=
  FloatOps.sitofp (F := Ideal) .f32 (BitVec.ofNat 32 t) *
    Ideal.pow (Ideal.ofBits .f32 0x48F42400#32) (Ideal.div (-FloatOps.sitofp (F := Ideal) .f32 (BitVec.ofNat 32 i)) (Ideal.ofBits .f32 0x41000000#32))

/-- A segment rotated: its first eight lanes against its second eight, the rest as they are. -/
def rot (cs sn : Fin 8 → EReal) (n : Fin 64 → EReal) (l : Fin 64) : EReal :=
  if h : (l : ℕ) < 8 then n l * cs ⟨l, h⟩ - n ⟨8 + (l : ℕ), by omega⟩ * sn ⟨l, h⟩
  else if h' : (l : ℕ) - 8 < 8 then n l * cs ⟨(l : ℕ) - 8, h'⟩ + n ⟨(l : ℕ) - 8, by omega⟩ * sn ⟨(l : ℕ) - 8, h'⟩
  else n l

/-- A row's lane after its segment is normalised and rotated. -/
def key (p : Fin 1024 → EReal) (g : Fin 64 → EReal) (t : Fin 2048) (j : Fin 1024) : EReal :=
  rot (fun i => Ideal.cos (ang t i)) (fun i => Ideal.sin (ang t i))
    (SguSpec.rms (Ideal.ofBits .f32 0x42800000#32) (fun l : Fin 64 => p ⟨(j : ℕ) / 64 * 64 + l, by omega⟩) g) ⟨(j : ℕ) % 64, by omega⟩

section
variable (x : Fin 8 → Fin 2048 → Fin 1024 → EReal) (g : Fin 1024 → EReal) (w : Fin 1024 → Fin 3072 → EReal)

/-- The projection of a normalised row. -/
def proj (b : Fin 8) (t : Fin 2048) (j : Fin 3072) : EReal :=
  ∑ d, SguSpec.rms (Ideal.ofBits .f32 0x44800000#32) (x b t) g d * w d j

/-- The queries, with the attention's scale. -/
def q (gq : Fin 64 → EReal) (b : Fin 8) (t : Fin 2048) (j : Fin 1024) : EReal :=
  key (fun j => proj x g w b t ⟨j, by omega⟩) gq t j * Ideal.ofBits .f32 0x3E38AA3B#32

/-- The keys. -/
def k (gk : Fin 64 → EReal) (b : Fin 8) (t : Fin 2048) (j : Fin 1024) : EReal :=
  key (fun j => proj x g w b t ⟨1024 + (j : ℕ), by omega⟩) gk t j

/-- The values. -/
def v (b : Fin 8) (t : Fin 2048) (j : Fin 1024) : EReal := proj x g w b t ⟨2048 + (j : ℕ), by omega⟩
end

end Cert.DqkvSpec
-- ==== Proof.DqkvTile.lean ====
module

public import proofs.«01_k».proof.Defs
public import proofs.«01_k».proof.Proof.Gen.DqkvIdeal.Value
public import proofs.«01_k».proof.Proof.DqkvSpec
public import Idealize.ShloMosaic.Lib.Pointwise
public import Idealize.ShloMosaic.Lib.Pipeline.ValueKit

@[expose] public section

set_option maxRecDepth 16384

noncomputable section

namespace Cert.DqkvIdeal.Value

open Cert.DqkvIdeal Cert.DqkvIdeal.Gen Idealize.ShloMosaic Idealize.ShloMosaic.TcCoe Idealize.SL.Sem Idealize.ShloMosaic.StableHlo

/-- The pattern of sixty-four. -/
theorem ofBits_64 : Ideal.ofBits .f32 0x42800000#32 = ((64 : ℝ) : EReal) := by
  simp [Ideal.ofBits, Ideal.ieee, -EReal.coe_mul]; norm_num

/-- The pattern of one sixty-fourth. -/
theorem ofBits_inv64 : Ideal.ofBits .f32 0x3C800000#32 = ((1 / 64 : ℝ) : EReal) := by
  simp [Ideal.ofBits, Ideal.ieee, -EReal.coe_mul]; norm_num

/-- Multiplying by one sixty-fourth divides by sixty-four. -/
theorem mul_inv64 (x : EReal) : x * Ideal.ofBits .f32 0x3C800000#32 = Ideal.div x (Ideal.ofBits .f32 0x42800000#32) := by
  rw [ofBits_64, ofBits_inv64, Ideal.div, if_neg (by exact_mod_cast (by norm_num : (64 : ℝ) ≠ 0)), ← EReal.coe_inv]
  norm_num

/-- The small term under the root is positive. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem sq_nonneg (x : EReal) : 0 ≤ x * x := by
  induction x with
  | bot => simp
  | top => simp
  | coe r => exact_mod_cast mul_self_nonneg r

/-- An inverse root of a nonnegative number and the small term is finite, so it is nothing less itself. -/
theorem rsqrt_sub_self {x : EReal} (h : 0 ≤ x) :
    Ideal.rsqrt (x + Ideal.ofBits .f32 0x358637BD#32) - Ideal.rsqrt (x + Ideal.ofBits .f32 0x358637BD#32) = 0 := by
  obtain ⟨e, he, h1⟩ := eps_pos
  rw [h1]
  induction x with
  | bot => simp at h
  | top => rw [EReal.top_add_coe]; show (0 : EReal) - 0 = 0; simp
  | coe r =>
    have hr : (0 : ℝ) ≤ r := by exact_mod_cast h
    rw [← EReal.coe_add]
    change (if r + e < 0 then ⊥ else if r + e = 0 then ⊤ else (((Real.sqrt (r + e))⁻¹ : ℝ) : EReal)) -
      (if r + e < 0 then ⊥ else if r + e = 0 then ⊤ else (((Real.sqrt (r + e))⁻¹ : ℝ) : EReal)) = 0
    rw [if_neg (by linarith), if_neg (by linarith), ← EReal.coe_sub, sub_self, EReal.coe_zero]

/-- A sum against the indicator of one segment is the sum over that segment. -/
theorem sum_seg (f : Fin 1024 → EReal) (s : Fin 16) :
    ∑ d : Fin 1024, f d * (if (d : ℕ) / 64 = s then 1 else 0) = ∑ l : Fin 64, f ⟨(s : ℕ) * 64 + l, by omega⟩ := by
  rw [← (finProdFinEquiv (m := 16) (n := 64)).sum_comp, Fintype.sum_prod_type, Finset.sum_eq_single s]
  · refine Finset.sum_congr rfl fun l _ => ?_
    have e : finProdFinEquiv (s, l) = (⟨(s : ℕ) * 64 + l, by omega⟩ : Fin (16 * 64)) := Fin.ext (by simp [finProdFinEquiv]; omega)
    rw [e, if_pos (by show ((s : ℕ) * 64 + l) / 64 = s; omega), mul_one]
  · intro p _ hp
    refine Finset.sum_eq_zero fun l _ => ?_
    rw [if_neg, mul_zero]
    have : (p : ℕ) ≠ s := fun h => hp (Fin.ext h)
    simp [finProdFinEquiv]
    omega
  · simp

/-- A sum against the indicator of one of 128 lanes. -/
theorem sum_one (f : Fin 128 → EReal) (s : Fin 16) (p : ℕ → ℕ) (hp : ∀ x, x < 128 → p x = x) :
    ∑ x : Fin 128, f x * (if p x = s then 1 else 0) = f ⟨s, by omega⟩ := by
  rw [Finset.sum_eq_single (⟨s, by omega⟩ : Fin 128)]
  · rw [if_pos (hp s (by omega)), mul_one]
  · intro b _ hb
    rw [if_neg, mul_zero]
    rw [hp b b.isLt]
    exact fun h => hb (Fin.ext h)
  · simp

/-- The mean squares of a block's segments, by a product with the segments' indicator. -/
def msq (y : FVec Ideal S512x1024 .f32) (seg : Vec Ideal S1024x128 .bf16) : FVec Ideal S512x128 .f32 :=
  mulf (matmul (φ₂ := .bf16) dot_S512x1024_S1024x128_S512x128_1_0_0_1_n_n none (truncf .bf16 (mulf y y) bitsLt_bf16_f32)
    (shapeCast S1024x128 seg shapeCasts_S1024x128_S1024x128 : FVec Ideal S1024x128 .bf16) (constant S512x128 .f32 0x00000000#32)) (broadcast S512x128 (Scalar.ofBits .f32 0x3C800000#32))

/-- A block's segments normalised. -/
def nrm (y : FVec Ideal S512x1024 .f32) (seg : Vec Ideal S1024x128 .bf16) (segt : Vec Ideal S256x1024 .bf16) (gn : Vec Ideal S1x1024 .f32) : FVec Ideal S512x1024 .f32 :=
  k0_pay12 y (k0_pay10 gn) (msq y seg) segt

/-- A block of 128 lanes rotated. -/
def slab (v cs s1 s2 : FVec Ideal S512x128 .f32) : FVec Ideal S512x128 .f32 :=
  addf (addf (mulf v cs) (mulf (dynamicRotate 1 120#32 none v rotates_S512x128_d1) s1)) (mulf (dynamicRotate 1 8#32 none v rotates_S512x128_d1) s2)

theorem pay23_eq (h : FVec Ideal S512x1024 .bf16) (w : Vec Ideal S1024x1024 .bf16) (gn : Vec Ideal S1x1024 .f32) (seg : Vec Ideal S1024x128 .bf16)
    (segt : Vec Ideal S256x1024 .bf16) : k0_pay23 h w gn seg segt = nrm (k0_pay2 h w) seg segt gn := rfl

theorem pay12_eq (x0 : Vec Ideal S1x512x1024 .f32) (x1 : Vec Ideal S1x1024 .f32) (w : Vec Ideal S1024x1024 .bf16) (gn : Vec Ideal S1x1024 .f32)
    (seg : Vec Ideal S1024x128 .bf16) (segt : Vec Ideal S256x1024 .bf16) :
    k0_pay12 (k0_pay9 x0 x1 w) (k0_pay10 gn) (k0_pay11 x0 x1 w seg) segt = nrm (k0_pay2 (k0_pay5 x0 x1) w) seg segt gn := rfl

section nrm
variable {y : FVec Ideal S512x1024 .f32} {seg : Vec Ideal S1024x128 .bf16} {segt : Vec Ideal S256x1024 .bf16} {gn : Vec Ideal S1x1024 .f32} {gq : Fin 64 → EReal}
  (hs : ∀ d s, seg (ix2 d s) = if (d : ℕ) / 64 = s then 1 else 0) (ht : ∀ i d, segt (ix2 i d) = if (i : ℕ) % 128 = (d : ℕ) / 64 then 1 else 0)
  (hg : ∀ j : Fin 1024, gn (ix2 0 j) = gq ⟨(j : ℕ) % 64, Nat.mod_lt _ (by decide)⟩)

include hs in
theorem msq_at (r : Fin 512) (s : Fin 128) (h : (s : ℕ) < 16) :
    msq y seg (ix2 r s) = Ideal.div (∑ l : Fin 64, y (ix2 r ⟨(s : ℕ) * 64 + l, by omega⟩) * y (ix2 r ⟨(s : ℕ) * 64 + l, by omega⟩)) (Ideal.ofBits .f32 0x42800000#32) := by
  rw [← mul_inv64]
  pointwise [msq]
  simp only [hs]
  rw [sum_seg (fun d => y (ix2 r d) * y (ix2 r d)) ⟨s, h⟩]

include hs ht hg in
theorem nrm_at (r : Fin 512) (j : Fin 1024) :
    nrm y seg segt gn (ix2 r j) = SguSpec.rms (Ideal.ofBits .f32 0x42800000#32) (fun l : Fin 64 => y (ix2 r ⟨(j : ℕ) / 64 * 64 + l, by omega⟩)) gq ⟨(j : ℕ) % 64, by omega⟩ := by
  have e := msq_at (y := y) hs r
  have hp : ∀ s : Fin 128, (s : ℕ) < 16 → 0 ≤ msq y seg (ix2 r s) := fun s h => by
    rw [e s h, ← mul_inv64, ofBits_inv64]
    exact mul_nonneg (Finset.sum_nonneg fun l _ => sq_nonneg _) (by exact_mod_cast (by norm_num : (0:ℝ) ≤ 1 / 64))
  unfold nrm
  generalize msq y seg = M at e hp ⊢
  pointwise [k0_pay12, k0_pay10]
  simp only [ht, hg]
  have hj : (j : ℕ) / 64 < 16 := by omega
  rw [sum_one (fun x => Ideal.rsqrt (M (ix2 r x) + Ideal.ofBits FTy.f32 0x358637BD#32)) ⟨(j : ℕ) / 64, hj⟩ (fun x => x % 128) (fun x h => Nat.mod_eq_of_lt h),
    sum_one (fun x => Ideal.rsqrt (M (ix2 r x) + Ideal.ofBits FTy.f32 0x358637BD#32) - Ideal.rsqrt (M (ix2 r x) + Ideal.ofBits FTy.f32 0x358637BD#32)) ⟨(j : ℕ) / 64, hj⟩
      (fun x => (128 + x) % 128) (fun x h => by omega)]
  rw [rsqrt_sub_self (hp ⟨(j : ℕ) / 64, by omega⟩ hj), add_zero, e ⟨(j : ℕ) / 64, by omega⟩ hj]
  have e1 : (⟨(j : ℕ) / 64 * 64 + (j : ℕ) % 64, by omega⟩ : Fin 1024) = j := Fin.ext (by show (j : ℕ) / 64 * 64 + (j : ℕ) % 64 = j; omega)
  unfold SguSpec.rms
  simp only [e1]
end nrm

/-- One slab of two segments rotated, by tables of the lanes' cosines and sines. -/
theorem slab_at {v cs s1 s2 : FVec Ideal S512x128 .f32} {n : Fin 1024 → EReal} {C S : Fin 8 → EReal} (r : Fin 512) (k : Fin 8)
    (hv : ∀ l : Fin 128, v (ix2 r l) = n ⟨(k : ℕ) * 128 + l, by omega⟩)
    (hc : ∀ l : Fin 128, cs (ix2 r l) = if (l : ℕ) % 64 < 16 then C ⟨(l : ℕ) % 8, Nat.mod_lt _ (by decide)⟩ else 1)
    (h1 : ∀ l : Fin 128, s1 (ix2 r l) = if (l : ℕ) % 64 < 8 then -S ⟨(l : ℕ) % 8, Nat.mod_lt _ (by decide)⟩ else 0)
    (h2 : ∀ l : Fin 128, s2 (ix2 r l) = if 8 ≤ (l : ℕ) % 64 ∧ (l : ℕ) % 64 < 16 then S ⟨(l : ℕ) % 8, Nat.mod_lt _ (by decide)⟩ else 0)
    (j : Fin 1024) (l : Fin 128) (hj : (j : ℕ) = (k : ℕ) * 128 + l) :
    slab v cs s1 s2 (ix2 r l) = DqkvSpec.rot C S (fun i : Fin 64 => n ⟨(j : ℕ) / 64 * 64 + i, by omega⟩) ⟨(j : ℕ) % 64, by omega⟩ := by
  have e0 : (⟨(j : ℕ) / 64 * 64 + (j : ℕ) % 64, by omega⟩ : Fin 1024) = ⟨(k : ℕ) * 128 + l, by omega⟩ :=
    Fin.ext (by show (j : ℕ) / 64 * 64 + (j : ℕ) % 64 = (k : ℕ) * 128 + l; omega)
  have em : (j : ℕ) % 64 = (l : ℕ) % 64 := by omega
  pointwise [slab]
  simp only [hv, hc, h1, h2]
  unfold DqkvSpec.rot
  by_cases a1 : (l : ℕ) % 64 < 8
  · rw [if_pos (by omega), if_pos a1, if_neg (by omega), dif_pos (by omega : (j : ℕ) % 64 < 8), mul_zero, add_zero, mul_neg, ← sub_eq_add_neg]
    have e1 : (⟨(k : ℕ) * 128 + ((l : ℕ) + 128 - 120) % 128, by omega⟩ : Fin 1024) = ⟨(j : ℕ) / 64 * 64 + (8 + (j : ℕ) % 64), by omega⟩ :=
      Fin.ext (by dsimp only; omega)
    have e2 : (⟨(l : ℕ) % 8, by omega⟩ : Fin 8) = ⟨(j : ℕ) % 64, by omega⟩ := Fin.ext (by dsimp only; omega)
    simp only [e0, e1, e2]
  · by_cases a2 : (l : ℕ) % 64 < 16
    · rw [if_pos a2, if_neg a1, if_pos ⟨by omega, a2⟩, dif_neg (by omega : ¬ (j : ℕ) % 64 < 8), dif_pos (by dsimp only; omega), mul_zero, add_zero]
      have e1 : (⟨(k : ℕ) * 128 + ((l : ℕ) + 128 - 8) % 128, by omega⟩ : Fin 1024) = ⟨(j : ℕ) / 64 * 64 + ((j : ℕ) % 64 - 8), by omega⟩ :=
        Fin.ext (by dsimp only; omega)
      have e2 : (⟨(l : ℕ) % 8, by omega⟩ : Fin 8) = ⟨(j : ℕ) % 64 - 8, by omega⟩ := Fin.ext (by dsimp only; omega)
      simp only [e0, e1, e2]
    · rw [if_neg a2, if_neg a1, if_neg (by omega), dif_neg (by omega : ¬ (j : ℕ) % 64 < 8), dif_neg (by dsimp only; omega), mul_zero, add_zero, mul_zero, add_zero, mul_one]
      simp only [e0]

end Cert.DqkvIdeal.Value
-- ==== Proof.DqkvHost.lean ====
module

public import proofs.«01_k».proof.Defs
public import proofs.«01_k».proof.Proof.Gen.DqkvIdeal.Value
public import proofs.«01_k».proof.Proof.DqkvSpec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DqkvIdeal.Value

open Cert.DqkvIdeal Cert.DqkvIdeal.Gen Idealize.ShloMosaic Idealize.ShloMosaic.TcCoe Idealize.SL.Sem Idealize.ShloMosaic.StableHlo

variable (m : (ℓ : Loc nD τ sig) → Buf (Elt Ideal) ℓ)

/-- One lane's segment, as the program divides it. -/
def segI : IVec S1024 32 :=
  let x := iotaInDim S1024 32 0
  let n := broadcastInDim S1024 ![] bcast_S_S1024 (constantI S_ 32 64#32)
  select (andi (cmpi .ne (signi x) (broadcastInDim S1024 ![] bcast_S_S1024 (signi (constantI S_ 32 64#32))))
      (cmpi .ne (Host.remsi x n) (broadcastInDim S1024 ![] bcast_S_S1024 (constantI S_ 32 0#32))))
    (subi (Host.divsi x n) (broadcastInDim S1024 ![] bcast_S_S1024 (constantI S_ 32 1#32))) (Host.divsi x n)

/-- A remainder that takes the divisor's sign, as the program takes it. -/
def remI (x : IVec S128 32) (k : BitVec 32) : IVec S128 32 :=
  let n : IVec S_ 32 := select (cmpi .eq (constantI S_ 32 k) (constantI S_ 32 0#32)) (constantI S_ 32 1#32) (constantI S_ 32 k)
  let r := Host.remsi x (broadcastInDim S128 ![] bcast_S_S128 n)
  select (andi (cmpi .ne (cmpi .slt r (broadcastInDim S128 ![] bcast_S_S128 (constantI S_ 32 0#32))) (broadcastInDim S128 ![] bcast_S_S128 (cmpi .slt n (constantI S_ 32 0#32))))
      (cmpi .ne r (broadcastInDim S128 ![] bcast_S_S128 (constantI S_ 32 0#32))))
    (addi r (broadcastInDim S128 ![] bcast_S_S128 n)) r

/-- A lane's place in its segment. -/
def laneI : IVec S128 32 := remI (iotaInDim S128 32 0) 64#32

/-- The column of the angles' table a lane reads, counted from the end where it is negative. -/
def colI : IVec S128 32 :=
  select (cmpi .slt (remI laneI 8#32) (broadcastInDim S128 ![] bcast_S_S128 (constantI S_ 32 0#32)))
    (addi (remI laneI 8#32) (broadcastInDim S128 ![] bcast_S_S128 (constantI S_ 32 8#32))) (remI laneI 8#32)

theorem segI_at : ∀ d : Fin 1024, segI (ix1 d) = BitVec.ofNat 32 ((d : ℕ) / 64) := by decide +kernel

theorem laneI_at : ∀ l : Fin 128, laneI (ix1 l) = BitVec.ofNat 32 ((l : ℕ) % 64) := by decide +kernel

theorem colI_at : ∀ l : Fin 128, colI (ix1 l) = BitVec.ofNat 32 ((l : ℕ) % 8) := by decide +kernel

theorem col_nat : ∀ i : Fin 8, min (BitVec.ofNat 32 (i : ℕ)).toInt.toNat 7 = i := by decide

/-- The gather along the second axis, read at an index. -/
theorem gather_at (x : Vec Ideal S2048x8 .f32) (i : IVec S128x1 32) (t : Fin 2048) (l : Fin 128) :
    Host.gather gather_S2048x8_S128x1_S2048x128_0_1_n_n_1_1_20481 x i (ix2 t l) = x (ix2 t ⟨min (i (ix2 l 0)).toInt.toNat 7, by omega⟩) := by
  unfold Host.gather
  congr 1
  funext a
  refine Fin.ext ?_
  show GatherDims.start _ (ix2 t l) i a + GatherDims.batchCoord _ (ix2 t l) a + GatherDims.offCoord _ (ix2 t l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    simp only [Nat.zero_add]
    unfold GatherDims.offCoord
    rw [dif_pos (by decide)]
    rfl
  · rw [GatherDims.offCoord_eq_zero _ _ _ (by decide)]
    unfold GatherDims.start
    rw [dif_pos (by decide)]
    simp only [Nat.add_zero]
    have hsi : ∀ k, gather_S2048x8_S128x1_S2048x128_0_1_n_n_1_1_20481.siIdx (ix2 t l) k = ix2 l 0 := by
      intro k
      funext b
      refine Fin.ext ?_
      match b with
      | ⟨0, _⟩ => rfl
      | ⟨1, _⟩ =>
        have : ∀ k : Fin 1, (k : ℕ) = 0 := by decide
        exact this k
    rw [hsi]
    rfl

/-- The segments' indicator. -/
def segF : FVec Ideal S1024x128 .bf16 :=
  uitofp .bf16 (cmpi .eq (broadcastInDim S1024x128 ![0, 1] bcast_S1024x1_S1024x128_0_1 (broadcastInDim S1024x1 ![0] bcast_S1024_S1024x1_0 segI))
    (broadcastInDim S1024x128 ![0, 1] bcast_S1x128_S1024x128_0_1 (broadcastInDim S1x128 ![1] bcast_S128_S1x128_1 (iotaInDim S128 32 0))))

/-- The indicator transposed, twice over. -/
def segtF : FVec Ideal S256x1024 .bf16 :=
  concatenate S256x1024 0 [⟨S128x1024, transpose S128x1024 [1, 0] segF transposes_S1024x128_S128x1024_1_0⟩,
    ⟨S128x1024, transpose S128x1024 [1, 0] segF transposes_S1024x128_S128x1024_1_0⟩] concatenates_S128x1024_S128x1024_S256x1024_d0

/-- The angles. -/
def angF : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.powf (broadcastInDim S8 ![] bcast_S_S8 (constant S_ .f32 0x48F42400#32))
      (Host.divf (Host.negf (sitofp .f32 (iotaInDim S8 32 0))) (broadcastInDim S8 ![] bcast_S_S8 (constant S_ .f32 0x41000000#32))))))

/-- The lanes of a row whose place satisfies a comparison. -/
def maskI (p : CmpIPredicate) (k : BitVec 32) : IVec S1x128 1 :=
  cmpi p (broadcastInDim S1x128 ![1] bcast_S128_S1x128_1 laneI) (broadcastInDim S1x128 ![] bcast_S_S1x128 (constantI S_ 32 k))

/-- A table's columns gathered by lane. -/
def gatF (x : FVec Ideal S2048x8 .f32) : FVec Ideal S2048x128 .f32 :=
  Host.gather gather_S2048x8_S128x1_S2048x128_0_1_n_n_1_1_20481 x (broadcastInDim S128x1 ![0] bcast_S128_S128x1_0 colI)

def cosF : FVec Ideal S2048x128 .f32 :=
  select (broadcastInDim S2048x128 ![0, 1] bcast_S1x128_S2048x128_0_1 (maskI .slt 16#32)) (gatF (Host.cos angF)) (broadcastInDim S2048x128 ![] bcast_S_S2048x128 (constant S_ .f32 0x3F800000#32))

def s1F : FVec Ideal S2048x128 .f32 :=
  select (broadcastInDim S2048x128 ![0, 1] bcast_S1x128_S2048x128_0_1 (maskI .slt 8#32)) (Host.negf (gatF (Host.sin angF))) (broadcastInDim S2048x128 ![] bcast_S_S2048x128 (constant S_ .f32 0x00000000#32))

def s2F : FVec Ideal S2048x128 .f32 :=
  select (broadcastInDim S2048x128 ![0, 1] bcast_S1x128_S2048x128_0_1 (andi (maskI .sge 8#32) (maskI .slt 16#32))) (gatF (Host.sin angF))
    (broadcastInDim S2048x128 ![] bcast_S_S2048x128 (constant S_ .f32 0x00000000#32))

/-- A gain of one segment repeated along a row. -/
def tileF (g : FVec Ideal S64 .f32) : FVec Ideal S1x1024 .f32 :=
  shapeCast S1x1024 (shapeCast S1024 (broadcastInDim S16x64 ![0, 1] bcast_S1x64_S16x64_0_1 (shapeCast S1x64 g shapeCasts_S64_S1x64)) shapeCasts_S16x64_S1024) shapeCasts_S1024_S1x1024

theorem V8 (c : Dev nD) : @Eq (Vec Ideal S1024x128 .bf16) (V m c main_v8) (segF) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  rfl

theorem V11 (c : Dev nD) : @Eq (Vec Ideal S256x1024 .bf16) (V m c main_v11) (segtF) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  rfl

theorem V12 (c : Dev nD) : @Eq (Vec Ideal S1x1024 .f32) (V m c main_v12) (shapeCast S1x1024 (m ((c.tc : Thread nD τ).loc main_arg1) : Vec Ideal S1024 .f32) shapeCasts_S1024_S1x1024) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  rfl

theorem V13 (c : Dev nD) : @Eq (Vec Ideal S1024x3072 .bf16) (V m c main_v13) (truncf (F := Ideal) .bf16 (m ((c.tc : Thread nD τ).loc main_arg2) : FVec Ideal S1024x3072 .f32) bitsLt_bf16_f32) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results

theorem V17 (c : Dev nD) : @Eq (Vec Ideal S1x1024 .f32) (V m c main_v17) (tileF (m ((c.tc : Thread nD τ).loc main_arg3))) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  rfl

theorem V21 (c : Dev nD) : @Eq (Vec Ideal S1x1024 .f32) (V m c main_v21) (tileF (m ((c.tc : Thread nD τ).loc main_arg4))) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  rfl

set_option maxHeartbeats 2000000 in
theorem V49 (c : Dev nD) : @Eq (Vec Ideal S2048x128 .f32) (V m c main_v49) (cosF) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  simp only [StableHlo.TRef.ofBuf_toBuf, id_eq]
  rfl

set_option maxHeartbeats 2000000 in
theorem V62 (c : Dev nD) : @Eq (Vec Ideal S2048x128 .f32) (V m c main_v62) (s1F) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  simp only [StableHlo.TRef.ofBuf_toBuf, id_eq]
  rfl

set_option maxHeartbeats 2000000 in
theorem V70 (c : Dev nD) : @Eq (Vec Ideal S2048x128 .f32) (V m c main_v70) (s2F) := by
  unfold V
  simp only [hostOps0, hostOps0_1, hostOps0_2, hostOps0_3, hostOps0_4, hostOps0_5, hostOps0_6, hostOps0_7, hostOps0_8, hostOps0_9, hostOps0_10, hostOps0_11, List.flatten_cons,
    List.flatten_nil, List.append_nil, List.cons_append, List.nil_append]
  after_results
  simp only [StableHlo.TRef.ofBuf_toBuf, id_eq]
  rfl

theorem cmp_seg : ∀ (a : Fin 16) (s : Fin 128), IntOp.cmpi .eq (BitVec.ofNat 32 (a : ℕ)) (BitVec.ofNat 32 (s : ℕ)) = if (a : ℕ) = s then 1#1 else 0#1 := by
  decide +kernel

theorem cmp_slt16 : ∀ a : Fin 64, IntOp.cmpi .slt (BitVec.ofNat 32 (a : ℕ)) 16#32 = if (a : ℕ) < 16 then 1#1 else 0#1 := by decide

theorem cmp_slt8 : ∀ a : Fin 64, IntOp.cmpi .slt (BitVec.ofNat 32 (a : ℕ)) 8#32 = if (a : ℕ) < 8 then 1#1 else 0#1 := by decide

theorem cmp_and : ∀ a : Fin 64, IntOp.andi (IntOp.cmpi .sge (BitVec.ofNat 32 (a : ℕ)) 8#32) (IntOp.cmpi .slt (BitVec.ofNat 32 (a : ℕ)) 16#32)
    = if 8 ≤ (a : ℕ) ∧ (a : ℕ) < 16 then 1#1 else 0#1 := by decide

theorem select_ite {p : Prop} [Decidable p] (a b : EReal) : Scalar.select (if p then 1#1 else 0#1) a b = if p then a else b := by
  split <;> rfl

theorem segF_at (d : Fin 1024) (s : Fin 128) : segF (ix2 d s) = if (d : ℕ) / 64 = s then 1 else 0 := by
  pointwise [segF]
  rw [segI_at]
  refine (congrArg (FloatOps.uitofp (F := Ideal) .bf16) (cmp_seg ⟨(d : ℕ) / 64, by omega⟩ s)).trans ?_
  dsimp only
  split
  · show (((1#1 : BitVec 1).toNat : ℝ) : EReal) = 1
    simp
  · show (((0#1 : BitVec 1).toNat : ℝ) : EReal) = 0
    simp

theorem segtF_at (i : Fin 256) (d : Fin 1024) : segtF (ix2 i d) = if (i : ℕ) % 128 = (d : ℕ) / 64 then 1 else 0 := by
  pointwise [segtF]
  split
  · rw [segF_at]
    exact if_congr (by dsimp only; omega) rfl rfl
  · rw [segF_at]
    exact if_congr (by dsimp only; omega) rfl rfl

theorem angF_at (t : Fin 2048) (i : Fin 8) : angF (ix2 t i) = DqkvSpec.ang t i := by
  pointwise [angF]
  rfl

theorem gatF_at (x : FVec Ideal S2048x8 .f32) (t : Fin 2048) (l : Fin 128) : gatF x (ix2 t l) = x (ix2 t ⟨(l : ℕ) % 8, Nat.mod_lt _ (by decide)⟩) := by
  unfold gatF
  rw [gather_at]
  have e : (broadcastInDim S128x1 ![0] bcast_S128_S128x1_0 colI) (ix2 l 0) = BitVec.ofNat 32 ((l : ℕ) % 8) := by
    pointwise []
    rw [colI_at]
  exact congrArg x (congrArg (ix2 t) (Fin.ext (by show min (BitVec.toInt _).toNat 7 = _; rw [e]; exact col_nat ⟨(l : ℕ) % 8, Nat.mod_lt _ (by decide)⟩)))

theorem cosF_at (t : Fin 2048) (l : Fin 128) : cosF (ix2 t l) = if (l : ℕ) % 64 < 16 then Ideal.cos (DqkvSpec.ang t ⟨(l : ℕ) % 8, Nat.mod_lt _ (by decide)⟩) else 1 := by
  pointwise [cosF, maskI]
  rw [gatF_at, laneI_at, cmp_slt16 ⟨(l : ℕ) % 64, by omega⟩, select_ite, ← angF_at]
  rfl

theorem s1F_at (t : Fin 2048) (l : Fin 128) : s1F (ix2 t l) = if (l : ℕ) % 64 < 8 then -Ideal.sin (DqkvSpec.ang t ⟨(l : ℕ) % 8, Nat.mod_lt _ (by decide)⟩) else 0 := by
  pointwise [s1F, maskI]
  rw [laneI_at, cmp_slt8 ⟨(l : ℕ) % 64, by omega⟩, select_ite, ← angF_at, gatF_at]
  rfl

theorem s2F_at (t : Fin 2048) (l : Fin 128) : s2F (ix2 t l) = if 8 ≤ (l : ℕ) % 64 ∧ (l : ℕ) % 64 < 16 then Ideal.sin (DqkvSpec.ang t ⟨(l : ℕ) % 8, Nat.mod_lt _ (by decide)⟩) else 0 := by
  pointwise [s2F, maskI]
  rw [laneI_at, cmp_and ⟨(l : ℕ) % 64, by omega⟩, select_ite, ← angF_at, gatF_at]
  rfl

theorem tileF_at (g : FVec Ideal S64 .f32) (j : Fin 1024) : tileF g (ix2 0 j) = g (ix1 ⟨(j : ℕ) % 64, Nat.mod_lt _ (by decide)⟩) := by
  pointwise [tileF]

end Cert.DqkvIdeal.Value
-- ==== Proof.DqkvBlock.lean ====
module

public import proofs.«01_k».proof.Defs
public import proofs.«01_k».proof.Proof.Gen.DqkvIdeal.Value
public import proofs.«01_k».proof.Proof.DqkvTile
public import proofs.«01_k».proof.Proof.DqkvHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DqkvIdeal.Value

open Cert.DqkvIdeal Cert.DqkvIdeal.Gen Idealize.ShloMosaic Idealize.ShloMosaic.TcCoe Idealize.SL.Sem Idealize.ShloMosaic.StableHlo

/-- A slice of 128 lanes, read at an index. -/
theorem slice_at (N : FVec Ideal S512x1024 .f32) (o : ℕ) (h : S512x1024.Slices ![0, o] S512x128) (r : Fin 512) (l : Fin 128) (ho : o + l < 1024) :
    extractStridedSlice S512x128 ![0, o] N h (ix2 r l) = N (ix2 r ⟨o + l, ho⟩) :=
  congrArg N (by blk_ext <;> rfl)

/-- Eight pieces of 128 lanes that all hold `G` leave `G`. -/
theorem canon8 {e : EltTy} (G : Vec Ideal S1x512x1024 e) (P0 P1 P2 P3 P4 P5 P6 P7 : Vec Ideal S1x512x128 e)
    (H0 : ∀ (r : Fin 512) (l : Fin 128), P0 (ix3 0 r l) = G (ix3 0 r ⟨0 + l, by omega⟩))
    (H1 : ∀ (r : Fin 512) (l : Fin 128), P1 (ix3 0 r l) = G (ix3 0 r ⟨128 + l, by omega⟩))
    (H2 : ∀ (r : Fin 512) (l : Fin 128), P2 (ix3 0 r l) = G (ix3 0 r ⟨256 + l, by omega⟩))
    (H3 : ∀ (r : Fin 512) (l : Fin 128), P3 (ix3 0 r l) = G (ix3 0 r ⟨384 + l, by omega⟩))
    (H4 : ∀ (r : Fin 512) (l : Fin 128), P4 (ix3 0 r l) = G (ix3 0 r ⟨512 + l, by omega⟩))
    (H5 : ∀ (r : Fin 512) (l : Fin 128), P5 (ix3 0 r l) = G (ix3 0 r ⟨640 + l, by omega⟩))
    (H6 : ∀ (r : Fin 512) (l : Fin 128), P6 (ix3 0 r l) = G (ix3 0 r ⟨768 + l, by omega⟩))
    (H7 : ∀ (r : Fin 512) (l : Fin 128), P7 (ix3 0 r l) = G (ix3 0 r ⟨896 + l, by omega⟩))
    (y : S1x512x1024.Idx) :
    View.canon ([⟨r0_13, P7⟩, ⟨r0_12, P6⟩, ⟨r0_11, P5⟩, ⟨r0_10, P4⟩, ⟨r0_9, P3⟩, ⟨r0_8, P2⟩, ⟨r0_7, P1⟩, ⟨r0_6, P0⟩] : List (View.Piece (Elt Ideal) S1x512x1024 e)) y = G y := by
  refine View.canon_apply_of_pieces G _ ?_ y (View.cover_of_tiled ([⟨r0_13, P7⟩, ⟨r0_12, P6⟩, ⟨r0_11, P5⟩, ⟨r0_10, P4⟩, ⟨r0_9, P3⟩, ⟨r0_8, P2⟩, ⟨r0_7, P1⟩, ⟨r0_6, P0⟩] : List (View.Piece (Elt Ideal) S1x512x1024 e)) S1x512x128.size (by rfl) y)
  intro pc hpc
  rcases List.mem_cons.mp hpc with rfl | hpc
  · intro x
    refine (congrArg P7 (show x = ix3 0 (x 1) (x 2) from by blk_ext)).trans ((H7 (x 1) (x 2)).trans (congrArg G ?_))
    blk_ext
  rcases List.mem_cons.mp hpc with rfl | hpc
  · intro x
    refine (congrArg P6 (show x = ix3 0 (x 1) (x 2) from by blk_ext)).trans ((H6 (x 1) (x 2)).trans (congrArg G ?_))
    blk_ext
  rcases List.mem_cons.mp hpc with rfl | hpc
  · intro x
    refine (congrArg P5 (show x = ix3 0 (x 1) (x 2) from by blk_ext)).trans ((H5 (x 1) (x 2)).trans (congrArg G ?_))
    blk_ext
  rcases List.mem_cons.mp hpc with rfl | hpc
  · intro x
    refine (congrArg P4 (show x = ix3 0 (x 1) (x 2) from by blk_ext)).trans ((H4 (x 1) (x 2)).trans (congrArg G ?_))
    blk_ext
  rcases List.mem_cons.mp hpc with rfl | hpc
  · intro x
    refine (congrArg P3 (show x = ix3 0 (x 1) (x 2) from by blk_ext)).trans ((H3 (x 1) (x 2)).trans (congrArg G ?_))
    blk_ext
  rcases List.mem_cons.mp hpc with rfl | hpc
  · intro x
    refine (congrArg P2 (show x = ix3 0 (x 1) (x 2) from by blk_ext)).trans ((H2 (x 1) (x 2)).trans (congrArg G ?_))
    blk_ext
  rcases List.mem_cons.mp hpc with rfl | hpc
  · intro x
    refine (congrArg P1 (show x = ix3 0 (x 1) (x 2) from by blk_ext)).trans ((H1 (x 1) (x 2)).trans (congrArg G ?_))
    blk_ext
  rcases List.mem_cons.mp hpc with rfl | hpc
  · intro x
    refine (congrArg P0 (show x = ix3 0 (x 1) (x 2) from by blk_ext)).trans ((H0 (x 1) (x 2)).trans (congrArg G ?_))
    blk_ext
  nomatch hpc

section slabs
variable {N cs s1 s2 : FVec Ideal S512x128 .f32}

/-- What a rotated block holds: every segment of 64 lanes rotated. -/
def rotF (N : FVec Ideal S512x1024 .f32) (C S : Fin 512 → Fin 8 → EReal) (r : Fin 512) (j : Fin 1024) : EReal :=
  DqkvSpec.rot (C r) (S r) (fun i : Fin 64 => N (ix2 r ⟨(j : ℕ) / 64 * 64 + i, by omega⟩)) ⟨(j : ℕ) % 64, by omega⟩
end slabs

section blocks
variable {N : FVec Ideal S512x1024 .f32} {cs s1 s2 : FVec Ideal S512x128 .f32} {C S : Fin 512 → Fin 8 → EReal}
  (hc : ∀ (r : Fin 512) (l : Fin 128), cs (ix2 r l) = if (l : ℕ) % 64 < 16 then C r ⟨(l : ℕ) % 8, Nat.mod_lt _ (by decide)⟩ else 1)
  (h1 : ∀ (r : Fin 512) (l : Fin 128), s1 (ix2 r l) = if (l : ℕ) % 64 < 8 then -S r ⟨(l : ℕ) % 8, Nat.mod_lt _ (by decide)⟩ else 0)
  (h2 : ∀ (r : Fin 512) (l : Fin 128), s2 (ix2 r l) = if 8 ≤ (l : ℕ) % 64 ∧ (l : ℕ) % 64 < 16 then S r ⟨(l : ℕ) % 8, Nat.mod_lt _ (by decide)⟩ else 0)

include hc h1 h2 in
theorem slabN_at (k : Fin 8) (o : ℕ) (ho : o = (k : ℕ) * 128) (h : S512x1024.Slices ![0, o] S512x128) (r : Fin 512) (l : Fin 128) (hl : o + (l : ℕ) < 1024) :
    slab (extractStridedSlice S512x128 ![0, o] N h) cs s1 s2 (ix2 r l) = rotF N C S r ⟨o + l, hl⟩ := by
  subst ho
  exact slab_at (n := fun j => N (ix2 r j)) r k (fun l => slice_at N _ h r l (by omega)) (hc r) (h1 r) (h2 r) ⟨(k : ℕ) * 128 + l, hl⟩ l rfl

theorem scaled_at (V : FVec Ideal S512x128 .f32) (r : Fin 512) (l : Fin 128) :
    shapeCast S1x512x128 (truncf .bf16 (mulf V (broadcast S512x128 (Scalar.ofBits .f32 0x3E38AA3B#32))) bitsLt_bf16_f32) shapeCasts_S512x128_S1x512x128 (ix3 0 r l)
      = V (ix2 r l) * Ideal.ofBits .f32 0x3E38AA3B#32 := by
  pointwise []

theorem plain_at (V : FVec Ideal S512x128 .f32) (r : Fin 512) (l : Fin 128) : shapeCast S1x512x128 V shapeCasts_S512x128_S1x512x128 (ix3 0 r l) = V (ix2 r l) := by
  pointwise []

theorem cast_at (V : FVec Ideal S512x128 .f32) (r : Fin 512) (l : Fin 128) :
    shapeCast S1x512x128 (truncf .bf16 V bitsLt_bf16_f32) shapeCasts_S512x128_S1x512x128 (ix3 0 r l) = V (ix2 r l) := by
  pointwise []

include hc h1 h2 in
/-- The block of queries. -/
theorem q_block (v25 : FVec Ideal S512x1024 .f32) (v27 : FVec Ideal S1x1024 .f32) (v34 : FVec Ideal S512x128 .f32) (v43 : Vec Ideal S256x1024 .bf16)
    (hN : k0_pay12 v25 v27 v34 v43 = N) (y : S1x512x1024.Idx) :
    View.canon ([⟨r0_13, k0_pay22 (k0_pay21 cs s1 s2 N)⟩, ⟨r0_12, k0_pay20 cs s1 s2 N⟩, ⟨r0_11, k0_pay19 cs s1 s2 N⟩, ⟨r0_10, k0_pay18 (k0_pay17 cs s1 s2 N)⟩,
      ⟨r0_9, k0_pay16 cs s1 s2 N⟩, ⟨r0_8, k0_pay15 cs s1 s2 N⟩, ⟨r0_7, k0_pay14 cs s1 s2 v25 v27 v34 v43⟩, ⟨r0_6, k0_pay13 cs s1 s2 v25 v27 v34 v43⟩] : List (View.Piece (Elt Ideal) S1x512x1024 .bf16)) y
      = rotF N C S (y 1) (y 2) * Ideal.ofBits .f32 0x3E38AA3B#32 := by
  unfold k0_pay14 k0_pay13
  rw [hN]
  refine canon8 (e := .bf16) (fun y => rotF N C S (y 1) (y 2) * Ideal.ofBits .f32 0x3E38AA3B#32) _ _ _ _ _ _ _ _ ?_ ?_ ?_ ?_ ?_ ?_ ?_ ?_ y
  · exact fun r l => (scaled_at _ r l).trans (congrArg (· * _) (slabN_at hc h1 h2 0 0 rfl slices_S512x1024_o0_0_S512x128 r l (by omega)))
  · exact fun r l => (scaled_at _ r l).trans (congrArg (· * _) (slabN_at hc h1 h2 1 128 rfl slices_S512x1024_o0_128_S512x128 r l (by omega)))
  · exact fun r l => (scaled_at _ r l).trans (congrArg (· * _) (slabN_at hc h1 h2 2 256 rfl slices_S512x1024_o0_256_S512x128 r l (by omega)))
  · exact fun r l => (scaled_at _ r l).trans (congrArg (· * _) (slabN_at hc h1 h2 3 384 rfl slices_S512x1024_o0_384_S512x128 r l (by omega)))
  · exact fun r l => (scaled_at _ r l).trans (congrArg (· * _) (slabN_at hc h1 h2 4 512 rfl slices_S512x1024_o0_512_S512x128 r l (by omega)))
  · exact fun r l => (scaled_at _ r l).trans (congrArg (· * _) (slabN_at hc h1 h2 5 640 rfl slices_S512x1024_o0_640_S512x128 r l (by omega)))
  · exact fun r l => (scaled_at _ r l).trans (congrArg (· * _) (slabN_at hc h1 h2 6 768 rfl slices_S512x1024_o0_768_S512x128 r l (by omega)))
  · exact fun r l => (scaled_at _ r l).trans (congrArg (· * _) (slabN_at hc h1 h2 7 896 rfl slices_S512x1024_o0_896_S512x128 r l (by omega)))

include hc h1 h2 in
/-- The block of keys. -/
theorem k_block (y : S1x512x1024.Idx) :
    View.canon ([⟨r0_13, k0_pay46 cs s1 s2 N⟩, ⟨r0_12, k0_pay43 cs s1 s2 N⟩, ⟨r0_11, k0_pay40 (k0_pay39 cs s1 s2 N)⟩, ⟨r0_10, k0_pay37 cs s1 s2 N⟩, ⟨r0_9, k0_pay34 cs s1 s2 N⟩, ⟨r0_8, k0_pay31 cs s1 s2 N⟩, ⟨r0_7, k0_pay28 cs s1 s2 N⟩,
      ⟨r0_6, k0_pay25 (slab (extractStridedSlice S512x128 ![0, 0] N slices_S512x1024_o0_0_S512x128) cs s1 s2)⟩] : List (View.Piece (Elt Ideal) S1x512x1024 .f32)) y
      = rotF N C S (y 1) (y 2) := by
  refine canon8 (e := .f32) (fun y => rotF N C S (y 1) (y 2)) _ _ _ _ _ _ _ _ ?_ ?_ ?_ ?_ ?_ ?_ ?_ ?_ y
  · exact fun r l => (plain_at _ r l).trans (slabN_at hc h1 h2 0 0 rfl slices_S512x1024_o0_0_S512x128 r l (by omega))
  · exact fun r l => (plain_at _ r l).trans (slabN_at hc h1 h2 1 128 rfl slices_S512x1024_o0_128_S512x128 r l (by omega))
  · exact fun r l => (plain_at _ r l).trans (slabN_at hc h1 h2 2 256 rfl slices_S512x1024_o0_256_S512x128 r l (by omega))
  · exact fun r l => (plain_at _ r l).trans (slabN_at hc h1 h2 3 384 rfl slices_S512x1024_o0_384_S512x128 r l (by omega))
  · exact fun r l => (plain_at _ r l).trans (slabN_at hc h1 h2 4 512 rfl slices_S512x1024_o0_512_S512x128 r l (by omega))
  · exact fun r l => (plain_at _ r l).trans (slabN_at hc h1 h2 5 640 rfl slices_S512x1024_o0_640_S512x128 r l (by omega))
  · exact fun r l => (plain_at _ r l).trans (slabN_at hc h1 h2 6 768 rfl slices_S512x1024_o0_768_S512x128 r l (by omega))
  · exact fun r l => (plain_at _ r l).trans (slabN_at hc h1 h2 7 896 rfl slices_S512x1024_o0_896_S512x128 r l (by omega))

include hc h1 h2 in
/-- The block of keys, cast. -/
theorem kb_block (y : S1x512x1024.Idx) :
    View.canon ([⟨r0_13, k0_pay1 (k0_pay47 cs s1 s2 N)⟩, ⟨r0_12, k0_pay44 cs s1 s2 N⟩, ⟨r0_11, k0_pay41 (k0_pay39 cs s1 s2 N)⟩, ⟨r0_10, k0_pay38 cs s1 s2 N⟩, ⟨r0_9, k0_pay35 cs s1 s2 N⟩, ⟨r0_8, k0_pay32 cs s1 s2 N⟩, ⟨r0_7, k0_pay29 cs s1 s2 N⟩,
      ⟨r0_6, k0_pay26 (slab (extractStridedSlice S512x128 ![0, 0] N slices_S512x1024_o0_0_S512x128) cs s1 s2)⟩] : List (View.Piece (Elt Ideal) S1x512x1024 .bf16)) y
      = rotF N C S (y 1) (y 2) := by
  refine canon8 (e := .bf16) (fun y => rotF N C S (y 1) (y 2)) _ _ _ _ _ _ _ _ ?_ ?_ ?_ ?_ ?_ ?_ ?_ ?_ y
  · exact fun r l => (cast_at _ r l).trans (slabN_at hc h1 h2 0 0 rfl slices_S512x1024_o0_0_S512x128 r l (by omega))
  · exact fun r l => (cast_at _ r l).trans (slabN_at hc h1 h2 1 128 rfl slices_S512x1024_o0_128_S512x128 r l (by omega))
  · exact fun r l => (cast_at _ r l).trans (slabN_at hc h1 h2 2 256 rfl slices_S512x1024_o0_256_S512x128 r l (by omega))
  · exact fun r l => (cast_at _ r l).trans (slabN_at hc h1 h2 3 384 rfl slices_S512x1024_o0_384_S512x128 r l (by omega))
  · exact fun r l => (cast_at _ r l).trans (slabN_at hc h1 h2 4 512 rfl slices_S512x1024_o0_512_S512x128 r l (by omega))
  · exact fun r l => (cast_at _ r l).trans (slabN_at hc h1 h2 5 640 rfl slices_S512x1024_o0_640_S512x128 r l (by omega))
  · exact fun r l => (cast_at _ r l).trans (slabN_at hc h1 h2 6 768 rfl slices_S512x1024_o0_768_S512x128 r l (by omega))
  · exact fun r l => (cast_at _ r l).trans (slabN_at hc h1 h2 7 896 rfl slices_S512x1024_o0_896_S512x128 r l (by omega))
end blocks

section tile
variable {X : Fin 8 → Fin 2048 → Fin 1024 → EReal} {g : Fin 1024 → EReal} {w : Fin 1024 → Fin 3072 → EReal} {gq gk : Fin 64 → EReal}
  {x0 : Vec Ideal S1x512x1024 .f32} {x1 : Vec Ideal S1x1024 .f32} {x2 : Vec Ideal S1024x3072 .bf16} {x3 : Vec Ideal S1024x128 .bf16} {x4 : Vec Ideal S256x1024 .bf16}
  {x5 x6 : Vec Ideal S1x1024 .f32} {x7 x8 x9 : Vec Ideal S512x128 .f32} {b : Fin 8} {T : Fin 512 → Fin 2048}
  (h0 : ∀ r d, x0 (ix3 0 r d) = X b (T r) d) (h1 : ∀ d, x1 (ix2 0 d) = g d) (h2 : ∀ d j, x2 (ix2 d j) = w d j)
  (h3 : ∀ d s, x3 (ix2 d s) = if (d : ℕ) / 64 = s then 1 else 0) (h4 : ∀ i d, x4 (ix2 i d) = if (i : ℕ) % 128 = (d : ℕ) / 64 then 1 else 0)
  (h5 : ∀ j : Fin 1024, x5 (ix2 0 j) = gq ⟨(j : ℕ) % 64, Nat.mod_lt _ (by decide)⟩) (h6 : ∀ j : Fin 1024, x6 (ix2 0 j) = gk ⟨(j : ℕ) % 64, Nat.mod_lt _ (by decide)⟩)
  (h7 : ∀ (r : Fin 512) (l : Fin 128), x7 (ix2 r l) = if (l : ℕ) % 64 < 16 then Ideal.cos (DqkvSpec.ang (T r) ⟨(l : ℕ) % 8, Nat.mod_lt _ (by decide)⟩) else 1)
  (h8 : ∀ (r : Fin 512) (l : Fin 128), x8 (ix2 r l) = if (l : ℕ) % 64 < 8 then -Ideal.sin (DqkvSpec.ang (T r) ⟨(l : ℕ) % 8, Nat.mod_lt _ (by decide)⟩) else 0)
  (h9 : ∀ (r : Fin 512) (l : Fin 128), x9 (ix2 r l) = if 8 ≤ (l : ℕ) % 64 ∧ (l : ℕ) % 64 < 16 then Ideal.sin (DqkvSpec.ang (T r) ⟨(l : ℕ) % 8, Nat.mod_lt _ (by decide)⟩) else 0)

include h0 h1 in
theorem rows_at (r : Fin 512) (d : Fin 1024) :
    k0_pay5 (View.ld x0 r0_0) (View.ld x1 r0_1) (ix2 r d) = SguSpec.rms (Ideal.ofBits .f32 0x44800000#32) (X b (T r)) g d := by
  pointwise [k0_pay5]
  simp only [h0, h1]
  rfl

include h0 h1 h2 in
theorem projq_at (r : Fin 512) (j : Fin 1024) :
    k0_pay2 (k0_pay5 (View.ld x0 r0_0) (View.ld x1 r0_1)) (View.ld x2 r0_3) (ix2 r j) = DqkvSpec.proj X g w b (T r) ⟨j, by omega⟩ := by
  have e := rows_at h0 h1
  generalize k0_pay5 (View.ld x0 r0_0) (View.ld x1 r0_1) = R at e ⊢
  pointwise [k0_pay2]
  simp only [e, h2]
  rfl

include h0 h1 h2 in
theorem projk_at (r : Fin 512) (j : Fin 1024) :
    k0_pay2 (k0_pay5 (View.ld x0 r0_0) (View.ld x1 r0_1)) (View.ld x2 r0_14) (ix2 r j) = DqkvSpec.proj X g w b (T r) ⟨1024 + j, by omega⟩ := by
  have e := rows_at h0 h1
  generalize k0_pay5 (View.ld x0 r0_0) (View.ld x1 r0_1) = R at e ⊢
  pointwise [k0_pay2]
  simp only [e, h2]
  rfl

include h0 h1 h2 in
theorem projv_at (r : Fin 512) (j : Fin 1024) :
    k0_pay2 (k0_pay5 (View.ld x0 r0_0) (View.ld x1 r0_1)) (View.ld x2 r0_15) (ix2 r j) = DqkvSpec.proj X g w b (T r) ⟨2048 + j, by omega⟩ := by
  have e := rows_at h0 h1
  generalize k0_pay5 (View.ld x0 r0_0) (View.ld x1 r0_1) = R at e ⊢
  pointwise [k0_pay2]
  simp only [e, h2]
  rfl

/-- Segments normalised and then rotated. -/
theorem key_of {y : FVec Ideal S512x1024 .f32} {seg : Vec Ideal S1024x128 .bf16} {segt : Vec Ideal S256x1024 .bf16} {gn : Vec Ideal S1x1024 .f32} {gs : Fin 64 → EReal}
    {p : Fin 512 → Fin 1024 → EReal} (hy : ∀ r j, y (ix2 r j) = p r j)
    (hs : ∀ d s, seg (ix2 d s) = if (d : ℕ) / 64 = s then 1 else 0) (ht : ∀ i d, segt (ix2 i d) = if (i : ℕ) % 128 = (d : ℕ) / 64 then 1 else 0)
    (hg : ∀ j : Fin 1024, gn (ix2 0 j) = gs ⟨(j : ℕ) % 64, Nat.mod_lt _ (by decide)⟩) (r : Fin 512) (j : Fin 1024) :
    rotF (nrm y seg segt gn) (fun r i => Ideal.cos (DqkvSpec.ang (T r) i)) (fun r i => Ideal.sin (DqkvSpec.ang (T r) i)) r j = DqkvSpec.key (p r) gs (T r) j := by
  unfold rotF DqkvSpec.key
  congr 1
  funext i
  rw [nrm_at hs ht hg]
  simp only [hy]
  have e1 : ((j : ℕ) / 64 * 64 + i) / 64 = (j : ℕ) / 64 := by omega
  have e2 : (⟨((j : ℕ) / 64 * 64 + i) % 64, by omega⟩ : Fin 64) = i := Fin.ext (by show ((j : ℕ) / 64 * 64 + i) % 64 = i; omega)
  simp only [e1, e2]

include h0 h1 h2 h3 h4 h5 h7 h8 h9 in
theorem out10_at (r : Fin 512) (j : Fin 1024) : out0_10 x0 x1 x2 x3 x4 x5 x6 x7 x8 x9 (ix3 0 r j) = DqkvSpec.q X g w gq b (T r) j := by
  unfold out0_10
  refine (q_block (N := nrm (k0_pay2 (k0_pay5 (View.ld x0 r0_0) (View.ld x1 r0_1)) (View.ld x2 r0_3)) (View.ld x3 r0_4) (View.ld x4 r0_5) (View.ld x5 r0_1))
    (C := fun r i => Ideal.cos (DqkvSpec.ang (T r) i)) (S := fun r i => Ideal.sin (DqkvSpec.ang (T r) i)) ?_ ?_ ?_ _ _ _ _ rfl (ix3 0 r j)).trans
    (congrArg (· * _) (key_of (p := fun r j => DqkvSpec.proj X g w b (T r) ⟨j, by omega⟩) (projq_at h0 h1 h2) ?_ ?_ ?_ r j))
  · intro r l; refine Eq.trans ?_ (h7 r l); pointwise [k0_pay49, k0_pay6]
  · intro r l; refine Eq.trans ?_ (h8 r l); pointwise [k0_pay50, k0_pay7]
  · intro r l; refine Eq.trans ?_ (h9 r l); pointwise [k0_pay51, k0_pay8]
  · intro d s; refine Eq.trans ?_ (h3 d s); pointwise []
  · intro d s; refine Eq.trans ?_ (h4 d s); pointwise []
  · intro j; refine Eq.trans ?_ (h5 j); pointwise []

include h0 h1 h2 h3 h4 h6 h7 h8 h9 in
theorem out11_at (r : Fin 512) (j : Fin 1024) : out0_11 x0 x1 x2 x3 x4 x5 x6 x7 x8 x9 (ix3 0 r j) = DqkvSpec.k X g w gk b (T r) j := by
  unfold out0_11
  refine (k_block (N := nrm (k0_pay2 (k0_pay5 (View.ld x0 r0_0) (View.ld x1 r0_1)) (View.ld x2 r0_14)) (View.ld x3 r0_4) (View.ld x4 r0_5) (View.ld x6 r0_1))
    (C := fun r i => Ideal.cos (DqkvSpec.ang (T r) i)) (S := fun r i => Ideal.sin (DqkvSpec.ang (T r) i)) ?_ ?_ ?_ (ix3 0 r j)).trans
    (key_of (p := fun r j => DqkvSpec.proj X g w b (T r) ⟨1024 + j, by omega⟩) (projk_at h0 h1 h2) ?_ ?_ ?_ r j)
  · intro r l; refine Eq.trans ?_ (h7 r l); pointwise [k0_pay49, k0_pay6]
  · intro r l; refine Eq.trans ?_ (h8 r l); pointwise [k0_pay50, k0_pay7]
  · intro r l; refine Eq.trans ?_ (h9 r l); pointwise [k0_pay51, k0_pay8]
  · intro d s; refine Eq.trans ?_ (h3 d s); pointwise []
  · intro d s; refine Eq.trans ?_ (h4 d s); pointwise []
  · intro j; refine Eq.trans ?_ (h6 j); pointwise []

include h0 h1 h2 h3 h4 h6 h7 h8 h9 in
theorem out12_at (r : Fin 512) (j : Fin 1024) : out0_12 x0 x1 x2 x3 x4 x5 x6 x7 x8 x9 (ix3 0 r j) = DqkvSpec.k X g w gk b (T r) j := by
  unfold out0_12
  refine (kb_block (N := nrm (k0_pay2 (k0_pay5 (View.ld x0 r0_0) (View.ld x1 r0_1)) (View.ld x2 r0_14)) (View.ld x3 r0_4) (View.ld x4 r0_5) (View.ld x6 r0_1))
    (C := fun r i => Ideal.cos (DqkvSpec.ang (T r) i)) (S := fun r i => Ideal.sin (DqkvSpec.ang (T r) i)) ?_ ?_ ?_ (ix3 0 r j)).trans
    (key_of (p := fun r j => DqkvSpec.proj X g w b (T r) ⟨1024 + j, by omega⟩) (projk_at h0 h1 h2) ?_ ?_ ?_ r j)
  · intro r l; refine Eq.trans ?_ (h7 r l); pointwise [k0_pay49, k0_pay6]
  · intro r l; refine Eq.trans ?_ (h8 r l); pointwise [k0_pay50, k0_pay7]
  · intro r l; refine Eq.trans ?_ (h9 r l); pointwise [k0_pay51, k0_pay8]
  · intro d s; refine Eq.trans ?_ (h3 d s); pointwise []
  · intro d s; refine Eq.trans ?_ (h4 d s); pointwise []
  · intro j; refine Eq.trans ?_ (h6 j); pointwise []

include h0 h1 h2 in
theorem out13_at (r : Fin 512) (j : Fin 1024) : out0_13 x0 x1 x2 x3 x4 x5 x6 x7 x8 x9 (ix3 0 r j) = DqkvSpec.v X g w b (T r) j := by
  unfold out0_13
  refine (View.canon_apply_of_pieces (Val := Elt Ideal) (e := .f32) (fun y : S1x512x1024.Idx => (DqkvSpec.v X g w b (T (y 1)) (y 2) : EReal)) _ ?_ (ix3 0 r j) (cover0_13 _ _))
  intro pc hpc
  rcases List.mem_cons.mp hpc with rfl | hpc
  · intro x
    refine (congrArg _ (show x = ix3 0 (x 1) (x 2) from by blk_ext)).trans ?_
    refine Eq.trans ?_ ((projv_at h0 h1 h2 (x 1) (x 2)).trans ?_)
    · unfold k0_pay48
      generalize k0_pay5 (View.ld x0 r0_0) (View.ld x1 r0_1) = R
      generalize View.ld x2 r0_15 = z
      unfold k0_pay3
      generalize k0_pay2 R z = p
      pointwise []
    · show DqkvSpec.v X g w b (T (x 1)) (x 2) = DqkvSpec.v X g w b (T _) _
      congr 2 <;> (try refine congrArg T ?_) <;> refine Fin.ext ?_ <;> simp
  nomatch hpc

include h0 h1 h2 in
theorem out14_at (r : Fin 512) (j : Fin 1024) : out0_14 x0 x1 x2 x3 x4 x5 x6 x7 x8 x9 (ix3 0 r j) = DqkvSpec.v X g w b (T r) j := by
  unfold out0_14
  refine (View.canon_apply_of_pieces (Val := Elt Ideal) (e := .bf16) (fun y : S1x512x1024.Idx => (DqkvSpec.v X g w b (T (y 1)) (y 2) : EReal)) _ ?_ (ix3 0 r j) (cover0_14 _ _))
  intro pc hpc
  rcases List.mem_cons.mp hpc with rfl | hpc
  · intro x
    refine (congrArg _ (show x = ix3 0 (x 1) (x 2) from by blk_ext)).trans ?_
    refine Eq.trans ?_ ((projv_at h0 h1 h2 (x 1) (x 2)).trans ?_)
    · unfold k0_pay48
      generalize k0_pay5 (View.ld x0 r0_0) (View.ld x1 r0_1) = R
      generalize View.ld x2 r0_15 = z
      unfold k0_pay4
      generalize k0_pay2 R z = p
      pointwise []
    · show DqkvSpec.v X g w b (T (x 1)) (x 2) = DqkvSpec.v X g w b (T _) _
      congr 2 <;> (try refine congrArg T ?_) <;> refine Fin.ext ?_ <;> simp
  nomatch hpc
end tile

end Cert.DqkvIdeal.Value
-- ==== Proof.DqkvK.lean ====
module

public import proofs.«01_k».proof.Defs
public import proofs.«01_k».proof.Proof.Gen.DqkvIdeal.Value
public import proofs.«01_k».proof.Proof.DqkvBlock
public import proofs.«01_k».proof.Proof.DqkvHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DqkvIdeal.Value

open Cert.DqkvIdeal Cert.DqkvIdeal.Gen Idealize.ShloMosaic Idealize.ShloMosaic.TcCoe Idealize.SL.Sem Idealize.ShloMosaic.StableHlo

variable (m : (ℓ : Loc nD τ sig) → Buf (Elt Ideal) ℓ)

theorem idx : ∀ t : Fin cfg0.N, win0_0.index t = ![t.val / 4, t.val % 4, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val % 4, 0] ∧ win0_8.index t = ![t.val % 4, 0]
    ∧ win0_9.index t = ![t.val % 4, 0] ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0] ∧ win0_14.index t = ![t.val / 4, t.val % 4, 0] :=
  (by decide +kernel : ∀ t : Fin grid0.N, _)

section windows
variable (c : Dev nD) (t : Fin cfg0.N)

theorem lt32 : (t : ℕ) < 32 := lt_of_lt_of_eq t.isLt N_0

theorem row_lt (r : Fin 512) : (t : ℕ) % 4 * 512 + r < 2048 := by omega

theorem img_lt : (t : ℕ) / 4 < 8 := by have := lt32 t; omega

theorem b0 (r : Fin 512) (d : Fin 1024) : iblk m c 0 t (ix3 0 r d) = (fun b t d => m ((c.tc : Thread nD τ).loc main_arg0) (ix3 b t d)) ⟨t / 4, img_lt t⟩ ⟨t % 4 * 512 + r, row_lt t r⟩ d := by
  blk_point [iblk, V, idx t]

theorem b1 (d : Fin 1024) : (iblk m c 1 t : Vec Ideal S1x1024 .f32) (ix2 0 d) = (fun d => m ((c.tc : Thread nD τ).loc main_arg1) (ix1 d)) d := by
  have h : (iblk m c 1 t : Vec Ideal S1x1024 .f32) (ix2 0 d) = (V m c main_v12 : Vec Ideal S1x1024 .f32) (ix2 0 d) := by
    show (V m c main_v12 : Vec Ideal S1x1024 .f32) _ = _
    exact congrArg (V m c main_v12 : Vec Ideal S1x1024 .f32) (by blk_ext [idx t])
  rw [h, V12]
  pointwise []

theorem b2 (d : Fin 1024) (j : Fin 3072) : (iblk m c 2 t : Vec Ideal S1024x3072 .bf16) (ix2 d j) = (fun d j => m ((c.tc : Thread nD τ).loc main_arg2) (ix2 d j)) d j := by
  have h : (iblk m c 2 t : Vec Ideal S1024x3072 .bf16) (ix2 d j) = (V m c main_v13 : Vec Ideal S1024x3072 .bf16) (ix2 d j) := by
    show (V m c main_v13 : Vec Ideal S1024x3072 .bf16) _ = _
    exact congrArg (V m c main_v13 : Vec Ideal S1024x3072 .bf16) (by blk_ext [idx t])
  rw [h, V13]
  rfl

theorem b3 (d : Fin 1024) (s : Fin 128) : (iblk m c 3 t : Vec Ideal S1024x128 .bf16) (ix2 d s) = (if (d : ℕ) / 64 = s then (1 : EReal) else 0) := by
  have h : (iblk m c 3 t : Vec Ideal S1024x128 .bf16) (ix2 d s) = (V m c main_v8 : Vec Ideal S1024x128 .bf16) (ix2 d s) := by
    show (V m c main_v8 : Vec Ideal S1024x128 .bf16) _ = _
    exact congrArg (V m c main_v8 : Vec Ideal S1024x128 .bf16) (by blk_ext [idx t])
  rw [h, V8]
  exact segF_at d s

theorem b4 (i : Fin 256) (d : Fin 1024) : (iblk m c 4 t : Vec Ideal S256x1024 .bf16) (ix2 i d) = (if (i : ℕ) % 128 = (d : ℕ) / 64 then (1 : EReal) else 0) := by
  have h : (iblk m c 4 t : Vec Ideal S256x1024 .bf16) (ix2 i d) = (V m c main_v11 : Vec Ideal S256x1024 .bf16) (ix2 i d) := by
    show (V m c main_v11 : Vec Ideal S256x1024 .bf16) _ = _
    exact congrArg (V m c main_v11 : Vec Ideal S256x1024 .bf16) (by blk_ext [idx t])
  rw [h, V11]
  exact segtF_at i d

theorem b5 (j : Fin 1024) : (iblk m c 5 t : Vec Ideal S1x1024 .f32) (ix2 0 j) = (fun l => m ((c.tc : Thread nD τ).loc main_arg3) (ix1 l)) (⟨(j : ℕ) % 64, Nat.mod_lt _ (by decide)⟩ : Fin 64) := by
  have h : (iblk m c 5 t : Vec Ideal S1x1024 .f32) (ix2 0 j) = (V m c main_v17 : Vec Ideal S1x1024 .f32) (ix2 0 j) := by
    show (V m c main_v17 : Vec Ideal S1x1024 .f32) _ = _
    exact congrArg (V m c main_v17 : Vec Ideal S1x1024 .f32) (by blk_ext [idx t])
  rw [h, V17]
  exact tileF_at _ j

theorem b6 (j : Fin 1024) : (iblk m c 6 t : Vec Ideal S1x1024 .f32) (ix2 0 j) = (fun l => m ((c.tc : Thread nD τ).loc main_arg4) (ix1 l)) (⟨(j : ℕ) % 64, Nat.mod_lt _ (by decide)⟩ : Fin 64) := by
  have h : (iblk m c 6 t : Vec Ideal S1x1024 .f32) (ix2 0 j) = (V m c main_v21 : Vec Ideal S1x1024 .f32) (ix2 0 j) := by
    show (V m c main_v21 : Vec Ideal S1x1024 .f32) _ = _
    exact congrArg (V m c main_v21 : Vec Ideal S1x1024 .f32) (by blk_ext [idx t])
  rw [h, V21]
  exact tileF_at _ j

theorem b7 (r : Fin 512) (l : Fin 128) : (iblk m c 7 t : Vec Ideal S512x128 .f32) (ix2 r l) = if (l : ℕ) % 64 < 16 then Ideal.cos (DqkvSpec.ang (⟨t % 4 * 512 + r, row_lt t r⟩ : Fin 2048) ⟨(l : ℕ) % 8, Nat.mod_lt _ (by decide)⟩) else 1 := by
  have h : (iblk m c 7 t : Vec Ideal S512x128 .f32) (ix2 r l) = (V m c main_v49 : Vec Ideal S2048x128 .f32) (ix2 (⟨t % 4 * 512 + r, row_lt t r⟩ : Fin 2048) l) := by
    show (V m c main_v49 : Vec Ideal S2048x128 .f32) _ = _
    exact congrArg (V m c main_v49 : Vec Ideal S2048x128 .f32) (by blk_ext [idx t])
  rw [h, V49]
  exact cosF_at _ l

theorem b8 (r : Fin 512) (l : Fin 128) : (iblk m c 8 t : Vec Ideal S512x128 .f32) (ix2 r l) = if (l : ℕ) % 64 < 8 then -Ideal.sin (DqkvSpec.ang (⟨t % 4 * 512 + r, row_lt t r⟩ : Fin 2048) ⟨(l : ℕ) % 8, Nat.mod_lt _ (by decide)⟩) else 0 := by
  have h : (iblk m c 8 t : Vec Ideal S512x128 .f32) (ix2 r l) = (V m c main_v62 : Vec Ideal S2048x128 .f32) (ix2 (⟨t % 4 * 512 + r, row_lt t r⟩ : Fin 2048) l) := by
    show (V m c main_v62 : Vec Ideal S2048x128 .f32) _ = _
    exact congrArg (V m c main_v62 : Vec Ideal S2048x128 .f32) (by blk_ext [idx t])
  rw [h, V62]
  exact s1F_at _ l

theorem b9 (r : Fin 512) (l : Fin 128) : (iblk m c 9 t : Vec Ideal S512x128 .f32) (ix2 r l) = if 8 ≤ (l : ℕ) % 64 ∧ (l : ℕ) % 64 < 16 then Ideal.sin (DqkvSpec.ang (⟨t % 4 * 512 + r, row_lt t r⟩ : Fin 2048) ⟨(l : ℕ) % 8, Nat.mod_lt _ (by decide)⟩) else 0 := by
  have h : (iblk m c 9 t : Vec Ideal S512x128 .f32) (ix2 r l) = (V m c main_v70 : Vec Ideal S2048x128 .f32) (ix2 (⟨t % 4 * 512 + r, row_lt t r⟩ : Fin 2048) l) := by
    show (V m c main_v70 : Vec Ideal S2048x128 .f32) _ = _
    exact congrArg (V m c main_v70 : Vec Ideal S2048x128 .f32) (by blk_ext [idx t])
  rw [h, V70]
  exact s2F_at _ l

end windows

theorem val10 (c : Dev nD) : (dats m 0 c).arrAt 10 cfg0.N = fun i : S8x2048x1024.Idx =>
    DqkvSpec.q (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg3) (ix1 l)) (i 0) (i 1) (i 2) := by
  refine (dats m 0 c).arrAt_eq_of_covers 10 _ (by decide +kernel) fun t hf y => ?_
  blk_simp
  rw [after0_10]
  rw [show y = ix3 0 (y 1) (y 2) from by blk_ext]
  refine (out10_at (X := fun b t d => m ((c.tc : Thread nD τ).loc main_arg0) (ix3 b t d)) (g := fun d => m ((c.tc : Thread nD τ).loc main_arg1) (ix1 d)) (w := fun d j => m ((c.tc : Thread nD τ).loc main_arg2) (ix2 d j)) (gq := fun l => m ((c.tc : Thread nD τ).loc main_arg3) (ix1 l))
    (b := ⟨t / 4, img_lt t⟩) (T := fun r => ⟨t % 4 * 512 + r, row_lt t r⟩) (b0 m c t) (b1 m c t) (b2 m c t) (b3 m c t) (b4 m c t) (b5 m c t) (b7 m c t) (b8 m c t) (b9 m c t) (y 1) (y 2)).trans ?_
  refine congr (congr (congrArg _ ?_) ?_) ?_
  all_goals
    refine Fin.ext ?_
    blk_simp [idx t]
  rfl

theorem val11 (c : Dev nD) : (dats m 0 c).arrAt 11 cfg0.N = fun i : S8x2048x1024.Idx =>
    DqkvSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l)) (i 0) (i 1) (i 2) := by
  refine (dats m 0 c).arrAt_eq_of_covers 11 _ (by decide +kernel) fun t hf y => ?_
  blk_simp
  rw [after0_11]
  rw [show y = ix3 0 (y 1) (y 2) from by blk_ext]
  refine (out11_at (X := fun b t d => m ((c.tc : Thread nD τ).loc main_arg0) (ix3 b t d)) (g := fun d => m ((c.tc : Thread nD τ).loc main_arg1) (ix1 d)) (w := fun d j => m ((c.tc : Thread nD τ).loc main_arg2) (ix2 d j)) (gk := fun l => m ((c.tc : Thread nD τ).loc main_arg4) (ix1 l))
    (b := ⟨t / 4, img_lt t⟩) (T := fun r => ⟨t % 4 * 512 + r, row_lt t r⟩) (b0 m c t) (b1 m c t) (b2 m c t) (b3 m c t) (b4 m c t) (b6 m c t) (b7 m c t) (b8 m c t) (b9 m c t) (y 1) (y 2)).trans ?_
  refine congr (congr (congrArg _ ?_) ?_) ?_
  all_goals
    refine Fin.ext ?_
    blk_simp [idx t]
  rfl

theorem val12 (c : Dev nD) : (dats m 0 c).arrAt 12 cfg0.N = fun i : S8x2048x1024.Idx =>
    DqkvSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l)) (i 0) (i 1) (i 2) := by
  refine (dats m 0 c).arrAt_eq_of_covers 12 _ (by decide +kernel) fun t hf y => ?_
  blk_simp
  rw [after0_12]
  rw [show y = ix3 0 (y 1) (y 2) from by blk_ext]
  refine (out12_at (X := fun b t d => m ((c.tc : Thread nD τ).loc main_arg0) (ix3 b t d)) (g := fun d => m ((c.tc : Thread nD τ).loc main_arg1) (ix1 d)) (w := fun d j => m ((c.tc : Thread nD τ).loc main_arg2) (ix2 d j)) (gk := fun l => m ((c.tc : Thread nD τ).loc main_arg4) (ix1 l))
    (b := ⟨t / 4, img_lt t⟩) (T := fun r => ⟨t % 4 * 512 + r, row_lt t r⟩) (b0 m c t) (b1 m c t) (b2 m c t) (b3 m c t) (b4 m c t) (b6 m c t) (b7 m c t) (b8 m c t) (b9 m c t) (y 1) (y 2)).trans ?_
  refine congr (congr (congrArg _ ?_) ?_) ?_
  all_goals
    refine Fin.ext ?_
    blk_simp [idx t]
  rfl

theorem val13 (c : Dev nD) : (dats m 0 c).arrAt 13 cfg0.N = fun i : S8x2048x1024.Idx =>
    DqkvSpec.v (fun b t d => m ((c.tc : Thread nD τ).loc main_arg0) (ix3 b t d)) (fun d => m ((c.tc : Thread nD τ).loc main_arg1) (ix1 d)) (fun d j => m ((c.tc : Thread nD τ).loc main_arg2) (ix2 d j)) (i 0) (i 1) (i 2) := by
  refine (dats m 0 c).arrAt_eq_of_covers 13 _ (by decide +kernel) fun t hf y => ?_
  blk_simp
  rw [after0_13]
  rw [show y = ix3 0 (y 1) (y 2) from by blk_ext]
  refine (out13_at (X := fun b t d => m ((c.tc : Thread nD τ).loc main_arg0) (ix3 b t d)) (g := fun d => m ((c.tc : Thread nD τ).loc main_arg1) (ix1 d)) (w := fun d j => m ((c.tc : Thread nD τ).loc main_arg2) (ix2 d j))
    (b := ⟨t / 4, img_lt t⟩) (T := fun r => ⟨t % 4 * 512 + r, row_lt t r⟩) (b0 m c t) (b1 m c t) (b2 m c t) (y 1) (y 2)).trans ?_
  refine congr (congr (congrArg _ ?_) ?_) ?_
  all_goals
    refine Fin.ext ?_
    blk_simp [idx t]
  rfl

theorem val14 (c : Dev nD) : (dats m 0 c).arrAt 14 cfg0.N = fun i : S8x2048x1024.Idx =>
    DqkvSpec.v (fun b t d => m ((c.tc : Thread nD τ).loc main_arg0) (ix3 b t d)) (fun d => m ((c.tc : Thread nD τ).loc main_arg1) (ix1 d)) (fun d j => m ((c.tc : Thread nD τ).loc main_arg2) (ix2 d j)) (i 0) (i 1) (i 2) := by
  refine (dats m 0 c).arrAt_eq_of_covers 14 _ (by decide +kernel) fun t hf y => ?_
  blk_simp
  rw [after0_14]
  rw [show y = ix3 0 (y 1) (y 2) from by blk_ext]
  refine (out14_at (X := fun b t d => m ((c.tc : Thread nD τ).loc main_arg0) (ix3 b t d)) (g := fun d => m ((c.tc : Thread nD τ).loc main_arg1) (ix1 d)) (w := fun d j => m ((c.tc : Thread nD τ).loc main_arg2) (ix2 d j))
    (b := ⟨t / 4, img_lt t⟩) (T := fun r => ⟨t % 4 * 512 + r, row_lt t r⟩) (b0 m c t) (b1 m c t) (b2 m c t) (y 1) (y 2)).trans ?_
  refine congr (congr (congrArg _ ?_) ?_) ?_
  all_goals
    refine Fin.ext ?_
    blk_simp [idx t]
  rfl

end Cert.DqkvIdeal.Value
-- ==== Proof.DqkvRefValue.lean ====
module

public import proofs.«01_k».proof.Defs
public import proofs.«01_k».proof.Proof.Gen.DqkvRefIdeal.Run
public import proofs.«01_k».proof.Proof.DqkvSpec
public import Idealize.ShloMosaic.Lib.Pointwise
public import Idealize.ShloMosaic.Lib.Pipeline.ValueKit

@[expose] public section

set_option maxRecDepth 16384

noncomputable section

namespace Cert.DqkvRefIdeal.Value

open Cert.DqkvRefIdeal Cert.DqkvRefIdeal.Gen Idealize.ShloMosaic Idealize.ShloMosaic.TcCoe Idealize.SL.Sem Idealize.ShloMosaic.StableHlo

/-- The normalised rows the projection reads. -/
def rH (x : FVec Ideal S8x2048x1024 .f32) (g : FVec Ideal S1024 .f32) : FVec Ideal S8x2048x1024 .f32 :=
  (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g)))

/-- The projection. -/
def rU (h : FVec Ideal S8x2048x1024 .f32) (w : FVec Ideal S1024x3072 .f32) : FVec Ideal S8x2048x3072 .f32 :=
  Host.dotGeneral dot_S8x2048x1024_S1024x3072_S8x2048x3072_2_0_01_1_n_n none h w

/-- The projection's first third, by segments of 64 lanes. -/
def rQ (u : FVec Ideal S8x2048x3072 .f32) : FVec Ideal S8x2048x16x64 .f32 :=
  shapeCast S8x2048x16x64 (extractStridedSlice S8x2048x1024 ![0, 0, 0] u slices_S8x2048x3072_S8x2048x1024_0_0_0) shapeCasts_S8x2048x1024_S8x2048x16x64

/-- Its second third. -/
def rK (u : FVec Ideal S8x2048x3072 .f32) : FVec Ideal S8x2048x16x64 .f32 :=
  shapeCast S8x2048x16x64 (extractStridedSlice S8x2048x1024 ![0, 0, 1024] u slices_S8x2048x3072_S8x2048x1024_0_0_1024) shapeCasts_S8x2048x1024_S8x2048x16x64

/-- Its last third. -/
def rV (u : FVec Ideal S8x2048x3072 .f32) : FVec Ideal S8x2048x1024 .f32 :=
  extractStridedSlice S8x2048x1024 ![0, 0, 2048] u slices_S8x2048x3072_S8x2048x1024_0_0_2048

/-- Every segment normalised. -/
def rN (y : FVec Ideal S8x2048x16x64 .f32) (g : FVec Ideal S64 .f32) : FVec Ideal S8x2048x16x64 .f32 :=
  (mulf (mulf y (broadcastInDim S8x2048x16x64 ![0, 1, 2, 3] bcast_S8x2048x16x1_S8x2048x16x64_0_1_2_3 (Host.rsqrt (addf (Host.divf (broadcastInDim S8x2048x16x1 ![0, 1, 2] bcast_S8x2048x16_S8x2048x16x1_0_1_2 (Host.reduceAdd (mulf y y) (constant S_ .f32 0x00000000#32) reducesTo_S8x2048x16x64_S8x2048x16_d3 h_S_)) (broadcastInDim S8x2048x16x1 ![] bcast_S_S8x2048x16x1 (constant S_ .f32 0x42800000#32))) (broadcastInDim S8x2048x16x1 ![] bcast_S_S8x2048x16x1 (constant S_ .f32 0x358637BD#32)))))) (broadcastInDim S8x2048x16x64 ![0, 1, 2, 3] bcast_S1x1x1x64_S8x2048x16x64_0_1_2_3 (broadcastInDim S1x1x1x64 ![3] bcast_S64_S1x1x1x64_3 g)))

/-- The angles. -/
def rA : FVec Ideal S2048x8 .f32 := (mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

/-- Every segment rotated. -/
def rR (n : FVec Ideal S8x2048x16x64 .f32) (cs sn : FVec Ideal S2048x8 .f32) : FVec Ideal S8x2048x1024 .f32 :=
  shapeCast S8x2048x1024 ((concatenate S8x2048x16x64 3 [⟨S8x2048x16x8, ((subf (mulf (extractStridedSlice S8x2048x16x8 ![0, 0, 0, 0] n slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 cs))) (mulf (extractStridedSlice S8x2048x16x8 ![0, 0, 0, 8] n slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 sn)))) : (⟨S8x2048x16x8, .f32⟩ : BufTy).Contents (Elt Ideal))⟩, ⟨S8x2048x16x8, ((addf (mulf (extractStridedSlice S8x2048x16x8 ![0, 0, 0, 8] n slices_S8x2048x16x64_S8x2048x16x8_0_0_0_8) (broadcastInDim S8x2048x16x8 ![0, 1, 2, 3] bcast_S1x2048x1x8_S8x2048x16x8_0_1_2_3 (broadcastInDim S1x2048x1x8 ![1, 3] bcast_S2048x8_S1x2048x1x8_1_3 cs))) (mulf (extractStridedSlice S8x2048x16x8 ![0, 0, 0, 0] n slices_S8x2048x16x64_S8x2048x16x8_0_0_0_0) (broadcastInDim S8x2048x16x8 ![0, 1, 2, 3] bcast_S1x2048x1x8_S8x2048x16x8_0_1_2_3 (broadcastInDim S1x2048x1x8 ![1, 3] bcast_S2048x8_S1x2048x1x8_1_3 sn)))) : (⟨S8x2048x16x8, .f32⟩ : BufTy).Contents (Elt Ideal))⟩, ⟨S8x2048x16x48, ((extractStridedSlice S8x2048x16x48 ![0, 0, 0, 16] n slices_S8x2048x16x64_S8x2048x16x48_0_0_0_16) : (⟨S8x2048x16x48, .f32⟩ : BufTy).Contents (Elt Ideal))⟩] concatenates_S8x2048x16x8_S8x2048x16x8_S8x2048x16x48_S8x2048x16x64_d3 : (⟨S8x2048x16x64, .f32⟩ : BufTy).Contents (Elt Ideal))) shapeCasts_S8x2048x16x64_S8x2048x1024

/-- The queries' scale. -/
def rS (y : FVec Ideal S8x2048x1024 .f32) : FVec Ideal S8x2048x1024 .bf16 :=
  truncf .bf16 (mulf y (broadcastInDim S8x2048x1024 ![] bcast_S_S8x2048x1024 (constant S_ .f32 0x3E38AA3B#32))) bitsLt_bf16_f32

section
variable (m : (ℓ : Loc nD τ sig) → Buf (Elt Ideal) ℓ) (c : Dev nD)

theorem res_q : res_main_v110 m c = rS (rR (rN (rQ (rU (rH (m ((c.tc : Thread nD τ).loc main_arg0)) (m ((c.tc : Thread nD τ).loc main_arg1))) (m ((c.tc : Thread nD τ).loc main_arg2)))) (m ((c.tc : Thread nD τ).loc main_arg3))) (Host.cos rA) (Host.sin rA)) := by
  unfold res_main_v110 rS rR rN rQ rU rH rA; rfl

theorem res_k : res_main_v109 m c = rR (rN (rK (rU (rH (m ((c.tc : Thread nD τ).loc main_arg0)) (m ((c.tc : Thread nD τ).loc main_arg1))) (m ((c.tc : Thread nD τ).loc main_arg2)))) (m ((c.tc : Thread nD τ).loc main_arg4))) (Host.cos rA) (Host.sin rA) := by
  unfold res_main_v109 rR rN rK rU rH rA; rfl

theorem res_kb : res_main_v111 m c = truncf .bf16 (rR (rN (rK (rU (rH (m ((c.tc : Thread nD τ).loc main_arg0)) (m ((c.tc : Thread nD τ).loc main_arg1))) (m ((c.tc : Thread nD τ).loc main_arg2)))) (m ((c.tc : Thread nD τ).loc main_arg4))) (Host.cos rA) (Host.sin rA)) bitsLt_bf16_f32 := by
  unfold res_main_v111 rR rN rK rU rH rA; rfl
end

theorem rH_at (x : FVec Ideal S8x2048x1024 .f32) (g : FVec Ideal S1024 .f32) (b : Fin 8) (t : Fin 2048) (d : Fin 1024) :
    rH x g (ix3 b t d) = SguSpec.rms (Ideal.ofBits .f32 0x44800000#32) (fun d => x (ix3 b t d)) (fun d => g (ix1 d)) d := by
  pointwise [rH, SguSpec.rms]

theorem rU_at (h : FVec Ideal S8x2048x1024 .f32) (w : FVec Ideal S1024x3072 .f32) (b : Fin 8) (t : Fin 2048) (j : Fin 3072) :
    rU h w (ix3 b t j) = ∑ d : Fin 1024, h (ix3 b t d) * w (ix2 d j) := by
  pointwise [rU]

theorem rQ_at (u : FVec Ideal S8x2048x3072 .f32) (b : Fin 8) (t : Fin 2048) (s : Fin 16) (l : Fin 64) :
    rQ u (ix4 b t s l) = u (ix3 b t ⟨(s : ℕ) * 64 + l, by omega⟩) := by
  pointwise [rQ]

theorem rK_at (u : FVec Ideal S8x2048x3072 .f32) (b : Fin 8) (t : Fin 2048) (s : Fin 16) (l : Fin 64) :
    rK u (ix4 b t s l) = u (ix3 b t ⟨1024 + ((s : ℕ) * 64 + l), by omega⟩) := by
  pointwise [rK]

theorem rV_at (u : FVec Ideal S8x2048x3072 .f32) (b : Fin 8) (t : Fin 2048) (j : Fin 1024) :
    rV u (ix3 b t j) = u (ix3 b t ⟨2048 + j, by omega⟩) := by
  pointwise [rV]

theorem rN_at (y : FVec Ideal S8x2048x16x64 .f32) (g : FVec Ideal S64 .f32) (b : Fin 8) (t : Fin 2048) (s : Fin 16) (l : Fin 64) :
    rN y g (ix4 b t s l) = SguSpec.rms (Ideal.ofBits .f32 0x42800000#32) (fun l => y (ix4 b t s l)) (fun l => g (ix1 l)) l := by
  pointwise [rN, SguSpec.rms]

theorem rA_at (t : Fin 2048) (i : Fin 8) : rA (ix2 t i) = DqkvSpec.ang t i := by
  pointwise [rA, DqkvSpec.ang]

theorem rR_at (n : FVec Ideal S8x2048x16x64 .f32) (cs sn : FVec Ideal S2048x8 .f32) (b : Fin 8) (t : Fin 2048) (j : Fin 1024) :
    rR n cs sn (ix3 b t j) = DqkvSpec.rot (fun i => cs (ix2 t i)) (fun i => sn (ix2 t i)) (fun l => n (ix4 b t ⟨(j : ℕ) / 64, by omega⟩ l)) ⟨(j : ℕ) % 64, by omega⟩ := by
  pointwise [rR, DqkvSpec.rot]
  have e : ∀ (f : Fin 64 → EReal) (a c : ℕ) (ha : a < 64) (hc : c < 64), a = c → f ⟨a, ha⟩ = f ⟨c, hc⟩ := fun f a c ha hc h => congrArg f (Fin.ext h)
  have hj : (j : ℕ) % 64 < 64 := Nat.mod_lt _ (by decide)
  by_cases h : (j : ℕ) % 64 < 8
  · rw [dif_pos h, dif_pos h]
  · rw [dif_neg h, dif_neg h]
    by_cases h' : (j : ℕ) % 64 - 8 < 8
    · rw [dif_pos h', dif_pos h']
      exact congrArg₂ (· + ·) (congrArg₂ (· * ·) (e (fun l => n (ix4 b t ⟨(j : ℕ) / 64, by omega⟩ l)) _ ((j : ℕ) % 64) (by omega) hj (by omega)) rfl) rfl
    · rw [dif_neg h', dif_neg h']
      exact e (fun l => n (ix4 b t ⟨(j : ℕ) / 64, by omega⟩ l)) _ ((j : ℕ) % 64) (by omega) hj (by omega)

/-- A row's lane through the normalisation and the rotation. -/
theorem key_at (y : FVec Ideal S8x2048x16x64 .f32) (g : FVec Ideal S64 .f32) (p : Fin 1024 → EReal) (b : Fin 8) (t : Fin 2048) (j : Fin 1024)
    (hp : ∀ (s : Fin 16) (l : Fin 64), y (ix4 b t s l) = p ⟨(s : ℕ) * 64 + l, by omega⟩) :
    rR (rN y g) (Host.cos rA) (Host.sin rA) (ix3 b t j) = DqkvSpec.key p (fun l => g (ix1 l)) t j := by
  rw [rR_at, DqkvSpec.key]
  refine congrFun (congr (congrArg₂ DqkvSpec.rot (funext fun i => congrArg Ideal.cos (rA_at t i)) (funext fun i => congrArg Ideal.sin (rA_at t i))) (funext fun l => ?_)) _
  rw [rN_at]
  exact congrArg (fun f => SguSpec.rms (Ideal.ofBits .f32 0x42800000#32) f (fun l => g (ix1 l)) l) (funext fun l => hp _ l)

theorem rS_at (y : FVec Ideal S8x2048x1024 .f32) (b : Fin 8) (t : Fin 2048) (j : Fin 1024) :
    rS y (ix3 b t j) = y (ix3 b t j) * Ideal.ofBits .f32 0x3E38AA3B#32 := by
  pointwise [rS]

section
variable (m : (ℓ : Loc nD τ sig) → Buf (Elt Ideal) ℓ) (c : Dev nD)

/-- The projection, read at the arguments. -/
theorem proj_at (b : Fin 8) (t : Fin 2048) (j : Fin 3072) :
    (rU (rH (m ((c.tc : Thread nD τ).loc main_arg0)) (m ((c.tc : Thread nD τ).loc main_arg1))) (m ((c.tc : Thread nD τ).loc main_arg2))) (ix3 b t j) = DqkvSpec.proj (fun b t d => (m ((c.tc : Thread nD τ).loc main_arg0)) (ix3 b t d)) (fun d => (m ((c.tc : Thread nD τ).loc main_arg1)) (ix1 d)) (fun d j => (m ((c.tc : Thread nD τ).loc main_arg2)) (ix2 d j)) b t j := by
  rw [rU_at]; simp only [rH_at]; rfl

theorem q_at (b : Fin 8) (t : Fin 2048) (j : Fin 1024) :
    res_main_v110 m c (ix3 b t j) = DqkvSpec.q (fun b t d => (m ((c.tc : Thread nD τ).loc main_arg0)) (ix3 b t d)) (fun d => (m ((c.tc : Thread nD τ).loc main_arg1)) (ix1 d)) (fun d j => (m ((c.tc : Thread nD τ).loc main_arg2)) (ix2 d j)) (fun l => (m ((c.tc : Thread nD τ).loc main_arg3)) (ix1 l)) b t j := by
  rw [res_q, rS_at, DqkvSpec.q]
  exact congrArg (· * _) (key_at _ _ _ b t j fun s l => (rQ_at _ b t s l).trans (proj_at m c b t _))

theorem k_at (b : Fin 8) (t : Fin 2048) (j : Fin 1024) :
    res_main_v109 m c (ix3 b t j) = DqkvSpec.k (fun b t d => (m ((c.tc : Thread nD τ).loc main_arg0)) (ix3 b t d)) (fun d => (m ((c.tc : Thread nD τ).loc main_arg1)) (ix1 d)) (fun d j => (m ((c.tc : Thread nD τ).loc main_arg2)) (ix2 d j)) (fun l => (m ((c.tc : Thread nD τ).loc main_arg4)) (ix1 l)) b t j := by
  rw [res_k, DqkvSpec.k]
  exact key_at _ _ _ b t j fun s l => (rK_at _ b t s l).trans (proj_at m c b t _)

theorem kb_at (b : Fin 8) (t : Fin 2048) (j : Fin 1024) :
    res_main_v111 m c (ix3 b t j) = DqkvSpec.k (fun b t d => (m ((c.tc : Thread nD τ).loc main_arg0)) (ix3 b t d)) (fun d => (m ((c.tc : Thread nD τ).loc main_arg1)) (ix1 d)) (fun d j => (m ((c.tc : Thread nD τ).loc main_arg2)) (ix2 d j)) (fun l => (m ((c.tc : Thread nD τ).loc main_arg4)) (ix1 l)) b t j := by
  rw [res_kb, DqkvSpec.k]
  exact key_at _ _ _ b t j fun s l => (rK_at _ b t s l).trans (proj_at m c b t _)

theorem v_at (b : Fin 8) (t : Fin 2048) (j : Fin 1024) :
    rV (rU (rH (m ((c.tc : Thread nD τ).loc main_arg0)) (m ((c.tc : Thread nD τ).loc main_arg1))) (m ((c.tc : Thread nD τ).loc main_arg2))) (ix3 b t j) = DqkvSpec.v (fun b t d => (m ((c.tc : Thread nD τ).loc main_arg0)) (ix3 b t d)) (fun d => (m ((c.tc : Thread nD τ).loc main_arg1)) (ix1 d)) (fun d j => (m ((c.tc : Thread nD τ).loc main_arg2)) (ix2 d j)) b t j := by
  rw [rV_at, proj_at]; rfl
end

end Cert.DqkvRefIdeal.Value
-- ==== Proof.DqkvClaim.lean ====
module

public import proofs.«01_k».proof.Proof.DqkvK
public import proofs.«01_k».proof.Proof.DqkvRefValue
public import Idealize.ShloMosaic.Lib.Claim

@[expose] public section

set_option maxRecDepth 16384

noncomputable section

namespace Cert.DqkvClaim

open Idealize.ShloMosaic Idealize.SL.Sem

theorem frame_ref : Cert.quiescent_DqkvRefIdeal := fun m g _ =>
  (θ_run Cert.DqkvRefIdeal.defs _ _).mono (fun r h => ⟨fun c => (h c).2.2.2.2.2, sem_eq_zero_of_no_sems (by decide) r.2⟩)
    (Cert.DqkvRefIdeal.Value.run (F := Ideal) m g)

theorem algebraic : Cert.algebraic_DqkvIdeal_DqkvRefIdeal := by
  pair_intro
  · run_from Cert.DqkvIdeal.Value.run_blocks m g
  · run_from Cert.DqkvRefIdeal.Value.run m' g'
    all_goals obtain ⟨e0, e1, e2, e3, e4⟩ := hagree c
    · rw [Cert.DqkvIdeal.Value.val10 m c]
      funext j
      rw [show j = ix3 (j 0) (j 1) (j 2) from eq_ix3 j]
      refine (Cert.DqkvRefIdeal.Value.q_at m' c _ _ _).trans ?_
      rw [e0, e1, e2, e3]
      rfl
    · rw [Cert.DqkvIdeal.Value.val11 m c]
      funext j
      rw [show j = ix3 (j 0) (j 1) (j 2) from eq_ix3 j]
      refine (Cert.DqkvRefIdeal.Value.k_at m' c _ _ _).trans ?_
      rw [e0, e1, e2, e4]
      rfl
    · rw [Cert.DqkvIdeal.Value.val12 m c]
      funext j
      rw [show j = ix3 (j 0) (j 1) (j 2) from eq_ix3 j]
      refine (Cert.DqkvRefIdeal.Value.kb_at m' c _ _ _).trans ?_
      rw [e0, e1, e2, e4]
      rfl
    · rw [Cert.DqkvIdeal.Value.val13 m c]
      funext j
      rw [show j = ix3 (j 0) (j 1) (j 2) from eq_ix3 j]
      rw [← e0, ← e1, ← e2]
      exact Cert.DqkvRefIdeal.Value.v_at m' c _ _ _
    · rw [Cert.DqkvIdeal.Value.val14 m c]
      funext j
      rw [show j = ix3 (j 0) (j 1) (j 2) from eq_ix3 j]
      rw [← e0, ← e1, ← e2]
      exact Cert.DqkvRefIdeal.Value.v_at m' c _ _ _

end Cert.DqkvClaim
-- ==== Proof.MixSpec.lean ====
module

public import proofs.«01_k».proof.Proof.FfnSpec

@[expose] public section

/-! The rows the feed-forward layer reads after an attention layer: the rows before it and the attention's output projected. -/

noncomputable section

namespace Cert.MixSpec

/-- The residual sum with the attention's output projection. -/
def rows (x o : Fin 8 → Fin 2048 → Fin 1024 → EReal) (w : Fin 1024 → Fin 1024 → EReal) (b : Fin 8) (t : Fin 2048) (d : Fin 1024) : EReal :=
  x b t d + ∑ e, o b t e * w e d

end Cert.MixSpec
-- ==== Proof.MixTile.lean ====
module

public import proofs.«01_k».proof.Defs
public import proofs.«01_k».proof.Proof.Gen.MixIdeal.Value
public import proofs.«01_k».proof.Proof.MixSpec
public import Idealize.ShloMosaic.Lib.Pointwise
public import Idealize.ShloMosaic.Lib.Pipeline.ValueKit
public import Idealize.ShloMosaic.Lib.Pipeline.ReadBack
public import proofs.«01_k».proof.Proof.FfnTileSpec

@[expose] public section

/-! One tile of the layer is the layer at the rows of the tile. -/

set_option maxRecDepth 16384

noncomputable section

namespace Cert.MixIdeal.Value

open Cert.FfnIdeal.Value Cert.MixIdeal Cert.MixIdeal.Gen Idealize.ShloMosaic Idealize.ShloMosaic.TcCoe Idealize.SL.Sem Idealize.ShloMosaic.StableHlo

/-- The gate's sum and the residual. -/
theorem mixout_at (xr : FVec Ideal S512x1024 .f32) (M : Vec Ideal S512x2816 .bf16) (wd : Vec Ideal S2816x1024 .bf16) (r : Fin 512) (d : Fin 1024) :
    k0_pay1 (F := Ideal) xr M wd (ix3 0 r d) = xr (ix2 r d) + ∑ j : Fin 2816, M (ix2 r j) * wd (ix2 j d) := by
  pointwise [k0_pay1]

/-- A tile's output rows, from its rows with the attention's projection added. -/
def outM (xr : FVec Ideal S512x1024 .f32) (hb : Vec Ideal S512x1024 .bf16) (wu : Vec Ideal S22x1024x256 .bf16) (cw : Vec Ideal S22x3x256 .f32) (cb : Vec Ideal S22x1x256 .f32)
    (hd : Fin 22 → Fin 8 → Fin 256 → EReal) (wd : Vec Ideal S2816x1024 .bf16) (r : Fin 512) (d : Fin 1024) : EReal :=
  xr (ix2 r d) + ∑ j : Fin 2816, actK hb wu cw cb hd (ix2 r j) * wd (ix2 j d)

section rows
variable {x o : Fin 8 → Fin 2048 → Fin 1024 → EReal} {wo : Fin 1024 → Fin 1024 → EReal} {g : Fin 1024 → EReal}
  {x0 : Vec Ideal S1x512x1024 .f32} {x1 : Vec Ideal S1x512x1024 .bf16} {x2 : Vec Ideal S1024x1024 .bf16} {x4 : Vec Ideal S1x1024 .f32}
  {b : Fin 8} {n : ℕ} (hn : n < 4)
  (h0 : ∀ (r : Fin 512) d, x0 (ix3 0 r d) = x b ⟨n * 512 + r, row_lt hn r⟩ d) (h1 : ∀ (r : Fin 512) d, x1 (ix3 0 r d) = o b ⟨n * 512 + r, row_lt hn r⟩ d)
  (h2 : ∀ e d, x2 (ix2 e d) = wo e d) (h4 : ∀ d, x4 (ix2 0 d) = g d)

include h0 h1 h2 in
theorem mixrows_at (r : Fin 512) (d : Fin 1024) :
    k0_pay3 (F := Ideal) x0 x1 x2 (ix2 r d) = MixSpec.rows x o wo b ⟨n * 512 + r, row_lt hn r⟩ d := by
  pointwise [k0_pay3]
  simp only [h0, h1, h2]
  rfl

include h0 h1 h2 h4 in
theorem mixnorm_at (r : Fin 512) (d : Fin 1024) :
    k0_pay4 (F := Ideal) x0 x1 x2 x4 (ix2 r d) = SguSpec.rms (Ideal.ofBits .f32 0x44800000#32) (MixSpec.rows x o wo b ⟨n * 512 + r, row_lt hn r⟩) g d := by
  have e := mixrows_at hn h0 h1 h2
  unfold k0_pay4
  generalize k0_pay3 (F := Ideal) x0 x1 x2 = R at e ⊢
  pointwise []
  simp only [e, h4]
  rfl
end rows

section tile
variable {X : Fin 8 → Fin 2048 → Fin 1024 → EReal} {g : Fin 1024 → EReal} {w : Fin 1024 → Fin 5632 → EReal} {cw : Fin 3 → Fin 5632 → EReal} {cb : Fin 5632 → EReal}
  {wd : Fin 2816 → Fin 1024 → EReal}
  {xr : FVec Ideal S512x1024 .f32} {hb : FVec Ideal S512x1024 .bf16} {x3 : Vec Ideal S22x1024x256 .bf16} {x4 : Vec Ideal S22x3x256 .f32} {x5 : Vec Ideal S22x1x256 .f32}
  {x6 : Vec Ideal S2816x1024 .bf16} {hd : Fin 22 → Fin 8 → Fin 256 → EReal}
  {b : Fin 8} {n : ℕ} (hn : n < 4)
  (h0 : ∀ (r : Fin 512) d, xr (ix2 r d) = X b ⟨n * 512 + r, row_lt hn r⟩ d)
  (hr : ∀ (r : Fin 512) d, hb (ix2 r d) = SguSpec.rms (Ideal.ofBits .f32 0x44800000#32) (X b ⟨n * 512 + r, row_lt hn r⟩) g d)
  (h3 : ∀ (i : Fin 22) d (l : Fin 256), x3 (ix3 i d l) = w d ⟨(i : ℕ) * 256 + l, lane_lt i l⟩)
  (h4 : ∀ (i : Fin 22) k (l : Fin 256), x4 (ix3 i k l) = cw k ⟨(i : ℕ) * 256 + l, lane_lt i l⟩)
  (h5 : ∀ (i : Fin 22) (l : Fin 256), x5 (ix3 i 0 l) = cb ⟨(i : ℕ) * 256 + l, lane_lt i l⟩)
  (h6 : ∀ j d, x6 (ix2 j d) = wd j d)
  (hh : ∀ (i : Fin 22) (q : Fin 8) (l : Fin 256), hd i q l = if n = 0 then 0 else FfnSpec.up X g w b ⟨n * 512 - 8 + q, before_lt hn q⟩ ⟨(i : ℕ) * 256 + l, lane_lt i l⟩)

include hr h3 in
theorem upK_at (i : Fin 22) (r : Fin 512) (l : Fin 256) :
    upK hb x3 i r l = FfnSpec.up X g w b ⟨n * 512 + r, row_lt hn r⟩ ⟨(i : ℕ) * 256 + l, lane_lt i l⟩ := by
  simp only [upK, hr, h3]
  rfl

include hr h3 hh in
theorem eK_at (k : ℕ) (hk : k = 6 ∨ k = 7) (i : Fin 22) (r : Fin 512) (l : Fin 256) :
    eK hb x3 hd k i r l = FfnSpec.past X g w (8 - k) b ⟨n * 512 + r, row_lt hn r⟩ ⟨(i : ℕ) * 256 + l, lane_lt i l⟩ := by
  rw [eK, FfnSpec.past]
  by_cases h : k + (r : ℕ) < 8
  · rw [dif_pos h, hh]
    by_cases e : n = 0
    · rw [if_pos e, if_pos (by dsimp only; omega)]
    · rw [if_neg e, if_neg (by dsimp only; omega)]
      exact congrArg (fun q => FfnSpec.up X g w b q _) (Fin.ext (by dsimp only; omega))
  · rw [dif_neg h, if_neg (by dsimp only; omega), upK_at hn hr h3]
    exact congrArg (fun q => FfnSpec.up X g w b q _) (Fin.ext (by dsimp only; omega))

include hr h3 h4 h5 hh in
theorem convK_at (i : Fin 22) (r : Fin 512) (l : Fin 256) (j : Fin 5632) (hj : (j : ℕ) = i * 256 + l) :
    convK hb x3 x4 x5 hd i r l = FfnSpec.conv X g w cw cb b ⟨n * 512 + r, row_lt hn r⟩ j := by
  have ej : j = ⟨(i : ℕ) * 256 + l, lane_lt i l⟩ := Fin.ext hj
  rw [ej]
  rw [convK, eK_at hn hr h3 hh 6 (.inl rfl), eK_at hn hr h3 hh 7 (.inr rfl), upK_at hn hr h3, h4, h4, h4, h5]
  rfl

include h0 hr h3 h4 h5 h6 hh in
/-- A tile's output rows are the layer's. -/
theorem outK_at (r : Fin 512) (d : Fin 1024) :
    outM xr hb x3 x4 x5 hd x6 r d = FfnSpec.out X g w cw cb wd b ⟨n * 512 + r, row_lt hn r⟩ d := by
  rw [outM, FfnSpec.out, h0]
  refine congrArg₂ (· + ·) rfl (Finset.sum_congr rfl fun j _ => congrArg₂ (· * ·) ?_ (h6 j d))
  exact congrArg₂ (fun a b => FfnSpec.silu a * b) (convK_at hn hr h3 h4 h5 hh _ _ _ _ (show (j : ℕ) = (j : ℕ) / 256 * 256 + (j : ℕ) % 256 by omega))
    (convK_at hn hr h3 h4 h5 hh _ _ _ _ (show 2816 + (j : ℕ) = (11 + (j : ℕ) / 256) * 256 + (j : ℕ) % 256 by omega))

include hr h3 in
/-- What a tile leaves in the carried buffer: its own last eight rows first. -/
theorem scrK_at (i : Fin 22) (q : Fin 8) (l : Fin 256) :
    scrK hb x3 (ix3 i ⟨q, eight_lt q⟩ l) = FfnSpec.up X g w b ⟨n * 512 + 504 + q, after_lt hn q⟩ ⟨(i : ℕ) * 256 + l, lane_lt i l⟩ := by
  refine (upK_at hn hr h3 i ⟨((q : ℕ) + 504) % 512, by omega⟩ l).trans (congrArg (fun t => FfnSpec.up X g w b t _) (Fin.ext ?_))
  show n * 512 + ((q : ℕ) + 504) % 512 = n * 512 + 504 + (q : ℕ)
  omega
end tile

end Cert.MixIdeal.Value
-- ==== Proof.MixRunA.lean ====
module

public import proofs.«01_k».proof.Defs
public import proofs.«01_k».proof.Proof.Gen.MixIdeal.Value
public import proofs.«01_k».proof.Proof.MixSpec
public import Idealize.ShloMosaic.Lib.Pointwise
public import Idealize.ShloMosaic.Lib.Pipeline.ValueKit
public import Idealize.ShloMosaic.Lib.Pipeline.ReadBack
public import proofs.«01_k».proof.Proof.MixTile

@[expose] public section

/-! A sequence's first tile: its output rows, and what it leaves for the next. -/

set_option maxRecDepth 16384

noncomputable section

namespace Cert.MixIdeal.Value

open Cert.FfnIdeal.Value Cert.MixIdeal Cert.MixIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem scratch_A (c : Dev nD) (t : Fin cfg0.N) (h0 : t.val % 4 = 0) (h1 : ¬t.val % 4 = 3) :
    (outsAt0 m c t.val t.isLt).2.2 = scrK (k0_pay4 (iblk m c 0 t) (iblk m c 1 t) (iblk m c 2 t) (iblk m c 4 t)) (iblk m c 5 t) := by
  rw [outsAt0_A m c t h0 h1]
  dsimp only
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 1 t) (iblk m c 2 t) (iblk m c 4 t) = hb
  generalize (iblk m c 5 t : Vec Ideal S22x1024x256 .bf16) = wu
  funext y
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_A (c : Dev nD) (t : Fin cfg0.N) (h0 : t.val % 4 = 0) (h1 : ¬t.val % 4 = 3) (r : Fin 512) (d : Fin 1024) :
    (outsAt0 m c t.val t.isLt).1 (ix3 0 r d) = outM (k0_pay3 (iblk m c 0 t) (iblk m c 1 t) (iblk m c 2 t)) (k0_pay4 (iblk m c 0 t) (iblk m c 1 t) (iblk m c 2 t) (iblk m c 4 t)) (iblk m c 5 t) (iblk m c 6 t) (iblk m c 7 t)
      (fun i q l => iblk m c 3 t (ix4 0 i q l)) (iblk m c 8 t) r d := by
  unfold outM
  rw [outsAt0_A m c t h0 h1]
  dsimp only
  frame_open
  simp (disch := decide) only [↓ View.readCov_cons_toLoadRect, ↓ readAt_tail, ↓ readCov_tail, ↓ readAt_strad, ↓ readCov_strad, ↓ readAt_group, ↓ readCov_group]
  frame_out
  generalize (iblk m c 3 t : Vec Ideal S1x22x8x256 .f32) = p
  generalize k0_pay4 (F := Ideal) (iblk m c 0 t) (iblk m c 1 t) (iblk m c 2 t) (iblk m c 4 t) = hb
  generalize (iblk m c 5 t : Vec Ideal S22x1024x256 .bf16) = wu
  generalize (iblk m c 6 t : Vec Ideal S22x3x256 .f32) = cw
  generalize (iblk m c 7 t : Vec Ideal S22x1x256 .f32) = cb
  generalize (iblk m c 8 t : Vec Ideal S2816x1024 .bf16) = wd
  generalize k0_pay3 (F := Ideal) (iblk m c 0 t) (iblk m c 1 t) (iblk m c 2 t) = xr
  rw [read_whole_of _ _ (actK hb wu cw cb (fun i q l => p (ix4 0 i q l)))]
  · exact mixout_at _ _ _ _ _
  · intro y
    canon_tiles x h
    · exact chunk_at hb wu cw cb (fun i q l => p (ix4 0 i q l)) (i := 10) (i' := 21) (by decide) (by decide) _ _ _ _ _ _ _ _ (headA_at _ p (by decide) _ _) (headA_at _ p (by decide) _ _) h0 (by omega) rfl
    · exact chunk_at hb wu cw cb (fun i q l => p (ix4 0 i q l)) (i := 9) (i' := 20) (by decide) (by decide) _ _ _ _ _ _ _ _ (headA_at _ p (by decide) _ _) (headA_at _ p (by decide) _ _) h0 (by omega) rfl
    · exact chunk_at hb wu cw cb (fun i q l => p (ix4 0 i q l)) (i := 8) (i' := 19) (by decide) (by decide) _ _ _ _ _ _ _ _ (headA_at _ p (by decide) _ _) (headA_at _ p (by decide) _ _) h0 (by omega) rfl
    · exact chunk_at hb wu cw cb (fun i q l => p (ix4 0 i q l)) (i := 7) (i' := 18) (by decide) (by decide) _ _ _ _ _ _ _ _ (headA_at _ p (by decide) _ _) (headA_at _ p (by decide) _ _) h0 (by omega) rfl
    · exact chunk_at hb wu cw cb (fun i q l => p (ix4 0 i q l)) (i := 6) (i' := 17) (by decide) (by decide) _ _ _ _ _ _ _ _ (headA_at _ p (by decide) _ _) (headA_at _ p (by decide) _ _) h0 (by omega) rfl
    · exact chunk_at hb wu cw cb (fun i q l => p (ix4 0 i q l)) (i := 5) (i' := 16) (by decide) (by decide) _ _ _ _ _ _ _ _ (headA_at _ p (by decide) _ _) (headA_at _ p (by decide) _ _) h0 (by omega) rfl
    · exact chunk_at hb wu cw cb (fun i q l => p (ix4 0 i q l)) (i := 4) (i' := 15) (by decide) (by decide) _ _ _ _ _ _ _ _ (headA_at _ p (by decide) _ _) (headA_at _ p (by decide) _ _) h0 (by omega) rfl
    · exact chunk_at hb wu cw cb (fun i q l => p (ix4 0 i q l)) (i := 3) (i' := 14) (by decide) (by decide) _ _ _ _ _ _ _ _ (headA_at _ p (by decide) _ _) (headA_at _ p (by decide) _ _) h0 (by omega) rfl
    · exact chunk_at hb wu cw cb (fun i q l => p (ix4 0 i q l)) (i := 2) (i' := 13) (by decide) (by decide) _ _ _ _ _ _ _ _ (headA_at _ p (by decide) _ _) (headA_at _ p (by decide) _ _) h0 (by omega) rfl
    · exact chunk_at hb wu cw cb (fun i q l => p (ix4 0 i q l)) (i := 1) (i' := 12) (by decide) (by decide) _ _ _ _ _ _ _ _ (headA_at _ p (by decide) _ _) (headA_at _ p (by decide) _ _) h0 (by omega) rfl
    · exact chunk_at hb wu cw cb (fun i q l => p (ix4 0 i q l)) (i := 0) (i' := 11) (by decide) (by decide) _ _ _ _ _ _ _ _ (headA_at _ p (by decide) _ _) (headA_at _ p (by decide) _ _) h0 (by omega) rfl

end Cert.MixIdeal.Value
-- ==== Proof.MixRunB.lean ====
module

public import proofs.«01_k».proof.Defs
public import proofs.«01_k».proof.Proof.Gen.MixIdeal.Value
public import proofs.«01_k».proof.Proof.MixSpec
public import Idealize.ShloMosaic.Lib.Pointwise
public import Idealize.ShloMosaic.Lib.Pipeline.ValueKit
public import Idealize.ShloMosaic.Lib.Pipeline.ReadBack
public import proofs.«01_k».proof.Proof.MixTile

@[expose] public section

/-! A tile between a sequence's first and last: its output rows, and what it leaves for the next. -/

set_option maxRecDepth 16384

noncomputable section

namespace Cert.MixIdeal.Value

open Cert.FfnIdeal.Value Cert.MixIdeal Cert.MixIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem scratch_B (c : Dev nD) (t : Fin cfg0.N) (h0 : ¬t.val % 4 = 0) (h1 : ¬t.val % 4 = 3) :
    (outsAt0 m c t.val t.isLt).2.2 = scrK (k0_pay4 (iblk m c 0 t) (iblk m c 1 t) (iblk m c 2 t) (iblk m c 4 t)) (iblk m c 5 t) := by
  rw [outsAt0_B m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 1 t) (iblk m c 2 t) (iblk m c 4 t) = hb
  generalize (iblk m c 5 t : Vec Ideal S22x1024x256 .bf16) = wu
  funext y
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_B (c : Dev nD) (t : Fin cfg0.N) (h0 : ¬t.val % 4 = 0) (h1 : ¬t.val % 4 = 3) (r : Fin 512) (d : Fin 1024) :
    (outsAt0 m c t.val t.isLt).1 (ix3 0 r d) = outM (k0_pay3 (iblk m c 0 t) (iblk m c 1 t) (iblk m c 2 t)) (k0_pay4 (iblk m c 0 t) (iblk m c 1 t) (iblk m c 2 t) (iblk m c 4 t)) (iblk m c 5 t) (iblk m c 6 t) (iblk m c 7 t)
      (fun i q l => (outsAt0 m c (t.val - 1) (by omega)).2.2 (ix3 i ⟨q, by omega⟩ l)) (iblk m c 8 t) r d := by
  unfold outM
  rw [outsAt0_B m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  simp only [View.writes_nil, read_unread_whole]
  generalize k0_pay4 (F := Ideal) (iblk m c 0 t) (iblk m c 1 t) (iblk m c 2 t) (iblk m c 4 t) = hb
  generalize (iblk m c 5 t : Vec Ideal S22x1024x256 .bf16) = wu
  generalize (iblk m c 6 t : Vec Ideal S22x3x256 .f32) = cw
  generalize (iblk m c 7 t : Vec Ideal S22x1x256 .f32) = cb
  generalize (iblk m c 8 t : Vec Ideal S2816x1024 .bf16) = wd
  generalize k0_pay3 (F := Ideal) (iblk m c 0 t) (iblk m c 1 t) (iblk m c 2 t) = xr
  rw [read_whole_of _ _ (actK hb wu cw cb (fun i q l => xs (ix3 i ⟨q, by omega⟩ l)))]
  · exact mixout_at _ _ _ _ _
  · intro y
    canon_tiles x h
    · exact chunk_at hb wu cw cb (fun i q l => xs (ix3 i ⟨q, by omega⟩ l)) (i := 10) (i' := 21) (by decide) (by decide) _ _ _ _ _ _ _ _ (head_at xs (by decide) _) (head_at xs (by decide) _) h0 (by omega) rfl
    · exact chunk_at hb wu cw cb (fun i q l => xs (ix3 i ⟨q, by omega⟩ l)) (i := 9) (i' := 20) (by decide) (by decide) _ _ _ _ _ _ _ _ (head_at xs (by decide) _) (head_at xs (by decide) _) h0 (by omega) rfl
    · exact chunk_at hb wu cw cb (fun i q l => xs (ix3 i ⟨q, by omega⟩ l)) (i := 8) (i' := 19) (by decide) (by decide) _ _ _ _ _ _ _ _ (head_at xs (by decide) _) (head_at xs (by decide) _) h0 (by omega) rfl
    · exact chunk_at hb wu cw cb (fun i q l => xs (ix3 i ⟨q, by omega⟩ l)) (i := 7) (i' := 18) (by decide) (by decide) _ _ _ _ _ _ _ _ (head_at xs (by decide) _) (head_at xs (by decide) _) h0 (by omega) rfl
    · exact chunk_at hb wu cw cb (fun i q l => xs (ix3 i ⟨q, by omega⟩ l)) (i := 6) (i' := 17) (by decide) (by decide) _ _ _ _ _ _ _ _ (head_at xs (by decide) _) (head_at xs (by decide) _) h0 (by omega) rfl
    · exact chunk_at hb wu cw cb (fun i q l => xs (ix3 i ⟨q, by omega⟩ l)) (i := 5) (i' := 16) (by decide) (by decide) _ _ _ _ _ _ _ _ (head_at xs (by decide) _) (head_at xs (by decide) _) h0 (by omega) rfl
    · exact chunk_at hb wu cw cb (fun i q l => xs (ix3 i ⟨q, by omega⟩ l)) (i := 4) (i' := 15) (by decide) (by decide) _ _ _ _ _ _ _ _ (head_at xs (by decide) _) (head_at xs (by decide) _) h0 (by omega) rfl
    · exact chunk_at hb wu cw cb (fun i q l => xs (ix3 i ⟨q, by omega⟩ l)) (i := 3) (i' := 14) (by decide) (by decide) _ _ _ _ _ _ _ _ (head_at xs (by decide) _) (head_at xs (by decide) _) h0 (by omega) rfl
    · exact chunk_at hb wu cw cb (fun i q l => xs (ix3 i ⟨q, by omega⟩ l)) (i := 2) (i' := 13) (by decide) (by decide) _ _ _ _ _ _ _ _ (head_at xs (by decide) _) (head_at xs (by decide) _) h0 (by omega) rfl
    · exact chunk_at hb wu cw cb (fun i q l => xs (ix3 i ⟨q, by omega⟩ l)) (i := 1) (i' := 12) (by decide) (by decide) _ _ _ _ _ _ _ _ (head_at xs (by decide) _) (head_at xs (by decide) _) h0 (by omega) rfl
    · exact chunk_at hb wu cw cb (fun i q l => xs (ix3 i ⟨q, by omega⟩ l)) (i := 0) (i' := 11) (by decide) (by decide) _ _ _ _ _ _ _ _ (head_at xs (by decide) _) (head_at xs (by decide) _) h0 (by omega) rfl

end Cert.MixIdeal.Value
-- ==== Proof.MixRunC.lean ====
module

public import proofs.«01_k».proof.Defs
public import proofs.«01_k».proof.Proof.Gen.MixIdeal.Value
public import proofs.«01_k».proof.Proof.MixSpec
public import Idealize.ShloMosaic.Lib.Pointwise
public import Idealize.ShloMosaic.Lib.Pipeline.ValueKit
public import Idealize.ShloMosaic.Lib.Pipeline.ReadBack
public import proofs.«01_k».proof.Proof.MixTile

@[expose] public section

/-! A sequence's last tile: its output rows, and the rows it hands on. -/

set_option maxRecDepth 16384

noncomputable section

namespace Cert.MixIdeal.Value

open Cert.FfnIdeal.Value Cert.MixIdeal Cert.MixIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
theorem state_C (c : Dev nD) (t : Fin cfg0.N) (h0 : ¬t.val % 4 = 0) (h1 : t.val % 4 = 3) (i : Fin 22) (k : Fin 2) (l : Fin 256) :
    (outsAt0 m c t.val t.isLt).2.1 (ix4 0 i k l) = scrK (k0_pay4 (iblk m c 0 t) (iblk m c 1 t) (iblk m c 2 t) (iblk m c 4 t)) (iblk m c 5 t) (ix3 i ⟨6 + k, by omega⟩ l) := by
  rw [outsAt0_C m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  generalize k0_pay4 (F := Ideal) (iblk m c 0 t) (iblk m c 1 t) (iblk m c 2 t) (iblk m c 4 t) = hb
  generalize (iblk m c 5 t : Vec Ideal S22x1024x256 .bf16) = wu
  refine (state_of _ i k l).trans (read_state_of _ _ (scrK hb wu) _ (fun y => ?_) i k l)
  refine group_at scM0_1.view hb wu (i := 21) (by decide) _ _ _ _ y fun e21 => ?_
  refine group_at scM0_1.view hb wu (i := 10) (by decide) _ _ _ _ y fun e10 => ?_
  refine group_at scM0_1.view hb wu (i := 20) (by decide) _ _ _ _ y fun e20 => ?_
  refine group_at scM0_1.view hb wu (i := 9) (by decide) _ _ _ _ y fun e9 => ?_
  refine group_at scM0_1.view hb wu (i := 19) (by decide) _ _ _ _ y fun e19 => ?_
  refine group_at scM0_1.view hb wu (i := 8) (by decide) _ _ _ _ y fun e8 => ?_
  refine group_at scM0_1.view hb wu (i := 18) (by decide) _ _ _ _ y fun e18 => ?_
  refine group_at scM0_1.view hb wu (i := 7) (by decide) _ _ _ _ y fun e7 => ?_
  refine group_at scM0_1.view hb wu (i := 17) (by decide) _ _ _ _ y fun e17 => ?_
  refine group_at scM0_1.view hb wu (i := 6) (by decide) _ _ _ _ y fun e6 => ?_
  refine group_at scM0_1.view hb wu (i := 16) (by decide) _ _ _ _ y fun e16 => ?_
  refine group_at scM0_1.view hb wu (i := 5) (by decide) _ _ _ _ y fun e5 => ?_
  refine group_at scM0_1.view hb wu (i := 15) (by decide) _ _ _ _ y fun e15 => ?_
  refine group_at scM0_1.view hb wu (i := 4) (by decide) _ _ _ _ y fun e4 => ?_
  refine group_at scM0_1.view hb wu (i := 14) (by decide) _ _ _ _ y fun e14 => ?_
  refine group_at scM0_1.view hb wu (i := 3) (by decide) _ _ _ _ y fun e3 => ?_
  refine group_at scM0_1.view hb wu (i := 13) (by decide) _ _ _ _ y fun e13 => ?_
  refine group_at scM0_1.view hb wu (i := 2) (by decide) _ _ _ _ y fun e2 => ?_
  refine group_at scM0_1.view hb wu (i := 12) (by decide) _ _ _ _ y fun e12 => ?_
  refine group_at scM0_1.view hb wu (i := 1) (by decide) _ _ _ _ y fun e1 => ?_
  refine group_at scM0_1.view hb wu (i := 11) (by decide) _ _ _ _ y fun e11 => ?_
  refine group_at scM0_1.view hb wu (i := 0) (by decide) _ _ _ _ y fun e0 => ?_
  have hy : (y 0 : ℕ) < 22 := (y 0).isLt
  omega

set_option maxHeartbeats 4000000 in
theorem out_C (c : Dev nD) (t : Fin cfg0.N) (h0 : ¬t.val % 4 = 0) (h1 : t.val % 4 = 3) (r : Fin 512) (d : Fin 1024) :
    (outsAt0 m c t.val t.isLt).1 (ix3 0 r d) = outM (k0_pay3 (iblk m c 0 t) (iblk m c 1 t) (iblk m c 2 t)) (k0_pay4 (iblk m c 0 t) (iblk m c 1 t) (iblk m c 2 t) (iblk m c 4 t)) (iblk m c 5 t) (iblk m c 6 t) (iblk m c 7 t)
      (fun i q l => (outsAt0 m c (t.val - 1) (by omega)).2.2 (ix3 i ⟨q, by omega⟩ l)) (iblk m c 8 t) r d := by
  unfold outM
  rw [outsAt0_C m c t h0 h1]
  dsimp only
  generalize (outsAt0 m c _ _).2.2 = xs
  frame_open
  simp (disch := decide) only [↓ View.readCov_cons_toLoadRect, ↓ readAt_tail, ↓ readCov_tail, ↓ readAt_strad, ↓ readCov_strad, ↓ readAt_group, ↓ readCov_group]
  frame_out
  simp only [View.writes_nil, read_unread_whole]
  generalize k0_pay4 (F := Ideal) (iblk m c 0 t) (iblk m c 1 t) (iblk m c 2 t) (iblk m c 4 t) = hb
  generalize (iblk m c 5 t : Vec Ideal S22x1024x256 .bf16) = wu
  generalize (iblk m c 6 t : Vec Ideal S22x3x256 .f32) = cw
  generalize (iblk m c 7 t : Vec Ideal S22x1x256 .f32) = cb
  generalize (iblk m c 8 t : Vec Ideal S2816x1024 .bf16) = wd
  generalize k0_pay3 (F := Ideal) (iblk m c 0 t) (iblk m c 1 t) (iblk m c 2 t) = xr
  rw [read_whole_of _ _ (actK hb wu cw cb (fun i q l => xs (ix3 i ⟨q, by omega⟩ l)))]
  · exact mixout_at _ _ _ _ _
  · intro y
    canon_tiles x h
    · exact chunk_at hb wu cw cb (fun i q l => xs (ix3 i ⟨q, by omega⟩ l)) (i := 10) (i' := 21) (by decide) (by decide) _ _ _ _ _ _ _ _ (head_at xs (by decide) _) (head_at xs (by decide) _) h0 (by omega) rfl
    · exact chunk_at hb wu cw cb (fun i q l => xs (ix3 i ⟨q, by omega⟩ l)) (i := 9) (i' := 20) (by decide) (by decide) _ _ _ _ _ _ _ _ (head_at xs (by decide) _) (head_at xs (by decide) _) h0 (by omega) rfl
    · exact chunk_at hb wu cw cb (fun i q l => xs (ix3 i ⟨q, by omega⟩ l)) (i := 8) (i' := 19) (by decide) (by decide) _ _ _ _ _ _ _ _ (head_at xs (by decide) _) (head_at xs (by decide) _) h0 (by omega) rfl
    · exact chunk_at hb wu cw cb (fun i q l => xs (ix3 i ⟨q, by omega⟩ l)) (i := 7) (i' := 18) (by decide) (by decide) _ _ _ _ _ _ _ _ (head_at xs (by decide) _) (head_at xs (by decide) _) h0 (by omega) rfl
    · exact chunk_at hb wu cw cb (fun i q l => xs (ix3 i ⟨q, by omega⟩ l)) (i := 6) (i' := 17) (by decide) (by decide) _ _ _ _ _ _ _ _ (head_at xs (by decide) _) (head_at xs (by decide) _) h0 (by omega) rfl
    · exact chunk_at hb wu cw cb (fun i q l => xs (ix3 i ⟨q, by omega⟩ l)) (i := 5) (i' := 16) (by decide) (by decide) _ _ _ _ _ _ _ _ (head_at xs (by decide) _) (head_at xs (by decide) _) h0 (by omega) rfl
    · exact chunk_at hb wu cw cb (fun i q l => xs (ix3 i ⟨q, by omega⟩ l)) (i := 4) (i' := 15) (by decide) (by decide) _ _ _ _ _ _ _ _ (head_at xs (by decide) _) (head_at xs (by decide) _) h0 (by omega) rfl
    · exact chunk_at hb wu cw cb (fun i q l => xs (ix3 i ⟨q, by omega⟩ l)) (i := 3) (i' := 14) (by decide) (by decide) _ _ _ _ _ _ _ _ (head_at xs (by decide) _) (head_at xs (by decide) _) h0 (by omega) rfl
    · exact chunk_at hb wu cw cb (fun i q l => xs (ix3 i ⟨q, by omega⟩ l)) (i := 2) (i' := 13) (by decide) (by decide) _ _ _ _ _ _ _ _ (head_at xs (by decide) _) (head_at xs (by decide) _) h0 (by omega) rfl
    · exact chunk_at hb wu cw cb (fun i q l => xs (ix3 i ⟨q, by omega⟩ l)) (i := 1) (i' := 12) (by decide) (by decide) _ _ _ _ _ _ _ _ (head_at xs (by decide) _) (head_at xs (by decide) _) h0 (by omega) rfl
    · exact chunk_at hb wu cw cb (fun i q l => xs (ix3 i ⟨q, by omega⟩ l)) (i := 0) (i' := 11) (by decide) (by decide) _ _ _ _ _ _ _ _ (head_at xs (by decide) _) (head_at xs (by decide) _) h0 (by omega) rfl

end Cert.MixIdeal.Value
-- ==== Proof.MixK.lean ====
module

public import proofs.«01_k».proof.Defs
public import proofs.«01_k».proof.Proof.Gen.MixIdeal.Value
public import proofs.«01_k».proof.Proof.MixSpec
public import Idealize.ShloMosaic.Lib.Pointwise
public import Idealize.ShloMosaic.Lib.Pipeline.ValueKit
public import Idealize.ShloMosaic.Lib.Pipeline.ReadBack
public import proofs.«01_k».proof.Proof.MixTile
public import proofs.«01_k».proof.Proof.MixRunA
public import proofs.«01_k».proof.Proof.MixRunB
public import proofs.«01_k».proof.Proof.MixRunC

@[expose] public section

/-! The launch's two results are the layer and the rows handed on. -/

set_option maxRecDepth 16384

noncomputable section

namespace Cert.MixIdeal.Value

open Cert.FfnIdeal.Value Cert.MixIdeal Cert.MixIdeal.Gen Idealize.ShloMosaic Idealize.ShloMosaic.TcCoe Idealize.SL.Sem Idealize.ShloMosaic.StableHlo

variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![0, 0]
    ∧ win0_3.index t = ![t.val / 4, 0, 0, 0] ∧ win0_4.index t = ![0, 0] ∧ win0_5.index t = ![0, 0, 0] ∧ win0_6.index t = ![0, 0, 0] ∧ win0_7.index t = ![0, 0, 0]
    ∧ win0_8.index t = ![0, 0] ∧ win0_9.index t = ![t.val / 4, t.val % 4, 0] ∧ win0_10.index t = ![t.val / 4, 0, 0, 0] :=
  (by decide +kernel : ∀ t : Fin grid0.N, _)

section blocks
variable (c : Dev nD) (t : Fin cfg0.N)

theorem lt32 : (t : ℕ) < 32 := lt_of_lt_of_eq t.isLt N_0

theorem b0 (r : Fin 512) (d : Fin 1024) : iblk m c 0 t (ix3 0 r d) = (fun b t d => m ((c.tc : Thread nD τ).loc main_arg0) (ix3 b t d)) ⟨t / 4, by have := lt32 t; omega⟩ ⟨t % 4 * 512 + r, by omega⟩ d := by
  blk_point [iblk, V, idx t]

theorem b1 (r : Fin 512) (d : Fin 1024) : iblk m c 1 t (ix3 0 r d) = (fun b t d => m ((c.tc : Thread nD τ).loc main_arg1) (ix3 b t d)) ⟨t / 4, by have := lt32 t; omega⟩ ⟨t % 4 * 512 + r, by omega⟩ d := by
  blk_point [iblk, V, idx t]

theorem b2 (e d : Fin 1024) : iblk m c 2 t (ix2 e d) = (fun e d => m ((c.tc : Thread nD τ).loc main_arg2) (ix2 e d)) e d := by
  blk_point [iblk, V, idx t]

theorem b3 (i : Fin 22) (q : Fin 8) (l : Fin 256) : iblk m c 3 t (ix4 0 i q l) = (0 : EReal) := by
  blk_point [iblk, V, idx t]

theorem b4 (d : Fin 1024) : iblk m c 4 t (ix2 0 d) = (fun d => m ((c.tc : Thread nD τ).loc main_arg3) (ix1 d)) d := by
  blk_point [iblk, V, idx t]

theorem b5 (i : Fin 22) (d : Fin 1024) (l : Fin 256) : iblk m c 5 t (ix3 i d l) = (fun d j => m ((c.tc : Thread nD τ).loc main_arg4) (ix2 d j)) d ⟨(i : ℕ) * 256 + l, by omega⟩ := by
  blk_point [iblk, V, idx t]

theorem b6 (i : Fin 22) (k : Fin 3) (l : Fin 256) : iblk m c 6 t (ix3 i k l) = (fun d j => m ((c.tc : Thread nD τ).loc main_arg5) (ix2 d j)) k ⟨(i : ℕ) * 256 + l, by omega⟩ := by
  blk_point [iblk, V, idx t]

theorem b7 (i : Fin 22) (l : Fin 256) : iblk m c 7 t (ix3 i 0 l) = (fun d => m ((c.tc : Thread nD τ).loc main_arg6) (ix1 d)) ⟨(i : ℕ) * 256 + l, by omega⟩ := by
  blk_point [iblk, V, idx t]

theorem b8 (j : Fin 2816) (d : Fin 1024) : iblk m c 8 t (ix2 j d) = (fun d j => m ((c.tc : Thread nD τ).loc main_arg7) (ix2 d j)) j d := by
  blk_point [iblk, V, idx t]
end blocks

/-- What a tile that is not a sequence's last leaves in the carried buffer. -/
theorem scratch (c : Dev nD) (t : Fin cfg0.N) (h1 : ¬t.val % 4 = 3) :
    (outsAt0 m c t.val t.isLt).2.2 = scrK (k0_pay4 (iblk m c 0 t) (iblk m c 1 t) (iblk m c 2 t) (iblk m c 4 t)) (iblk m c 5 t) := by
  by_cases h0 : t.val % 4 = 0
  · exact scratch_A m c t h0 h1
  · exact scratch_B m c t h0 h1

/-- The eight rows carried into a tile that is not a sequence's first. -/
theorem carried (c : Dev nD) (t : Fin cfg0.N) (h0 : ¬t.val % 4 = 0) (h) (i : Fin 22) (q : Fin 8) (l : Fin 256) :
    (outsAt0 m c (t.val - 1) h).2.2 (ix3 i ⟨q, by omega⟩ l)
      = if (t : ℕ) % 4 = 0 then 0 else FfnSpec.up (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d))) (fun d => m ((c.tc : Thread nD τ).loc main_arg3) (ix1 d)) (fun d j => m ((c.tc : Thread nD τ).loc main_arg4) (ix2 d j)) ⟨t / 4, by have := lt32 t; omega⟩ ⟨t % 4 * 512 - 8 + q, by omega⟩ ⟨(i : ℕ) * 256 + l, by omega⟩ := by
  rw [if_neg h0]
  refine (congrFun (scratch m c ⟨t.val - 1, h⟩ (by dsimp only; omega)) _).trans ?_
  refine (scrK_at (X := (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d)))) (g := (fun d => m ((c.tc : Thread nD τ).loc main_arg3) (ix1 d))) (w := (fun d j => m ((c.tc : Thread nD τ).loc main_arg4) (ix2 d j))) (b := ⟨(t.val - 1) / 4, by have := lt32 t; omega⟩) (n := (t.val - 1) % 4) (Nat.mod_lt _ (by decide)) (mixnorm_at (Nat.mod_lt _ (by decide)) (b0 m c ⟨t.val - 1, h⟩) (b1 m c ⟨t.val - 1, h⟩) (b2 m c ⟨t.val - 1, h⟩) (b4 m c ⟨t.val - 1, h⟩)) (b5 m c ⟨t.val - 1, h⟩) i q l).trans ?_
  refine congr (congrArg₂ (FfnSpec.up _ _ _) (Fin.ext ?_) (Fin.ext ?_)) rfl
  · show (t.val - 1) / 4 = t.val / 4
    omega
  · show (t.val - 1) % 4 * 512 + 504 + (q : ℕ) = t.val % 4 * 512 - 8 + (q : ℕ)
    omega

/-- Every tile's output rows are the layer's. -/
theorem out_tile (c : Dev nD) (t : Fin cfg0.N) (r : Fin 512) (d : Fin 1024) :
    (outsAt0 m c t.val t.isLt).1 (ix3 0 r d)
      = FfnSpec.out (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d))) (fun d => m ((c.tc : Thread nD τ).loc main_arg3) (ix1 d)) (fun d j => m ((c.tc : Thread nD τ).loc main_arg4) (ix2 d j)) (fun d j => m ((c.tc : Thread nD τ).loc main_arg5) (ix2 d j)) (fun d => m ((c.tc : Thread nD τ).loc main_arg6) (ix1 d)) (fun d j => m ((c.tc : Thread nD τ).loc main_arg7) (ix2 d j)) ⟨t / 4, by have := lt32 t; omega⟩ ⟨t % 4 * 512 + r, by omega⟩ d := by
  by_cases h0 : t.val % 4 = 0
  · refine (out_A m c t h0 (by omega) r d).trans (outK_at (X := (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d)))) (g := (fun d => m ((c.tc : Thread nD τ).loc main_arg3) (ix1 d))) (w := (fun d j => m ((c.tc : Thread nD τ).loc main_arg4) (ix2 d j))) (b := ⟨t.val / 4, by have := lt32 t; omega⟩) (n := t.val % 4) (Nat.mod_lt _ (by decide)) (mixrows_at (Nat.mod_lt _ (by decide)) (b0 m c t) (b1 m c t) (b2 m c t)) (mixnorm_at (Nat.mod_lt _ (by decide)) (b0 m c t) (b1 m c t) (b2 m c t) (b4 m c t)) (b5 m c t) (b6 m c t) (b7 m c t) (b8 m c t) (fun i q l => ?_) r d)
    rw [if_pos h0]
    exact b3 m c t i q l
  · by_cases h1 : t.val % 4 = 3
    · exact (out_C m c t h0 h1 r d).trans (outK_at (X := (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d)))) (g := (fun d => m ((c.tc : Thread nD τ).loc main_arg3) (ix1 d))) (w := (fun d j => m ((c.tc : Thread nD τ).loc main_arg4) (ix2 d j))) (b := ⟨t.val / 4, by have := lt32 t; omega⟩) (n := t.val % 4) (Nat.mod_lt _ (by decide)) (mixrows_at (Nat.mod_lt _ (by decide)) (b0 m c t) (b1 m c t) (b2 m c t)) (mixnorm_at (Nat.mod_lt _ (by decide)) (b0 m c t) (b1 m c t) (b2 m c t) (b4 m c t)) (b5 m c t) (b6 m c t) (b7 m c t) (b8 m c t) (carried m c t h0 _) r d)
    · exact (out_B m c t h0 h1 r d).trans (outK_at (X := (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d)))) (g := (fun d => m ((c.tc : Thread nD τ).loc main_arg3) (ix1 d))) (w := (fun d j => m ((c.tc : Thread nD τ).loc main_arg4) (ix2 d j))) (b := ⟨t.val / 4, by have := lt32 t; omega⟩) (n := t.val % 4) (Nat.mod_lt _ (by decide)) (mixrows_at (Nat.mod_lt _ (by decide)) (b0 m c t) (b1 m c t) (b2 m c t)) (mixnorm_at (Nat.mod_lt _ (by decide)) (b0 m c t) (b1 m c t) (b2 m c t) (b4 m c t)) (b5 m c t) (b6 m c t) (b7 m c t) (b8 m c t) (carried m c t h0 _) r d)

theorem val9 (c : Dev nD) : (dats m 0 c).arrAt 9 cfg0.N = fun i : S8x2048x1024.Idx =>
    FfnSpec.out (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d))) (fun d => m ((c.tc : Thread nD τ).loc main_arg3) (ix1 d)) (fun d j => m ((c.tc : Thread nD τ).loc main_arg4) (ix2 d j)) (fun d j => m ((c.tc : Thread nD τ).loc main_arg5) (ix2 d j)) (fun d => m ((c.tc : Thread nD τ).loc main_arg6) (ix1 d)) (fun d j => m ((c.tc : Thread nD τ).loc main_arg7) (ix2 d j)) (i 0) (i 1) (i 2) := by
  refine (dats m 0 c).arrAt_eq_of_covers 9 _ (by decide +kernel) fun t hf y => ?_
  blk_simp
  rw [after0_9]
  rw [show y = ix3 0 (y 1) (y 2) from by blk_ext]
  refine (out_tile m c t (y 1) (y 2)).trans ?_
  refine congr (congr (congrArg _ ?_) ?_) ?_
  all_goals
    refine Fin.ext ?_
    blk_simp [idx t]
  rfl

theorem val10 (c : Dev nD) : (dats m 0 c).arrAt 10 cfg0.N = fun i : S8x22x2x256.Idx =>
    FfnSpec.state (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d))) (fun d => m ((c.tc : Thread nD τ).loc main_arg3) (ix1 d)) (fun d j => m ((c.tc : Thread nD τ).loc main_arg4) (ix2 d j)) (i 0) (i 1) (i 2) (i 3) := by
  refine (dats m 0 c).arrAt_eq_of_covers 10 _ (by decide +kernel) fun t hf y => ?_
  have h1 : t.val % 4 = 3 := (flush0_10 t).mp hf
  blk_simp
  rw [after0_10]
  rw [show y = ix4 0 (y 1) (y 2) (y 3) from by blk_ext]
  refine (state_C m c t (by omega) h1 (y 1) (y 2) (y 3)).trans ?_
  have hk : (y 2 : ℕ) < 2 := (y 2).isLt
  refine (scrK_at (X := (MixSpec.rows (fun b t d => m ((c.tc : Thread nD τ).loc main_arg0) (ix3 b t d)) (fun b t d => m ((c.tc : Thread nD τ).loc main_arg1) (ix3 b t d)) (fun e d => m ((c.tc : Thread nD τ).loc main_arg2) (ix2 e d)))) (g := (fun d => m ((c.tc : Thread nD τ).loc main_arg3) (ix1 d))) (w := (fun d j => m ((c.tc : Thread nD τ).loc main_arg4) (ix2 d j))) (b := ⟨t.val / 4, by have := lt32 t; omega⟩) (n := t.val % 4) (Nat.mod_lt _ (by decide)) (mixnorm_at (Nat.mod_lt _ (by decide)) (b0 m c t) (b1 m c t) (b2 m c t) (b4 m c t)) (b5 m c t) (y 1) ⟨6 + (y 2 : ℕ), by omega⟩ (y 3)).trans ?_
  refine congr (congrArg₂ (FfnSpec.up _ _ _) (Fin.ext ?_) (Fin.ext ?_)) (Fin.ext ?_)
  all_goals
    blk_simp [idx t]
  · rfl
  · show t.val % 4 * 512 + 504 + (6 + (y 2 : ℕ)) = 2046 + (y 2 : ℕ)
    omega

end Cert.MixIdeal.Value
-- ==== Proof.MixRefValue.lean ====
module

public import proofs.«01_k».proof.Defs
public import proofs.«01_k».proof.Proof.Gen.MixRefIdeal.Run
public import proofs.«01_k».proof.Proof.MixSpec
public import proofs.«01_k».proof.Proof.FfnRefValue
public import Idealize.ShloMosaic.Lib.Pointwise
public import Idealize.ShloMosaic.Lib.Pipeline.ValueKit

@[expose] public section

set_option maxRecDepth 16384

noncomputable section

namespace Cert.MixRefIdeal.Value

open Cert.FfnRefIdeal.Value Cert.MixRefIdeal Cert.MixRefIdeal.Gen Idealize.ShloMosaic Idealize.ShloMosaic.TcCoe Idealize.SL.Sem Idealize.ShloMosaic.StableHlo

/-- The rows with the attention's projection added. -/
def rM (x o : FVec Ideal S8x2048x1024 .f32) (w : FVec Ideal S1024x1024 .f32) : FVec Ideal S8x2048x1024 .f32 :=
  addf x (Host.dotGeneral dot_S8x2048x1024_S1024x1024_S8x2048x1024_2_0_01_1_n_n none o w)

theorem rM_at (x o : FVec Ideal S8x2048x1024 .f32) (w : FVec Ideal S1024x1024 .f32) (b : Fin 8) (t : Fin 2048) (d : Fin 1024) :
    rM x o w (ix3 b t d) = MixSpec.rows (fun b t d => x (ix3 b t d)) (fun b t d => o (ix3 b t d)) (fun d j => w (ix2 d j)) b t d := by
  pointwise [rM, MixSpec.rows]

theorem res_eq' (m : (ℓ : Loc nD τ sig) → Buf (Elt Ideal) ℓ) (c : Dev nD) :
    res_main_v46 m c = rO (rM (m ((c.tc : Thread nD τ).loc main_arg0)) (m ((c.tc : Thread nD τ).loc main_arg1)) (m ((c.tc : Thread nD τ).loc main_arg2))) (rC (rP (rU (rH (rM (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))) (m ((c.tc : Thread nD τ).loc main_arg5)) (m ((c.tc : Thread nD τ).loc main_arg6))) (m ((c.tc : Thread nD τ).loc main_arg7)) := by
  unfold res_main_v46 rO rC rP rU rH rM; rfl

section
variable (x : FVec Ideal S8x2048x1024 .f32) (X : Fin 8 → Fin 2048 → Fin 1024 → EReal) (hx : ∀ b t d, x (ix3 b t d) = X b t d)
  (g : FVec Ideal S1024 .f32) (w : FVec Ideal S1024x5632 .f32) (cw : FVec Ideal S3x5632 .f32) (cb : FVec Ideal S5632 .f32) (wd : FVec Ideal S2816x1024 .f32)

include hx in
/-- The projection of any rows. -/
theorem upX_at (b : Fin 8) (t : Fin 2048) (j : Fin 5632) :
    rU (rH x g) w (ix3 b t j) = FfnSpec.up X (fun d => g (ix1 d)) (fun d j => w (ix2 d j)) b t j := by
  rw [rU_at]; simp only [rH_at, hx]; rfl

include hx in
/-- The convolution of any rows. -/
theorem convX_at (b : Fin 8) (t : Fin 2048) (j : Fin 5632) :
    rC (rP (rU (rH x g) w)) cw cb (ix3 b t j) = FfnSpec.conv X (fun d => g (ix1 d)) (fun d j => w (ix2 d j)) (fun d j => cw (ix2 d j)) (fun d => cb (ix1 d)) b t j := by
  rw [rC_at]
  simp only [rP_at, upX_at x X hx]
  refine congrArg₂ (· + ·) (congrArg₂ (· + ·) (congrArg₂ (· + ·) rfl (congrArg₂ (· * ·) rfl ?_)) (congrArg₂ (· * ·) rfl ?_)) (congrArg₂ (· * ·) rfl ?_)
  · rfl
  · simp only [FfnSpec.past]
    by_cases h : (t : ℕ) < 1
    · rw [dif_pos (show 1 + (t : ℕ) < 2 by omega), if_pos h]
    · rw [dif_neg (show ¬ 1 + (t : ℕ) < 2 by omega), if_neg h]
      exact congrArg (fun q => FfnSpec.up _ _ _ b q j) (Fin.ext (by show 1 + (t : ℕ) - 2 = (t : ℕ) - 1; omega))
  · rw [dif_neg (show ¬ 2 + (t : ℕ) < 2 by omega)]
    exact congrArg (fun q => FfnSpec.up _ _ _ b q j) (Fin.ext (by show 2 + (t : ℕ) - 2 = (t : ℕ); omega))

include hx in
/-- The layer of any rows. -/
theorem outX_at (b : Fin 8) (t : Fin 2048) (d : Fin 1024) :
    rO x (rC (rP (rU (rH x g) w)) cw cb) wd (ix3 b t d) = FfnSpec.out X (fun d => g (ix1 d)) (fun d j => w (ix2 d j)) (fun d j => cw (ix2 d j)) (fun d => cb (ix1 d)) (fun d j => wd (ix2 d j)) b t d := by
  rw [rO_at]
  simp only [convX_at x X hx, hx]
  rfl

include hx in
/-- The last rows of the projection of any rows. -/
theorem stateX_at (b : Fin 8) (i : Fin 22) (k : Fin 2) (l : Fin 256) :
    rS (rP (rU (rH x g) w)) (ix4 b i k l) = FfnSpec.state X (fun d => g (ix1 d)) (fun d j => w (ix2 d j)) b i k l := by
  rw [rS_at, rP_at, dif_neg (show ¬ 2048 + (k : ℕ) < 2 by omega), upX_at x X hx]
  exact congrArg (fun q => FfnSpec.up _ _ _ b q _) (Fin.ext (by show 2048 + (k : ℕ) - 2 = 2046 + (k : ℕ); omega))
end

section
variable (m : (ℓ : Loc nD τ sig) → Buf (Elt Ideal) ℓ) (c : Dev nD)

/-- The reference's first result, entry by entry. -/
theorem mixres_at (b : Fin 8) (t : Fin 2048) (d : Fin 1024) :
    res_main_v46 m c (ix3 b t d) = FfnSpec.out (MixSpec.rows (fun b t d => (m ((c.tc : Thread nD τ).loc main_arg0)) (ix3 b t d)) (fun b t d => (m ((c.tc : Thread nD τ).loc main_arg1)) (ix3 b t d)) (fun d j => (m ((c.tc : Thread nD τ).loc main_arg2)) (ix2 d j))) (fun d => (m ((c.tc : Thread nD τ).loc main_arg3)) (ix1 d)) (fun d j => (m ((c.tc : Thread nD τ).loc main_arg4)) (ix2 d j)) (fun d j => (m ((c.tc : Thread nD τ).loc main_arg5)) (ix2 d j)) (fun d => (m ((c.tc : Thread nD τ).loc main_arg6)) (ix1 d)) (fun d j => (m ((c.tc : Thread nD τ).loc main_arg7)) (ix2 d j)) b t d := by
  rw [res_eq']
  exact outX_at _ _ (rM_at _ _ _) _ _ _ _ _ b t d

/-- The reference's second result, entry by entry. -/
theorem mixstate_at (b : Fin 8) (i : Fin 22) (k : Fin 2) (l : Fin 256) :
    rS (rP (rU (rH (rM (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))) (ix4 b i k l)
      = FfnSpec.state (MixSpec.rows (fun b t d => (m ((c.tc : Thread nD τ).loc main_arg0)) (ix3 b t d)) (fun b t d => (m ((c.tc : Thread nD τ).loc main_arg1)) (ix3 b t d)) (fun d j => (m ((c.tc : Thread nD τ).loc main_arg2)) (ix2 d j))) (fun d => (m ((c.tc : Thread nD τ).loc main_arg3)) (ix1 d)) (fun d j => (m ((c.tc : Thread nD τ).loc main_arg4)) (ix2 d j)) b i k l :=
  stateX_at _ _ (rM_at _ _ _) _ _ b i k l
end

end Cert.MixRefIdeal.Value
-- ==== Proof.MixClaim.lean ====
module

public import proofs.«01_k».proof.Proof.MixK
public import proofs.«01_k».proof.Proof.MixRefValue
public import Idealize.ShloMosaic.Lib.Claim

@[expose] public section

set_option maxRecDepth 16384

noncomputable section

namespace Cert.MixClaim

open Idealize.ShloMosaic Idealize.SL.Sem

theorem frame_ref : Cert.quiescent_MixRefIdeal := fun m g _ =>
  (θ_run Cert.MixRefIdeal.defs _ _).mono (fun r h => ⟨fun c => (h c).2.2, sem_eq_zero_of_no_sems (by decide) r.2⟩)
    (Cert.MixRefIdeal.Value.run (F := Ideal) m g)

theorem algebraic : Cert.algebraic_MixIdeal_MixRefIdeal := by
  pair_intro
  · run_from Cert.MixIdeal.Value.run_blocks m g
  · run_from Cert.MixRefIdeal.Value.run m' g'
    all_goals obtain ⟨e0, e1, e2, e3, e4, e5, e6, e7⟩ := hagree c
    · rw [Cert.MixIdeal.Value.val9 m c]
      funext j
      rw [show j = ix3 (j 0) (j 1) (j 2) from eq_ix3 j]
      refine (Cert.MixRefIdeal.Value.mixres_at m' c _ _ _).trans ?_
      rw [e0, e1, e2, e3, e4, e5, e6, e7]
      rfl
    · rw [Cert.MixIdeal.Value.val10 m c]
      funext j
      rw [show j = ix4 (j 0) (j 1) (j 2) (j 3) from eq_ix4 j]
      rw [← e0, ← e1, ← e2, ← e3, ← e4]
      exact Cert.MixRefIdeal.Value.mixstate_at m' c _ _ _ _

end Cert.MixClaim
-- ==== Proof.FoxSpec.lean ====
module

public import proofs.«01_k».proof.Proof.SguSpec

@[expose] public section

/-! The projection of the forgetting attention layer, entry by entry. -/

noncomputable section

namespace Cert.FoxSpec

open Idealize.ShloMosaic

/-- A row's lane after its segment of 64 is normalised. -/
def seg (p : Fin 1024 → EReal) (g : Fin 64 → EReal) (j : Fin 1024) : EReal :=
  SguSpec.rms (Ideal.ofBits .f32 0x42800000#32) (fun l : Fin 64 => p ⟨(j : ℕ) / 64 * 64 + l, by omega⟩) g ⟨(j : ℕ) % 64, by omega⟩

/-- The logarithm of the logistic function. -/
def logsig (z : EReal) : EReal := min z 0 - Ideal.log1p (Ideal.exp (-(max z (-z))))

section
variable (x : Fin 8 → Fin 2048 → Fin 1024 → EReal) (g : Fin 1024 → EReal) (w : Fin 1024 → Fin 3088 → EReal)

/-- The projection of a normalised row. -/
def proj (b : Fin 8) (t : Fin 2048) (j : Fin 3088) : EReal :=
  ∑ d, SguSpec.rms (Ideal.ofBits .f32 0x44800000#32) (x b t) g d * w d j

/-- The queries, with the attention's scale. -/
def q (gq : Fin 64 → EReal) (b : Fin 8) (t : Fin 2048) (j : Fin 1024) : EReal :=
  seg (fun j => proj x g w b t ⟨j, by omega⟩) gq j * Ideal.ofBits .f32 0x3E38AA3B#32

/-- The keys. -/
def k (gk : Fin 64 → EReal) (b : Fin 8) (t : Fin 2048) (j : Fin 1024) : EReal :=
  seg (fun j => proj x g w b t ⟨1024 + (j : ℕ), by omega⟩) gk j

/-- The values. -/
def v (b : Fin 8) (t : Fin 2048) (j : Fin 1024) : EReal := proj x g w b t ⟨2048 + (j : ℕ), by omega⟩

theorem gate_lt {l : ℕ} (h : l < 16) : 3072 + l < 3088 := by omega

/-- The logarithms of the forget gates, one a head in the first sixteen of 128 lanes; the other lanes' gates are of zero. -/
def f (bf : Fin 16 → EReal) (b : Fin 8) (t : Fin 2048) (l : Fin 128) : EReal :=
  logsig (if h : (l : ℕ) < 16 then proj x g w b t ⟨3072 + (l : ℕ), FoxSpec.gate_lt h⟩ + bf ⟨l, h⟩ else 0)
end

end Cert.FoxSpec
-- ==== Proof.FoxTile.lean ====
module

public import proofs.«01_k».proof.Defs
public import proofs.«01_k».proof.Proof.Gen.FoxIdeal.Value
public import proofs.«01_k».proof.Proof.FoxSpec
public import proofs.«01_k».proof.Proof.DqkvTile
public import Idealize.ShloMosaic.Lib.Pointwise
public import Idealize.ShloMosaic.Lib.Pipeline.ValueKit
public import Idealize.ShloMosaic.Lib.Pipeline.ReadBack

@[expose] public section

/-! One tile of the projection, from the blocks the launch hands the body. -/

set_option maxRecDepth 16384

noncomputable section

namespace Cert.FoxIdeal.Value

open Cert.DqkvIdeal.Value Cert.FoxIdeal Cert.FoxIdeal.Gen Idealize.ShloMosaic Idealize.ShloMosaic.TcCoe Idealize.SL.Sem Idealize.ShloMosaic.StableHlo

theorem pay7_eq (x0 : Vec Ideal S1x512x1024 .f32) (x1 : Vec Ideal S1x1024 .f32) (W : Vec Ideal S1024x1024 .bf16) :
    k0_pay7 (F := Ideal) x0 x1 W = k0_pay18 (k0_pay6 x0 x1) W := rfl

theorem q_eq (x0 : Vec Ideal S1x512x1024 .f32) (x1 : Vec Ideal S1x1024 .f32) (W : Vec Ideal S1024x1024 .bf16) (seg : Vec Ideal S1024x128 .bf16)
    (segt : Vec Ideal S256x1024 .bf16) (gn : Vec Ideal S1x1024 .f32) :
    k0_pay12 (F := Ideal) (k0_pay7 x0 x1 W) (k0_pay8 gn) (k0_pay9 x0 x1 W seg) (k0_pay10 x0 x1 W seg) (k0_pay11 x0 x1 W seg) segt
      = shapeCast S1x512x1024 (truncf .bf16 (mulf (nrm (k0_pay18 (k0_pay6 x0 x1) W) seg segt gn) (broadcast S512x1024 (Scalar.ofBits .f32 0x3E38AA3B#32))) bitsLt_bf16_f32)
        shapeCasts_S512x1024_S1x512x1024 := rfl

theorem k_eq (hb : FVec Ideal S512x1024 .bf16) (W : Vec Ideal S1024x1024 .bf16) (seg : Vec Ideal S1024x128 .bf16)
    (segt : Vec Ideal S256x1024 .bf16) (gn : Vec Ideal S1x1024 .f32) :
    k0_pay15 (F := Ideal) (k0_pay13 gn) (k0_pay14 hb W seg segt) = nrm (k0_pay18 hb W) seg segt gn := rfl

section tile
variable {X : Fin 8 → Fin 2048 → Fin 1024 → EReal} {g : Fin 1024 → EReal} {w : Fin 1024 → Fin 3088 → EReal} {gs : Fin 64 → EReal} {bf : Fin 16 → EReal} {b : Fin 8}
  {T : Fin 512 → Fin 2048}
  {x0 : Vec Ideal S1x512x1024 .f32} {x1 : Vec Ideal S1x1024 .f32} {W : Vec Ideal S1024x1024 .bf16} {seg : Vec Ideal S1024x128 .bf16}
  {segt : Vec Ideal S256x1024 .bf16} {gn : Vec Ideal S1x1024 .f32} {wf : Vec Ideal S1024x128 .bf16} {bfv : Vec Ideal S1x128 .f32} {φ : Fin 1024 → Fin 3088}
  (h0 : ∀ (r : Fin 512) d, x0 (ix3 0 r d) = X b (T r) d) (h1 : ∀ d, x1 (ix2 0 d) = g d) (hW : ∀ d j, W (ix2 d j) = w d (φ j))
  (hs : ∀ d s, seg (ix2 d s) = if (d : ℕ) / 64 = s then 1 else 0) (ht : ∀ i d, segt (ix2 i d) = if (i : ℕ) % 128 = (d : ℕ) / 64 then 1 else 0)
  (hg : ∀ j : Fin 1024, gn (ix2 0 j) = gs ⟨(j : ℕ) % 64, Nat.mod_lt _ (by decide)⟩)
  (hwf : ∀ d (l : Fin 128), wf (ix2 d l) = if h : (l : ℕ) < 16 then w d ⟨3072 + (l : ℕ), FoxSpec.gate_lt h⟩ else 0)
  (hbf : ∀ l : Fin 128, bfv (ix2 0 l) = if h : (l : ℕ) < 16 then bf ⟨l, h⟩ else 0)

include h0 h1 in
theorem rows_at (r : Fin 512) (d : Fin 1024) :
    k0_pay6 (F := Ideal) x0 x1 (ix2 r d) = SguSpec.rms (Ideal.ofBits .f32 0x44800000#32) (X b (T r)) g d := by
  pointwise [k0_pay6]
  simp only [h0, h1]
  rfl

include h0 h1 hW in
theorem proj_at (r : Fin 512) (j : Fin 1024) :
    k0_pay18 (F := Ideal) (k0_pay6 x0 x1) W (ix2 r j) = FoxSpec.proj X g w b (T r) (φ j) := by
  have e := rows_at h0 h1
  generalize k0_pay6 (F := Ideal) x0 x1 = R at e ⊢
  pointwise [k0_pay18]
  simp only [e, hW]
  rfl

include h0 h1 hW hs ht hg in
theorem nrmproj_at (r : Fin 512) (j : Fin 1024) :
    nrm (k0_pay18 (k0_pay6 x0 x1) W) seg segt gn (ix2 r j) = FoxSpec.seg (fun j => FoxSpec.proj X g w b (T r) (φ j)) gs j := by
  rw [nrm_at hs ht hg]
  simp only [proj_at h0 h1 hW]
  rfl

include h0 h1 hW hs ht hg in
theorem outq_at (r : Fin 512) (j : Fin 1024) :
    k0_pay12 (F := Ideal) (k0_pay7 x0 x1 W) (k0_pay8 gn) (k0_pay9 x0 x1 W seg) (k0_pay10 x0 x1 W seg) (k0_pay11 x0 x1 W seg) segt (ix3 0 r j)
      = FoxSpec.seg (fun j => FoxSpec.proj X g w b (T r) (φ j)) gs j * Ideal.ofBits .f32 0x3E38AA3B#32 := by
  rw [q_eq, ← nrmproj_at h0 h1 hW hs ht hg r j]
  generalize nrm (k0_pay18 (F := Ideal) (k0_pay6 x0 x1) W) seg segt gn = N
  pointwise []

include h0 h1 hW hs ht hg in
theorem outk_at (r : Fin 512) (j : Fin 1024) :
    k0_pay16 (F := Ideal) (k0_pay13 gn) (k0_pay14 (k0_pay6 x0 x1) W seg segt) (ix3 0 r j) = FoxSpec.seg (fun j => FoxSpec.proj X g w b (T r) (φ j)) gs j := by
  unfold k0_pay16
  rw [k_eq, ← nrmproj_at h0 h1 hW hs ht hg r j]
  generalize nrm (k0_pay18 (F := Ideal) (k0_pay6 x0 x1) W) seg segt gn = N
  pointwise []

include h0 h1 hW hs ht hg in
theorem outkb_at (r : Fin 512) (j : Fin 1024) :
    k0_pay17 (F := Ideal) (k0_pay13 gn) (k0_pay14 (k0_pay6 x0 x1) W seg segt) (ix3 0 r j) = FoxSpec.seg (fun j => FoxSpec.proj X g w b (T r) (φ j)) gs j := by
  unfold k0_pay17
  rw [k_eq, ← nrmproj_at h0 h1 hW hs ht hg r j]
  generalize nrm (k0_pay18 (F := Ideal) (k0_pay6 x0 x1) W) seg segt gn = N
  pointwise []

include h0 h1 hW in
theorem outv_at (r : Fin 512) (j : Fin 1024) :
    k0_pay19 (F := Ideal) (k0_pay6 x0 x1) W (ix3 0 r j) = FoxSpec.proj X g w b (T r) (φ j) := by
  rw [← proj_at h0 h1 hW r j]
  unfold k0_pay19
  generalize k0_pay18 (F := Ideal) (k0_pay6 x0 x1) W = N
  pointwise []

include h0 h1 hW in
theorem outvb_at (r : Fin 512) (j : Fin 1024) :
    k0_pay20 (F := Ideal) (k0_pay6 x0 x1) W (ix3 0 r j) = FoxSpec.proj X g w b (T r) (φ j) := by
  rw [← proj_at h0 h1 hW r j]
  unfold k0_pay20
  generalize k0_pay18 (F := Ideal) (k0_pay6 x0 x1) W = N
  pointwise []

include h0 h1 hwf hbf in
theorem outf_at (r : Fin 512) (l : Fin 128) :
    k0_pay1 (F := Ideal) (k0_pay21 (k0_pay6 x0 x1) wf bfv) (ix3 0 r l) = FoxSpec.f X g w bf b (T r) l := by
  have e := rows_at h0 h1
  generalize k0_pay6 (F := Ideal) x0 x1 = R at e ⊢
  pointwise [k0_pay1, k0_pay21]
  simp only [e, hwf, hbf]
  unfold FoxSpec.f FoxSpec.proj FoxSpec.logsig
  by_cases h : (l : ℕ) < 16
  · simp only [dif_pos h, zero_sub]
    rfl
  · simp only [dif_neg h, mul_zero, Finset.sum_const_zero, add_zero, zero_sub]
    rfl
end tile

end Cert.FoxIdeal.Value
-- ==== Proof.FoxHost.lean ====
module

public import proofs.«01_k».proof.Defs
public import proofs.«01_k».proof.Proof.Gen.FoxIdeal.Value
public import proofs.«01_k».proof.Proof.FoxSpec
public import proofs.«01_k».proof.Proof.DqkvHost
public import Idealize.ShloMosaic.Lib.Pointwise
public import Idealize.ShloMosaic.Lib.Pipeline.ValueKit
public import Idealize.ShloMosaic.Lib.Pipeline.ReadBack

@[expose] public section

/-! What the host hands the launch. -/

set_option maxRecDepth 16384

noncomputable section

namespace Cert.FoxIdeal.Value

open Cert.DqkvIdeal.Value Cert.FoxIdeal Cert.FoxIdeal.Gen Idealize.ShloMosaic Idealize.ShloMosaic.TcCoe Idealize.SL.Sem Idealize.ShloMosaic.StableHlo

variable (m : (ℓ : Loc nD τ sig) → Buf (Elt Ideal) ℓ)

/-- The forget gates' weights, in the first sixteen of 128 lanes. -/
def wfF (w : FVec Ideal S1024x3088 .f32) : FVec Ideal S1024x128 .bf16 :=
  truncf .bf16 (pad S1024x128 ![0, 0] ![0, 112] ![0, 0] (extractStridedSlice S1024x16 ![0, 3072] w slices_S1024x3088_S1024x16_0_3072 : FVec Ideal S1024x16 .f32)
    (sitofp .f32 (constantI S_ 32 0#32) : FVec Ideal S_ .f32) pads_S1024x16_S1024x128_000_01120 h_S_ : FVec Ideal S1024x128 .f32) bitsLt_bf16_f32

/-- The forget gates' biases, in the first sixteen of 128 lanes. -/
def bfF (b : FVec Ideal S16 .f32) : FVec Ideal S1x128 .f32 :=
  shapeCast S1x128 (pad S128 ![0] ![112] ![0] b (sitofp .f32 (constantI S_ 32 0#32) : FVec Ideal S_ .f32) pads_S16_S128_01120 h_S_ : FVec Ideal S128 .f32) shapeCasts_S128_S1x128

/-- The first three thirds of the weights. -/
def wF (w : FVec Ideal S1024x3088 .f32) : FVec Ideal S1024x3072 .bf16 :=
  truncf .bf16 (extractStridedSlice S1024x3072 ![0, 0] w slices_S1024x3088_S1024x3072_0_0) bitsLt_bf16_f32

theorem V8 (c : Dev nD) : @Eq (Vec Ideal S1024x128 .bf16) (V m c main_v8) (segF) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V11 (c : Dev nD) : @Eq (Vec Ideal S256x1024 .bf16) (V m c main_v11) (segtF) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V14 (c : Dev nD) : @Eq (Vec Ideal S1024x128 .bf16) (V m c main_v14) (wfF (m ((c.tc : Thread nD τ).loc main_arg2))) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V16 (c : Dev nD) : @Eq (Vec Ideal S1x128 .f32) (V m c main_v16) (bfF (m ((c.tc : Thread nD τ).loc main_arg3))) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V17 (c : Dev nD) : @Eq (Vec Ideal S1x1024 .f32) (V m c main_v17) (shapeCast S1x1024 ((m ((c.tc : Thread nD τ).loc main_arg1)) : Vec Ideal S1024 .f32) shapeCasts_S1024_S1x1024) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V19 (c : Dev nD) : @Eq (Vec Ideal S1024x3072 .bf16) (V m c main_v19) (wF (m ((c.tc : Thread nD τ).loc main_arg2))) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V23 (c : Dev nD) : @Eq (Vec Ideal S1x1024 .f32) (V m c main_v23) (tileF (m ((c.tc : Thread nD τ).loc main_arg4))) := by
  unfold V
  simp only [hostOps0, hostOps0_1, hostOps0_2, hostOps0_3, hostOps0_4, hostOps0_5, hostOps0_6, List.flatten_cons,
    List.flatten_nil, List.append_nil, List.cons_append, List.nil_append]
  after_results
  rfl

theorem V27 (c : Dev nD) : @Eq (Vec Ideal S1x1024 .f32) (V m c main_v27) (tileF (m ((c.tc : Thread nD τ).loc main_arg5))) := by
  unfold V
  simp only [hostOps0, hostOps0_1, hostOps0_2, hostOps0_3, hostOps0_4, hostOps0_5, hostOps0_6, List.flatten_cons,
    List.flatten_nil, List.append_nil, List.cons_append, List.nil_append]
  after_results
  rfl

theorem zero_word : FloatOps.sitofp (F := Ideal) .f32 (0#32 : BitVec 32) = 0 := by
  show ((((0#32 : BitVec 32).toInt : ℤ) : ℝ) : EReal) = 0
  simp

theorem wfF_at (w : FVec Ideal S1024x3088 .f32) (d : Fin 1024) (l : Fin 128) :
    wfF w (ix2 d l) = if h : (l : ℕ) < 16 then w (ix2 d ⟨3072 + (l : ℕ), FoxSpec.gate_lt h⟩) else 0 := by
  pointwise [wfF]
  first | done | exact dite_congr rfl (fun _ => rfl) fun _ => zero_word

theorem bfF_at (b : FVec Ideal S16 .f32) (l : Fin 128) :
    bfF b (ix2 0 l) = if h : (l : ℕ) < 16 then b (ix1 ⟨l, h⟩) else 0 := by
  pointwise [bfF]
  first | done | exact dite_congr rfl (fun _ => rfl) fun _ => zero_word

theorem wF_at (w : FVec Ideal S1024x3088 .f32) (d : Fin 1024) (j : Fin 3072) : wF w (ix2 d j) = w (ix2 d ⟨j, by omega⟩) := by
  pointwise [wF]

end Cert.FoxIdeal.Value
-- ==== Proof.FoxRun.lean ====
module

public import proofs.«01_k».proof.Defs
public import proofs.«01_k».proof.Proof.Gen.FoxIdeal.Value
public import Idealize.ShloMosaic.Lib.Pointwise
public import Idealize.ShloMosaic.Lib.Pipeline.ValueKit
public import Idealize.ShloMosaic.Lib.Pipeline.ReadBack

@[expose] public section

/-! What the body leaves in each block it writes, at a sequence's first tile and at a later one. -/

set_option maxRecDepth 16384

noncomputable section

namespace Cert.FoxIdeal.Value

open Cert.FoxIdeal Cert.FoxIdeal.Gen Idealize.ShloMosaic Idealize.ShloMosaic.TcCoe Idealize.SL.Sem Idealize.ShloMosaic.StableHlo

variable (m : (ℓ : Loc nD τ sig) → Buf (Elt Ideal) ℓ)

theorem out9_A (c : Dev nD) (t : Fin cfg0.N) (h0 : t.val % 4 = 0) :
    (outsAt0 m c t.val t.isLt).1 = k0_pay12 (k0_pay7 (iblk m c 0 t) (iblk m c 1 t) (View.ld (iblk m c 2 t) (Rect.unit (s := S1024x3072) ![0, 0] S1024x1024.size (by decide)))) (k0_pay8 (iblk m c 7 t)) (k0_pay9 (iblk m c 0 t) (iblk m c 1 t) (View.ld (iblk m c 2 t) (Rect.unit (s := S1024x3072) ![0, 0] S1024x1024.size (by decide))) (iblk m c 5 t)) (k0_pay10 (iblk m c 0 t) (iblk m c 1 t) (View.ld (iblk m c 2 t) (Rect.unit (s := S1024x3072) ![0, 0] S1024x1024.size (by decide))) (iblk m c 5 t)) (k0_pay11 (iblk m c 0 t) (iblk m c 1 t) (View.ld (iblk m c 2 t) (Rect.unit (s := S1024x3072) ![0, 0] S1024x1024.size (by decide))) (iblk m c 5 t)) (iblk m c 6 t) := by
  rw [outsAt0_A m c t h0]
  dsimp only
  frame_open
  frame_out
  rfl

theorem out10_A (c : Dev nD) (t : Fin cfg0.N) (h0 : t.val % 4 = 0) :
    (outsAt0 m c t.val t.isLt).2.1 = k0_pay16 (k0_pay13 (iblk m c 8 t)) (k0_pay14 (k0_pay6 (iblk m c 0 t) (iblk m c 1 t)) (View.ld (iblk m c 2 t) (Rect.unit (s := S1024x3072) ![0, 1024] S1024x1024.size (by decide))) (iblk m c 5 t) (iblk m c 6 t)) := by
  rw [outsAt0_A m c t h0]
  dsimp only
  frame_open
  frame_out
  rfl

theorem out11_A (c : Dev nD) (t : Fin cfg0.N) (h0 : t.val % 4 = 0) :
    (outsAt0 m c t.val t.isLt).2.2.1 = k0_pay17 (k0_pay13 (iblk m c 8 t)) (k0_pay14 (k0_pay6 (iblk m c 0 t) (iblk m c 1 t)) (View.ld (iblk m c 2 t) (Rect.unit (s := S1024x3072) ![0, 1024] S1024x1024.size (by decide))) (iblk m c 5 t) (iblk m c 6 t)) := by
  rw [outsAt0_A m c t h0]
  dsimp only
  frame_open
  frame_out
  rfl

theorem out12_A (c : Dev nD) (t : Fin cfg0.N) (h0 : t.val % 4 = 0) :
    (outsAt0 m c t.val t.isLt).2.2.2.1 = k0_pay19 (k0_pay6 (iblk m c 0 t) (iblk m c 1 t)) (View.ld (iblk m c 2 t) (Rect.unit (s := S1024x3072) ![0, 2048] S1024x1024.size (by decide))) := by
  rw [outsAt0_A m c t h0]
  dsimp only
  frame_open
  frame_out
  rfl

theorem out13_A (c : Dev nD) (t : Fin cfg0.N) (h0 : t.val % 4 = 0) :
    (outsAt0 m c t.val t.isLt).2.2.2.2.1 = k0_pay20 (k0_pay6 (iblk m c 0 t) (iblk m c 1 t)) (View.ld (iblk m c 2 t) (Rect.unit (s := S1024x3072) ![0, 2048] S1024x1024.size (by decide))) := by
  rw [outsAt0_A m c t h0]
  dsimp only
  frame_open
  frame_out
  rfl

theorem out14_A (c : Dev nD) (t : Fin cfg0.N) (h0 : t.val % 4 = 0) :
    (outsAt0 m c t.val t.isLt).2.2.2.2.2.1 = k0_pay1 (k0_pay21 (k0_pay6 (iblk m c 0 t) (iblk m c 1 t)) (iblk m c 3 t) (iblk m c 4 t)) := by
  rw [outsAt0_A m c t h0]
  dsimp only
  frame_open
  frame_out

theorem out9_B (c : Dev nD) (t : Fin cfg0.N) (h0 : ¬t.val % 4 = 0) :
    (outsAt0 m c t.val t.isLt).1 = k0_pay12 (k0_pay7 (iblk m c 0 t) (iblk m c 1 t) (View.ld (iblk m c 2 t) (Rect.unit (s := S1024x3072) ![0, 0] S1024x1024.size (by decide)))) (k0_pay8 (iblk m c 7 t)) (k0_pay9 (iblk m c 0 t) (iblk m c 1 t) (View.ld (iblk m c 2 t) (Rect.unit (s := S1024x3072) ![0, 0] S1024x1024.size (by decide))) (iblk m c 5 t)) (k0_pay10 (iblk m c 0 t) (iblk m c 1 t) (View.ld (iblk m c 2 t) (Rect.unit (s := S1024x3072) ![0, 0] S1024x1024.size (by decide))) (iblk m c 5 t)) (k0_pay11 (iblk m c 0 t) (iblk m c 1 t) (View.ld (iblk m c 2 t) (Rect.unit (s := S1024x3072) ![0, 0] S1024x1024.size (by decide))) (iblk m c 5 t)) (iblk m c 6 t) := by
  rw [outsAt0_B m c t h0]
  dsimp only
  frame_open
  frame_out
  rfl

theorem out10_B (c : Dev nD) (t : Fin cfg0.N) (h0 : ¬t.val % 4 = 0) :
    (outsAt0 m c t.val t.isLt).2.1 = k0_pay16 (k0_pay13 (iblk m c 8 t)) (k0_pay14 (k0_pay6 (iblk m c 0 t) (iblk m c 1 t)) (View.ld (iblk m c 2 t) (Rect.unit (s := S1024x3072) ![0, 1024] S1024x1024.size (by decide))) (iblk m c 5 t) (iblk m c 6 t)) := by
  rw [outsAt0_B m c t h0]
  dsimp only
  frame_open
  frame_out
  rfl

theorem out11_B (c : Dev nD) (t : Fin cfg0.N) (h0 : ¬t.val % 4 = 0) :
    (outsAt0 m c t.val t.isLt).2.2.1 = k0_pay17 (k0_pay13 (iblk m c 8 t)) (k0_pay14 (k0_pay6 (iblk m c 0 t) (iblk m c 1 t)) (View.ld (iblk m c 2 t) (Rect.unit (s := S1024x3072) ![0, 1024] S1024x1024.size (by decide))) (iblk m c 5 t) (iblk m c 6 t)) := by
  rw [outsAt0_B m c t h0]
  dsimp only
  frame_open
  frame_out
  rfl

theorem out12_B (c : Dev nD) (t : Fin cfg0.N) (h0 : ¬t.val % 4 = 0) :
    (outsAt0 m c t.val t.isLt).2.2.2.1 = k0_pay19 (k0_pay6 (iblk m c 0 t) (iblk m c 1 t)) (View.ld (iblk m c 2 t) (Rect.unit (s := S1024x3072) ![0, 2048] S1024x1024.size (by decide))) := by
  rw [outsAt0_B m c t h0]
  dsimp only
  frame_open
  frame_out
  rfl

theorem out13_B (c : Dev nD) (t : Fin cfg0.N) (h0 : ¬t.val % 4 = 0) :
    (outsAt0 m c t.val t.isLt).2.2.2.2.1 = k0_pay20 (k0_pay6 (iblk m c 0 t) (iblk m c 1 t)) (View.ld (iblk m c 2 t) (Rect.unit (s := S1024x3072) ![0, 2048] S1024x1024.size (by decide))) := by
  rw [outsAt0_B m c t h0]
  dsimp only
  frame_open
  frame_out
  rfl

theorem out14_B (c : Dev nD) (t : Fin cfg0.N) (h0 : ¬t.val % 4 = 0) :
    (outsAt0 m c t.val t.isLt).2.2.2.2.2.1 = k0_pay1 (k0_pay21 (k0_pay6 (iblk m c 0 t) (iblk m c 1 t)) (iblk m c 3 t) (iblk m c 4 t)) := by
  rw [outsAt0_B m c t h0]
  dsimp only
  frame_open
  frame_out

end Cert.FoxIdeal.Value
-- ==== Proof.FoxK.lean ====
module

public import proofs.«01_k».proof.Defs
public import proofs.«01_k».proof.Proof.Gen.FoxIdeal.Value
public import proofs.«01_k».proof.Proof.FoxTile
public import proofs.«01_k».proof.Proof.FoxHost
public import proofs.«01_k».proof.Proof.FoxRun
public import Idealize.ShloMosaic.Lib.Pointwise
public import Idealize.ShloMosaic.Lib.Pipeline.ValueKit
public import Idealize.ShloMosaic.Lib.Pipeline.ReadBack

@[expose] public section

/-! The results, entry by entry. -/

set_option maxRecDepth 16384

noncomputable section

namespace Cert.FoxIdeal.Value

open Cert.DqkvIdeal.Value Cert.FoxIdeal Cert.FoxIdeal.Gen Idealize.ShloMosaic Idealize.ShloMosaic.TcCoe Idealize.SL.Sem Idealize.ShloMosaic.StableHlo

variable (m : (ℓ : Loc nD τ sig) → Buf (Elt Ideal) ℓ)

theorem idx : ∀ t : Fin cfg0.N, win0_0.index t = ![t.val / 4, t.val % 4, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val / 4, t.val % 4, 0] ∧ win0_10.index t = ![t.val / 4, t.val % 4, 0] ∧ win0_11.index t = ![t.val / 4, t.val % 4, 0] ∧ win0_12.index t = ![t.val / 4, t.val % 4, 0] ∧ win0_13.index t = ![t.val / 4, t.val % 4, 0] ∧ win0_14.index t = ![t.val / 4, t.val % 4, 0] :=
  (by decide +kernel : ∀ t : Fin grid0.N, _)

section windows
variable (c : Dev nD) (t : Fin cfg0.N)

theorem lt32 : (t : ℕ) < 32 := lt_of_lt_of_eq t.isLt N_0

theorem row_lt (r : Fin 512) : (t : ℕ) % 4 * 512 + r < 2048 := by omega

theorem img_lt : (t : ℕ) / 4 < 8 := by have := lt32 t; omega

theorem b0 (r : Fin 512) (d : Fin 1024) : iblk m c 0 t (ix3 0 r d) = (fun b t d => m ((c.tc : Thread nD τ).loc main_arg0) (ix3 b t d)) ⟨t / 4, img_lt t⟩ ⟨t % 4 * 512 + r, row_lt t r⟩ d := by
  blk_point [iblk, V, idx t]

theorem b1 (d : Fin 1024) : (iblk m c 1 t : Vec Ideal S1x1024 .f32) (ix2 0 d) = (fun d => m ((c.tc : Thread nD τ).loc main_arg1) (ix1 d)) d := by
  have h : (iblk m c 1 t : Vec Ideal S1x1024 .f32) (ix2 0 d) = (V m c main_v17 : Vec Ideal S1x1024 .f32) (ix2 0 d) := by
    show (V m c main_v17 : Vec Ideal S1x1024 .f32) _ = _
    exact congrArg (V m c main_v17 : Vec Ideal S1x1024 .f32) (by blk_ext [idx t])
  rw [h, V17]
  pointwise []

theorem b2 (d : Fin 1024) (j : Fin 3072) : (iblk m c 2 t : Vec Ideal S1024x3072 .bf16) (ix2 d j) = (fun d j => m ((c.tc : Thread nD τ).loc main_arg2) (ix2 d j)) d ⟨j, by omega⟩ := by
  have h : (iblk m c 2 t : Vec Ideal S1024x3072 .bf16) (ix2 d j) = (V m c main_v19 : Vec Ideal S1024x3072 .bf16) (ix2 d j) := by
    show (V m c main_v19 : Vec Ideal S1024x3072 .bf16) _ = _
    exact congrArg (V m c main_v19 : Vec Ideal S1024x3072 .bf16) (by blk_ext [idx t])
  rw [h, V19]
  exact wF_at _ d j

theorem b3 (d : Fin 1024) (l : Fin 128) : (iblk m c 3 t : Vec Ideal S1024x128 .bf16) (ix2 d l) = if h : (l : ℕ) < 16 then (fun d j => m ((c.tc : Thread nD τ).loc main_arg2) (ix2 d j)) d (⟨3072 + (l : ℕ), FoxSpec.gate_lt h⟩ : Fin 3088) else (0 : EReal) := by
  have h : (iblk m c 3 t : Vec Ideal S1024x128 .bf16) (ix2 d l) = (V m c main_v14 : Vec Ideal S1024x128 .bf16) (ix2 d l) := by
    show (V m c main_v14 : Vec Ideal S1024x128 .bf16) _ = _
    exact congrArg (V m c main_v14 : Vec Ideal S1024x128 .bf16) (by blk_ext [idx t])
  rw [h, V14]
  exact wfF_at _ d l

theorem b4 (l : Fin 128) : (iblk m c 4 t : Vec Ideal S1x128 .f32) (ix2 0 l) = if h : (l : ℕ) < 16 then (fun l => m ((c.tc : Thread nD τ).loc main_arg3) (ix1 l)) (⟨l, h⟩ : Fin 16) else (0 : EReal) := by
  have h : (iblk m c 4 t : Vec Ideal S1x128 .f32) (ix2 0 l) = (V m c main_v16 : Vec Ideal S1x128 .f32) (ix2 0 l) := by
    show (V m c main_v16 : Vec Ideal S1x128 .f32) _ = _
    exact congrArg (V m c main_v16 : Vec Ideal S1x128 .f32) (by blk_ext [idx t])
  rw [h, V16]
  exact bfF_at _ l

theorem b5 (d : Fin 1024) (s : Fin 128) : (iblk m c 5 t : Vec Ideal S1024x128 .bf16) (ix2 d s) = (if (d : ℕ) / 64 = s then (1 : EReal) else 0) := by
  have h : (iblk m c 5 t : Vec Ideal S1024x128 .bf16) (ix2 d s) = (V m c main_v8 : Vec Ideal S1024x128 .bf16) (ix2 d s) := by
    show (V m c main_v8 : Vec Ideal S1024x128 .bf16) _ = _
    exact congrArg (V m c main_v8 : Vec Ideal S1024x128 .bf16) (by blk_ext [idx t])
  rw [h, V8]
  exact segF_at d s

theorem b6 (i : Fin 256) (d : Fin 1024) : (iblk m c 6 t : Vec Ideal S256x1024 .bf16) (ix2 i d) = (if (i : ℕ) % 128 = (d : ℕ) / 64 then (1 : EReal) else 0) := by
  have h : (iblk m c 6 t : Vec Ideal S256x1024 .bf16) (ix2 i d) = (V m c main_v11 : Vec Ideal S256x1024 .bf16) (ix2 i d) := by
    show (V m c main_v11 : Vec Ideal S256x1024 .bf16) _ = _
    exact congrArg (V m c main_v11 : Vec Ideal S256x1024 .bf16) (by blk_ext [idx t])
  rw [h, V11]
  exact segtF_at i d

theorem b7 (j : Fin 1024) : (iblk m c 7 t : Vec Ideal S1x1024 .f32) (ix2 0 j) = (fun l => m ((c.tc : Thread nD τ).loc main_arg4) (ix1 l)) (⟨(j : ℕ) % 64, Nat.mod_lt _ (by decide)⟩ : Fin 64) := by
  have h : (iblk m c 7 t : Vec Ideal S1x1024 .f32) (ix2 0 j) = (V m c main_v23 : Vec Ideal S1x1024 .f32) (ix2 0 j) := by
    show (V m c main_v23 : Vec Ideal S1x1024 .f32) _ = _
    exact congrArg (V m c main_v23 : Vec Ideal S1x1024 .f32) (by blk_ext [idx t])
  rw [h, V23]
  exact tileF_at _ j

theorem b8 (j : Fin 1024) : (iblk m c 8 t : Vec Ideal S1x1024 .f32) (ix2 0 j) = (fun l => m ((c.tc : Thread nD τ).loc main_arg5) (ix1 l)) (⟨(j : ℕ) % 64, Nat.mod_lt _ (by decide)⟩ : Fin 64) := by
  have h : (iblk m c 8 t : Vec Ideal S1x1024 .f32) (ix2 0 j) = (V m c main_v27 : Vec Ideal S1x1024 .f32) (ix2 0 j) := by
    show (V m c main_v27 : Vec Ideal S1x1024 .f32) _ = _
    exact congrArg (V m c main_v27 : Vec Ideal S1x1024 .f32) (by blk_ext [idx t])
  rw [h, V27]
  exact tileF_at _ j

theorem w0 (d j : Fin 1024) : (View.ld (iblk m c 2 t) (Rect.unit (s := S1024x3072) ![0, 0] S1024x1024.size (by decide)) : Vec Ideal S1024x1024 .bf16) (ix2 d j)
    = (fun d j => m ((c.tc : Thread nD τ).loc main_arg2) (ix2 d j)) d ⟨(j : ℕ), by omega⟩ := by
  refine Eq.trans ?_ (b2 m c t d ⟨(j : ℕ), by omega⟩)
  refine congrArg (iblk m c 2 t : Vec Ideal S1024x3072 .bf16) (funext fun a => Fin.ext ?_)
  fin_cases a
  · show 0 + 1 * (d : ℕ) = d
    omega
  · show 0 + 1 * (j : ℕ) = j
    omega

theorem w1 (d j : Fin 1024) : (View.ld (iblk m c 2 t) (Rect.unit (s := S1024x3072) ![0, 1024] S1024x1024.size (by decide)) : Vec Ideal S1024x1024 .bf16) (ix2 d j)
    = (fun d j => m ((c.tc : Thread nD τ).loc main_arg2) (ix2 d j)) d ⟨1024 + (j : ℕ), by omega⟩ := by
  refine Eq.trans ?_ (b2 m c t d ⟨1024 + (j : ℕ), by omega⟩)
  refine congrArg (iblk m c 2 t : Vec Ideal S1024x3072 .bf16) (funext fun a => Fin.ext ?_)
  fin_cases a
  · show 0 + 1 * (d : ℕ) = d
    omega
  · show 1024 + 1 * (j : ℕ) = 1024 + j
    omega

theorem w2 (d j : Fin 1024) : (View.ld (iblk m c 2 t) (Rect.unit (s := S1024x3072) ![0, 2048] S1024x1024.size (by decide)) : Vec Ideal S1024x1024 .bf16) (ix2 d j)
    = (fun d j => m ((c.tc : Thread nD τ).loc main_arg2) (ix2 d j)) d ⟨2048 + (j : ℕ), by omega⟩ := by
  refine Eq.trans ?_ (b2 m c t d ⟨2048 + (j : ℕ), by omega⟩)
  refine congrArg (iblk m c 2 t : Vec Ideal S1024x3072 .bf16) (funext fun a => Fin.ext ?_)
  fin_cases a
  · show 0 + 1 * (d : ℕ) = d
    omega
  · show 2048 + 1 * (j : ℕ) = 2048 + j
    omega

end windows

theorem val9 (c : Dev nD) : (dats m 0 c).arrAt 9 cfg0.N = fun i : S8x2048x1024.Idx =>
    FoxSpec.q (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l)) (i 0) (i 1) (i 2) := by
  refine (dats m 0 c).arrAt_eq_of_covers 9 _ (by decide +kernel) fun t hf y => ?_
  blk_simp
  rw [after0_9]
  rw [show y = ix3 0 (y 1) (y 2) from by blk_ext]
  have e := outq_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (gs := (fun l => m ((c.tc : Thread nD τ).loc main_arg4) (ix1 l)))
    (b := ⟨t / 4, img_lt t⟩) (T := fun r => ⟨t % 4 * 512 + r, row_lt t r⟩) (φ := fun j => ⟨(j : ℕ), by omega⟩) (b0 m c t) (b1 m c t) (w0 m c t) (b5 m c t) (b6 m c t) (b7 m c t) (y 1) (y 2)
  have e' : _ = FoxSpec.q (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l)) ⟨t / 4, img_lt t⟩ ⟨t % 4 * 512 + (y 1 : ℕ), row_lt t (y 1)⟩ (y 2) := e
  by_cases h0 : (t : ℕ) % 4 = 0
  · rw [out9_A m c t h0]
    refine e'.trans ?_
    refine congr (congr (congrArg (FoxSpec.q (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l))) ?_) ?_) ?_
    all_goals
      refine Fin.ext ?_
      blk_simp [idx t]
    try rfl
  · rw [out9_B m c t h0]
    refine e'.trans ?_
    refine congr (congr (congrArg (FoxSpec.q (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg4) (ix1 l))) ?_) ?_) ?_
    all_goals
      refine Fin.ext ?_
      blk_simp [idx t]
    try rfl

theorem val10 (c : Dev nD) : (dats m 0 c).arrAt 10 cfg0.N = fun i : S8x2048x1024.Idx =>
    FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l)) (i 0) (i 1) (i 2) := by
  refine (dats m 0 c).arrAt_eq_of_covers 10 _ (by decide +kernel) fun t hf y => ?_
  blk_simp
  rw [after0_10]
  rw [show y = ix3 0 (y 1) (y 2) from by blk_ext]
  have e := outk_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (gs := (fun l => m ((c.tc : Thread nD τ).loc main_arg5) (ix1 l)))
    (b := ⟨t / 4, img_lt t⟩) (T := fun r => ⟨t % 4 * 512 + r, row_lt t r⟩) (φ := fun j => ⟨1024 + (j : ℕ), by omega⟩) (b0 m c t) (b1 m c t) (w1 m c t) (b5 m c t) (b6 m c t) (b8 m c t) (y 1) (y 2)
  have e' : _ = FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l)) ⟨t / 4, img_lt t⟩ ⟨t % 4 * 512 + (y 1 : ℕ), row_lt t (y 1)⟩ (y 2) := e
  by_cases h0 : (t : ℕ) % 4 = 0
  · rw [out10_A m c t h0]
    refine e'.trans ?_
    refine congr (congr (congrArg (FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l))) ?_) ?_) ?_
    all_goals
      refine Fin.ext ?_
      blk_simp [idx t]
    try rfl
  · rw [out10_B m c t h0]
    refine e'.trans ?_
    refine congr (congr (congrArg (FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l))) ?_) ?_) ?_
    all_goals
      refine Fin.ext ?_
      blk_simp [idx t]
    try rfl

theorem val11 (c : Dev nD) : (dats m 0 c).arrAt 11 cfg0.N = fun i : S8x2048x1024.Idx =>
    FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l)) (i 0) (i 1) (i 2) := by
  refine (dats m 0 c).arrAt_eq_of_covers 11 _ (by decide +kernel) fun t hf y => ?_
  blk_simp
  rw [after0_11]
  rw [show y = ix3 0 (y 1) (y 2) from by blk_ext]
  have e := outkb_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (gs := (fun l => m ((c.tc : Thread nD τ).loc main_arg5) (ix1 l)))
    (b := ⟨t / 4, img_lt t⟩) (T := fun r => ⟨t % 4 * 512 + r, row_lt t r⟩) (φ := fun j => ⟨1024 + (j : ℕ), by omega⟩) (b0 m c t) (b1 m c t) (w1 m c t) (b5 m c t) (b6 m c t) (b8 m c t) (y 1) (y 2)
  have e' : _ = FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l)) ⟨t / 4, img_lt t⟩ ⟨t % 4 * 512 + (y 1 : ℕ), row_lt t (y 1)⟩ (y 2) := e
  by_cases h0 : (t : ℕ) % 4 = 0
  · rw [out11_A m c t h0]
    refine e'.trans ?_
    refine congr (congr (congrArg (FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l))) ?_) ?_) ?_
    all_goals
      refine Fin.ext ?_
      blk_simp [idx t]
    try rfl
  · rw [out11_B m c t h0]
    refine e'.trans ?_
    refine congr (congr (congrArg (FoxSpec.k (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg5) (ix1 l))) ?_) ?_) ?_
    all_goals
      refine Fin.ext ?_
      blk_simp [idx t]
    try rfl

theorem val12 (c : Dev nD) : (dats m 0 c).arrAt 12 cfg0.N = fun i : S8x2048x1024.Idx =>
    FoxSpec.v (fun b t d => m ((c.tc : Thread nD τ).loc main_arg0) (ix3 b t d)) (fun d => m ((c.tc : Thread nD τ).loc main_arg1) (ix1 d)) (fun d j => m ((c.tc : Thread nD τ).loc main_arg2) (ix2 d j))  (i 0) (i 1) (i 2) := by
  refine (dats m 0 c).arrAt_eq_of_covers 12 _ (by decide +kernel) fun t hf y => ?_
  blk_simp
  rw [after0_12]
  rw [show y = ix3 0 (y 1) (y 2) from by blk_ext]
  have e := outv_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j)))
    (b := ⟨t / 4, img_lt t⟩) (T := fun r => ⟨t % 4 * 512 + r, row_lt t r⟩) (φ := fun j => ⟨2048 + (j : ℕ), by omega⟩) (b0 m c t) (b1 m c t) (w2 m c t) (y 1) (y 2)
  have e' : _ = FoxSpec.v (fun b t d => m ((c.tc : Thread nD τ).loc main_arg0) (ix3 b t d)) (fun d => m ((c.tc : Thread nD τ).loc main_arg1) (ix1 d)) (fun d j => m ((c.tc : Thread nD τ).loc main_arg2) (ix2 d j))  ⟨t / 4, img_lt t⟩ ⟨t % 4 * 512 + (y 1 : ℕ), row_lt t (y 1)⟩ (y 2) := e
  by_cases h0 : (t : ℕ) % 4 = 0
  · rw [out12_A m c t h0]
    refine e'.trans ?_
    refine congr (congr (congrArg (FoxSpec.v (fun b t d => m ((c.tc : Thread nD τ).loc main_arg0) (ix3 b t d)) (fun d => m ((c.tc : Thread nD τ).loc main_arg1) (ix1 d)) (fun d j => m ((c.tc : Thread nD τ).loc main_arg2) (ix2 d j)) ) ?_) ?_) ?_
    all_goals
      refine Fin.ext ?_
      blk_simp [idx t]
    try rfl
  · rw [out12_B m c t h0]
    refine e'.trans ?_
    refine congr (congr (congrArg (FoxSpec.v (fun b t d => m ((c.tc : Thread nD τ).loc main_arg0) (ix3 b t d)) (fun d => m ((c.tc : Thread nD τ).loc main_arg1) (ix1 d)) (fun d j => m ((c.tc : Thread nD τ).loc main_arg2) (ix2 d j)) ) ?_) ?_) ?_
    all_goals
      refine Fin.ext ?_
      blk_simp [idx t]
    try rfl

theorem val13 (c : Dev nD) : (dats m 0 c).arrAt 13 cfg0.N = fun i : S8x2048x1024.Idx =>
    FoxSpec.v (fun b t d => m ((c.tc : Thread nD τ).loc main_arg0) (ix3 b t d)) (fun d => m ((c.tc : Thread nD τ).loc main_arg1) (ix1 d)) (fun d j => m ((c.tc : Thread nD τ).loc main_arg2) (ix2 d j))  (i 0) (i 1) (i 2) := by
  refine (dats m 0 c).arrAt_eq_of_covers 13 _ (by decide +kernel) fun t hf y => ?_
  blk_simp
  rw [after0_13]
  rw [show y = ix3 0 (y 1) (y 2) from by blk_ext]
  have e := outvb_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j)))
    (b := ⟨t / 4, img_lt t⟩) (T := fun r => ⟨t % 4 * 512 + r, row_lt t r⟩) (φ := fun j => ⟨2048 + (j : ℕ), by omega⟩) (b0 m c t) (b1 m c t) (w2 m c t) (y 1) (y 2)
  have e' : _ = FoxSpec.v (fun b t d => m ((c.tc : Thread nD τ).loc main_arg0) (ix3 b t d)) (fun d => m ((c.tc : Thread nD τ).loc main_arg1) (ix1 d)) (fun d j => m ((c.tc : Thread nD τ).loc main_arg2) (ix2 d j))  ⟨t / 4, img_lt t⟩ ⟨t % 4 * 512 + (y 1 : ℕ), row_lt t (y 1)⟩ (y 2) := e
  by_cases h0 : (t : ℕ) % 4 = 0
  · rw [out13_A m c t h0]
    refine e'.trans ?_
    refine congr (congr (congrArg (FoxSpec.v (fun b t d => m ((c.tc : Thread nD τ).loc main_arg0) (ix3 b t d)) (fun d => m ((c.tc : Thread nD τ).loc main_arg1) (ix1 d)) (fun d j => m ((c.tc : Thread nD τ).loc main_arg2) (ix2 d j)) ) ?_) ?_) ?_
    all_goals
      refine Fin.ext ?_
      blk_simp [idx t]
    try rfl
  · rw [out13_B m c t h0]
    refine e'.trans ?_
    refine congr (congr (congrArg (FoxSpec.v (fun b t d => m ((c.tc : Thread nD τ).loc main_arg0) (ix3 b t d)) (fun d => m ((c.tc : Thread nD τ).loc main_arg1) (ix1 d)) (fun d j => m ((c.tc : Thread nD τ).loc main_arg2) (ix2 d j)) ) ?_) ?_) ?_
    all_goals
      refine Fin.ext ?_
      blk_simp [idx t]
    try rfl

theorem val14 (c : Dev nD) : (dats m 0 c).arrAt 14 cfg0.N = fun i : S8x2048x128.Idx =>
    FoxSpec.f (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg3) (ix1 l)) (i 0) (i 1) (i 2) := by
  refine (dats m 0 c).arrAt_eq_of_covers 14 _ (by decide +kernel) fun t hf y => ?_
  blk_simp
  rw [after0_14]
  rw [show y = ix3 0 (y 1) (y 2) from by blk_ext]
  have e := outf_at (X := (fun b t d => m ((c.tc : Thread nD τ).loc main_arg0) (ix3 b t d))) (g := (fun d => m ((c.tc : Thread nD τ).loc main_arg1) (ix1 d))) (w := (fun d j => m ((c.tc : Thread nD τ).loc main_arg2) (ix2 d j))) (bf := (fun l => m ((c.tc : Thread nD τ).loc main_arg3) (ix1 l)))
    (b := ⟨t / 4, img_lt t⟩) (T := fun r => ⟨t % 4 * 512 + r, row_lt t r⟩) (b0 m c t) (b1 m c t) (b3 m c t) (b4 m c t) (y 1) (y 2)
  have e' : _ = FoxSpec.f (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg3) (ix1 l)) ⟨t / 4, img_lt t⟩ ⟨t % 4 * 512 + (y 1 : ℕ), row_lt t (y 1)⟩ (y 2) := e
  by_cases h0 : (t : ℕ) % 4 = 0
  · rw [out14_A m c t h0]
    refine e'.trans ?_
    refine congr (congr (congrArg (FoxSpec.f (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg3) (ix1 l))) ?_) ?_) ?_
    all_goals
      refine Fin.ext ?_
      blk_simp [idx t]
    try rfl
  · rw [out14_B m c t h0]
    refine e'.trans ?_
    refine congr (congr (congrArg (FoxSpec.f (fun b t d => m ((c.tc : Thread nD τ).loc main_arg0) (ix3 b t d)) (fun d => m ((c.tc : Thread nD τ).loc main_arg1) (ix1 d)) (fun d j => m ((c.tc : Thread nD τ).loc main_arg2) (ix2 d j)) (fun l => m ((c.tc : Thread nD τ).loc main_arg3) (ix1 l))) ?_) ?_) ?_
    all_goals
      refine Fin.ext ?_
      blk_simp [idx t]
    try rfl

end Cert.FoxIdeal.Value
-- ==== Proof.FoxRefValue.lean ====
module

public import proofs.«01_k».proof.Defs
public import proofs.«01_k».proof.Proof.Gen.FoxRefIdeal.Run
public import proofs.«01_k».proof.Proof.FoxSpec
public import proofs.«01_k».proof.Proof.DqkvRefValue
public import Idealize.ShloMosaic.Lib.Pointwise
public import Idealize.ShloMosaic.Lib.Pipeline.ValueKit

@[expose] public section

/-! The reference's results, entry by entry. -/

set_option maxRecDepth 16384

noncomputable section

namespace Cert.FoxRefIdeal.Value

open Cert.DqkvRefIdeal.Value Cert.FoxRefIdeal Cert.FoxRefIdeal.Gen Idealize.ShloMosaic Idealize.ShloMosaic.TcCoe Idealize.SL.Sem Idealize.ShloMosaic.StableHlo

/-- The projection. -/
def rU (h : FVec Ideal S8x2048x1024 .f32) (w : FVec Ideal S1024x3088 .f32) : FVec Ideal S8x2048x3088 .f32 :=
  Host.dotGeneral dot_S8x2048x1024_S1024x3088_S8x2048x3088_2_0_01_1_n_n none h w

/-- The projection's first 1024 lanes, by segments of 64 lanes. -/
def rQ (u : FVec Ideal S8x2048x3088 .f32) : FVec Ideal S8x2048x16x64 .f32 :=
  shapeCast S8x2048x16x64 (extractStridedSlice S8x2048x1024 ![0, 0, 0] u slices_S8x2048x3088_S8x2048x1024_0_0_0) shapeCasts_S8x2048x1024_S8x2048x16x64

/-- Its second 1024 lanes. -/
def rK (u : FVec Ideal S8x2048x3088 .f32) : FVec Ideal S8x2048x16x64 .f32 :=
  shapeCast S8x2048x16x64 (extractStridedSlice S8x2048x1024 ![0, 0, 1024] u slices_S8x2048x3088_S8x2048x1024_0_0_1024) shapeCasts_S8x2048x1024_S8x2048x16x64

/-- Its third 1024 lanes. -/
def rV (u : FVec Ideal S8x2048x3088 .f32) : FVec Ideal S8x2048x1024 .f32 :=
  extractStridedSlice S8x2048x1024 ![0, 0, 2048] u slices_S8x2048x3088_S8x2048x1024_0_0_2048

/-- The segments back in one row. -/
def rT (n : FVec Ideal S8x2048x16x64 .f32) : FVec Ideal S8x2048x1024 .f32 := shapeCast S8x2048x1024 n shapeCasts_S8x2048x16x64_S8x2048x1024

/-- The gates' arguments, in the first sixteen of 128 lanes. -/
def rZ (u : FVec Ideal S8x2048x3088 .f32) (b : FVec Ideal S16 .f32) : FVec Ideal S8x2048x128 .f32 :=
  pad S8x2048x128 ![0, 0, 0] ![0, 0, 112] ![0, 0, 0] (addf (extractStridedSlice S8x2048x16 ![0, 0, 3072] u slices_S8x2048x3088_S8x2048x16_0_0_3072)
    (broadcastInDim S8x2048x16 ![0, 1, 2] bcast_S1x1x16_S8x2048x16_0_1_2 (broadcastInDim S1x1x16 ![2] bcast_S16_S1x1x16_2 b)) : FVec Ideal S8x2048x16 .f32)
    (sitofp .f32 (constantI S_ 32 0#32) : FVec Ideal S_ .f32) pads_S8x2048x16_S8x2048x128_000_000_01120 h_S_

/-- The logarithm of the logistic function, as the library takes it. -/
def rF (z : FVec Ideal S8x2048x128 .f32) : FVec Ideal S8x2048x128 .f32 :=
  let o : FVec Ideal S8x2048x128 .f32 := broadcastInDim S8x2048x128 ![] bcast_S_S8x2048x128 (constant S_ .f32 0x00000000#32)
  Host.negf (select (cmpf .une (subf (Host.negf z) o) (subf (Host.negf z) o)) (addf (Host.negf z) o)
    (addf (maximumf (Host.negf z) o) (Host.log1p (Host.exp (Host.negf (Host.absf (subf (Host.negf z) o)))))))

theorem res_f (m : (ℓ : Loc nD τ sig) → Buf (Elt Ideal) ℓ) (c : Dev nD) :
    res_main_v54 m c = rF (rZ (rU (rH (m ((c.tc : Thread nD τ).loc main_arg0)) (m ((c.tc : Thread nD τ).loc main_arg1))) (m ((c.tc : Thread nD τ).loc main_arg2))) (m ((c.tc : Thread nD τ).loc main_arg3))) := by
  unfold res_main_v54 rF rZ rU rH; rfl

theorem rU_at (h : FVec Ideal S8x2048x1024 .f32) (w : FVec Ideal S1024x3088 .f32) (b : Fin 8) (t : Fin 2048) (j : Fin 3088) :
    rU h w (ix3 b t j) = ∑ d : Fin 1024, h (ix3 b t d) * w (ix2 d j) := by
  pointwise [rU]

theorem rQ_at (u : FVec Ideal S8x2048x3088 .f32) (b : Fin 8) (t : Fin 2048) (s : Fin 16) (l : Fin 64) :
    rQ u (ix4 b t s l) = u (ix3 b t ⟨(s : ℕ) * 64 + l, by omega⟩) := by
  pointwise [rQ]

theorem rK_at (u : FVec Ideal S8x2048x3088 .f32) (b : Fin 8) (t : Fin 2048) (s : Fin 16) (l : Fin 64) :
    rK u (ix4 b t s l) = u (ix3 b t ⟨1024 + ((s : ℕ) * 64 + l), by omega⟩) := by
  pointwise [rK]

theorem rV_at (u : FVec Ideal S8x2048x3088 .f32) (b : Fin 8) (t : Fin 2048) (j : Fin 1024) :
    rV u (ix3 b t j) = u (ix3 b t ⟨2048 + j, by omega⟩) := by
  pointwise [rV]

theorem rT_at (n : FVec Ideal S8x2048x16x64 .f32) (b : Fin 8) (t : Fin 2048) (j : Fin 1024) :
    rT n (ix3 b t j) = n (ix4 b t ⟨(j : ℕ) / 64, by omega⟩ ⟨(j : ℕ) % 64, by omega⟩) := by
  pointwise [rT]

theorem zero_word : FloatOps.sitofp (F := Ideal) .f32 (0#32 : BitVec 32) = 0 := by
  show ((((0#32 : BitVec 32).toInt : ℤ) : ℝ) : EReal) = 0
  simp

theorem rZ_at (u : FVec Ideal S8x2048x3088 .f32) (bf : FVec Ideal S16 .f32) (b : Fin 8) (t : Fin 2048) (l : Fin 128) :
    rZ u bf (ix3 b t l) = if h : (l : ℕ) < 16 then u (ix3 b t ⟨3072 + (l : ℕ), FoxSpec.gate_lt h⟩) + bf (ix1 ⟨l, h⟩) else 0 := by
  pointwise [rZ]
  first | done | exact dite_congr rfl (fun _ => rfl) fun _ => zero_word

/-- The logarithm of one and more than nothing is not minus infinity. -/
theorem log1p_exp_ne_bot (x : EReal) : Ideal.log1p (Ideal.exp x) ≠ ⊥ := by
  have key : ∀ r : ℝ, 0 ≤ r → Ideal.log (((1 : ℝ) : EReal) + (r : EReal)) ≠ ⊥ := fun r hr => by
    rw [← EReal.coe_add]
    show (if 1 + r ≤ 0 then (⊥ : EReal) else ((Real.log (1 + r) : ℝ) : EReal)) ≠ ⊥
    rw [if_neg (by linarith)]
    exact EReal.coe_ne_bot _
  induction x using EReal.rec with
  | bot => exact key 0 le_rfl
  | top =>
    show Ideal.log (((1 : ℝ) : EReal) + ⊤) ≠ ⊥
    rw [EReal.coe_add_top]
    exact top_ne_bot
  | coe r => exact key (Real.exp r) (Real.exp_pos r).le

/-- The library's form is the plain one. -/
theorem logsig_eq (z : EReal) : -(max (-z) 0 + Ideal.log1p (Ideal.exp (-(max (-z) (- -z))))) = FoxSpec.logsig z := by
  rw [EReal.neg_add (.inl (ne_of_gt (lt_of_lt_of_le EReal.bot_lt_zero (le_max_right _ _)))) (.inr (log1p_exp_ne_bot _)), neg_neg, max_comm (-z) z]
  unfold FoxSpec.logsig
  congr 1
  rw [← EReal.min_neg_neg, neg_neg, neg_zero]

theorem rF_at (z : FVec Ideal S8x2048x128 .f32) (b : Fin 8) (t : Fin 2048) (l : Fin 128) : rF z (ix3 b t l) = FoxSpec.logsig (z (ix3 b t l)) := by
  rw [← logsig_eq]
  pointwise [rF]
  simp
  refine congrArg (fun y : EReal => max (-z (ix3 b t l)) 0 + Ideal.log1p (Ideal.exp (-y))) ?_
  exact congrArg (max (-z (ix3 b t l))) (neg_neg _)

theorem proj_at (x : FVec Ideal S8x2048x1024 .f32) (g : FVec Ideal S1024 .f32) (w : FVec Ideal S1024x3088 .f32) (b : Fin 8) (t : Fin 2048) (j : Fin 3088) : rU (rH x g) w (ix3 b t j) = FoxSpec.proj (fun b t d => x (ix3 b t d)) (fun d => g (ix1 d)) (fun d j => w (ix2 d j)) b t j := by
  rw [rU_at]; simp only [rH_at]; rfl

/-- Segments normalised, in one row. -/
theorem seg_at (y : FVec Ideal S8x2048x16x64 .f32) (g : FVec Ideal S64 .f32) (p : Fin 1024 → EReal) (b : Fin 8) (t : Fin 2048) (j : Fin 1024)
    (hp : ∀ (s : Fin 16) (l : Fin 64), y (ix4 b t s l) = p ⟨(s : ℕ) * 64 + l, by omega⟩) :
    rT (rN y g) (ix3 b t j) = FoxSpec.seg p (fun l => g (ix1 l)) j := by
  rw [rT_at, rN_at, FoxSpec.seg]
  exact congrArg (fun f => SguSpec.rms (Ideal.ofBits .f32 0x42800000#32) f (fun l => g (ix1 l)) _) (funext fun l => hp _ l)

theorem q_at (x : FVec Ideal S8x2048x1024 .f32) (g : FVec Ideal S1024 .f32) (w : FVec Ideal S1024x3088 .f32) (gq : FVec Ideal S64 .f32) (b : Fin 8) (t : Fin 2048) (j : Fin 1024) :
    rS (rT (rN (rQ (rU (rH x g) w)) gq)) (ix3 b t j) = FoxSpec.q (fun b t d => x (ix3 b t d)) (fun d => g (ix1 d)) (fun d j => w (ix2 d j)) (fun l => gq (ix1 l)) b t j := by
  rw [rS_at, FoxSpec.q]
  exact congrArg (· * _) (seg_at _ _ _ b t j fun s l => (rQ_at _ b t s l).trans (proj_at x g w b t _))

theorem k_at (x : FVec Ideal S8x2048x1024 .f32) (g : FVec Ideal S1024 .f32) (w : FVec Ideal S1024x3088 .f32) (gk : FVec Ideal S64 .f32) (b : Fin 8) (t : Fin 2048) (j : Fin 1024) :
    rT (rN (rK (rU (rH x g) w)) gk) (ix3 b t j) = FoxSpec.k (fun b t d => x (ix3 b t d)) (fun d => g (ix1 d)) (fun d j => w (ix2 d j)) (fun l => gk (ix1 l)) b t j := by
  rw [FoxSpec.k]
  exact seg_at _ _ _ b t j fun s l => (rK_at _ b t s l).trans (proj_at x g w b t _)

theorem v_at (x : FVec Ideal S8x2048x1024 .f32) (g : FVec Ideal S1024 .f32) (w : FVec Ideal S1024x3088 .f32) (b : Fin 8) (t : Fin 2048) (j : Fin 1024) :
    rV (rU (rH x g) w) (ix3 b t j) = FoxSpec.v (fun b t d => x (ix3 b t d)) (fun d => g (ix1 d)) (fun d j => w (ix2 d j)) b t j := by
  rw [rV_at, proj_at]; rfl

theorem f_at (m : (ℓ : Loc nD τ sig) → Buf (Elt Ideal) ℓ) (c : Dev nD) (b : Fin 8) (t : Fin 2048) (l : Fin 128) :
    res_main_v54 m c (ix3 b t l) = FoxSpec.f (fun b t d => (m ((c.tc : Thread nD τ).loc main_arg0)) (ix3 b t d)) (fun d => (m ((c.tc : Thread nD τ).loc main_arg1)) (ix1 d)) (fun d j => (m ((c.tc : Thread nD τ).loc main_arg2)) (ix2 d j)) (fun l => (m ((c.tc : Thread nD τ).loc main_arg3)) (ix1 l)) b t l := by
  rw [res_f, rF_at, rZ_at, FoxSpec.f]
  simp only [proj_at]

end Cert.FoxRefIdeal.Value
-- ==== Proof.FoxClaim.lean ====
module

public import proofs.«01_k».proof.Proof.FoxK
public import proofs.«01_k».proof.Proof.FoxRefValue
public import Idealize.ShloMosaic.Lib.Claim

@[expose] public section

set_option maxRecDepth 16384
set_option maxHeartbeats 2000000

noncomputable section

namespace Cert.FoxClaim

open Idealize.ShloMosaic Idealize.SL.Sem

theorem frame_ref : Cert.quiescent_FoxRefIdeal := fun m g _ =>
  (θ_run Cert.FoxRefIdeal.defs _ _).mono (fun r h => ⟨fun c => (h c).2.2.2.2.2.2, sem_eq_zero_of_no_sems (by decide) r.2⟩)
    (Cert.FoxRefIdeal.Value.run (F := Ideal) m g)

theorem algebraic : Cert.algebraic_FoxIdeal_FoxRefIdeal := by
  pair_intro
  · run_from Cert.FoxIdeal.Value.run_blocks m g
  · run_from Cert.FoxRefIdeal.Value.run m' g'
    all_goals obtain ⟨e0, e1, e2, e3, e4, e5⟩ := hagree c
    · rw [Cert.FoxIdeal.Value.val9 m c]
      funext j
      rw [show j = ix3 (j 0) (j 1) (j 2) from eq_ix3 j]
      rw [← e0, ← e1, ← e2, ← e4]
      exact Cert.FoxRefIdeal.Value.q_at _ _ _ _ _ _ _
    · rw [Cert.FoxIdeal.Value.val10 m c]
      funext j
      rw [show j = ix3 (j 0) (j 1) (j 2) from eq_ix3 j]
      rw [← e0, ← e1, ← e2, ← e5]
      exact Cert.FoxRefIdeal.Value.k_at _ _ _ _ _ _ _
    · rw [Cert.FoxIdeal.Value.val11 m c]
      funext j
      rw [show j = ix3 (j 0) (j 1) (j 2) from eq_ix3 j]
      rw [← e0, ← e1, ← e2, ← e5]
      exact Cert.FoxRefIdeal.Value.k_at _ _ _ _ _ _ _
    · rw [Cert.FoxIdeal.Value.val12 m c]
      funext j
      rw [show j = ix3 (j 0) (j 1) (j 2) from eq_ix3 j]
      rw [← e0, ← e1, ← e2]
      exact Cert.FoxRefIdeal.Value.v_at _ _ _ _ _ _
    · rw [Cert.FoxIdeal.Value.val13 m c]
      funext j
      rw [show j = ix3 (j 0) (j 1) (j 2) from eq_ix3 j]
      rw [← e0, ← e1, ← e2]
      exact Cert.FoxRefIdeal.Value.v_at _ _ _ _ _ _
    · rw [Cert.FoxIdeal.Value.val14 m c]
      funext j
      rw [show j = ix3 (j 0) (j 1) (j 2) from eq_ix3 j]
      rw [← e0, ← e1, ← e2, ← e3]
      exact Cert.FoxRefIdeal.Value.f_at m' c _ _ _

end Cert.FoxClaim
-- ==== Proof.lean ====
module

public import proofs.«01_k».proof.Defs
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.SguIdeal.Value
public import proofs.«01_k».proof.Proof.Gen.SguRefIdeal.Run
public import proofs.«01_k».proof.Proof.SguClaim
public import proofs.«01_k».proof.Proof.FfnClaim
public import proofs.«01_k».proof.Proof.DqkvClaim
public import proofs.«01_k».proof.Proof.MixClaim
public import proofs.«01_k».proof.Proof.FoxClaim
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Dqkv
public import proofs.«01_k».proof.Proof.Gen.Dqkv.Skeleton
public import proofs.«01_k».proof.Proof.Gen.Dqkv.Launch
public import proofs.«01_k».proof.Proof.Gen.Dqkv.Points
public import proofs.«01_k».proof.Proof.Gen.Dqkv.Frame
public import proofs.«01_k».proof.Proof.Gen.DqkvIdeal
public import proofs.«01_k».proof.Proof.Gen.DqkvIdeal.Skeleton
public import proofs.«01_k».proof.Proof.Gen.DqkvIdeal.Launch
public import proofs.«01_k».proof.Proof.Gen.DqkvIdeal.Points
public import proofs.«01_k».proof.Proof.Gen.DqkvIdeal.Frame
public import proofs.«01_k».proof.Proof.Gen.DqkvRefIdeal
public import proofs.«01_k».proof.Proof.Gen.DqkvIdeal.Value
public import proofs.«01_k».proof.Proof.Gen.DqkvRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxIdeal.Value
public import proofs.«01_k».proof.Proof.Gen.FoxRefIdeal.Run
public import Idealize.ShloMosaic.Adequacy
public import Idealize.ShloMosaic.Init

@[expose] public section

noncomputable section

namespace Cert.Proof

open Idealize.ShloMosaic Idealize.SL.Sem Cert.Sgu

theorem claim : Cert.Claim := ⟨Cert.Sgu.Gen.facts, Cert.SguIdeal.Gen.facts, Cert.SguRefIdeal.Gen.facts,
  Cert.Ffn.Gen.facts, Cert.FfnIdeal.Gen.facts, Cert.FfnRefIdeal.Gen.facts,
  Cert.Dqkv.Gen.facts, Cert.DqkvIdeal.Gen.facts, Cert.DqkvRefIdeal.Gen.facts,
  Cert.Mix.Gen.facts, Cert.MixIdeal.Gen.facts, Cert.MixRefIdeal.Gen.facts,
  Cert.Fox.Gen.facts, Cert.FoxIdeal.Gen.facts, Cert.FoxRefIdeal.Gen.facts,
  fun m ρ _ => Cert.Sgu.Gen.frame m ρ, fun m ρ _ => Cert.SguIdeal.Gen.frame m ρ, SguClaim.frame_ref,
  fun m ρ _ => Cert.Ffn.Gen.frame m ρ, fun m ρ _ => Cert.FfnIdeal.Gen.frame m ρ, FfnClaim.frame_ref,
  fun m ρ _ => Cert.Dqkv.Gen.frame m ρ, fun m ρ _ => Cert.DqkvIdeal.Gen.frame m ρ, DqkvClaim.frame_ref,
  fun m ρ _ => Cert.Mix.Gen.frame m ρ, fun m ρ _ => Cert.MixIdeal.Gen.frame m ρ, MixClaim.frame_ref,
  fun m ρ _ => Cert.Fox.Gen.frame m ρ, fun m ρ _ => Cert.FoxIdeal.Gen.frame m ρ, FoxClaim.frame_ref,
  trivial, SguClaim.algebraic, trivial, FfnClaim.algebraic, trivial, DqkvClaim.algebraic, trivial, MixClaim.algebraic, trivial, FoxClaim.algebraic⟩

end Cert.Proof

end
